-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelScan (m : (ℓ : Loc Cert.KernelScan.nD Cert.KernelScan.τ Cert.KernelScan.sig) → Buf (Elt Bits) ℓ) : Prop :=
  True

def Pre_KernelScanIdeal (m : (ℓ : Loc Cert.KernelScanIdeal.nD Cert.KernelScanIdeal.τ Cert.KernelScanIdeal.sig) → Buf (Elt Ideal) ℓ) : Prop :=
  True

def Pre_KernelScanIdeal_scan_finite [hPre_scan_finite : Cert.Pre_scan_finite.Facts] (m : (ℓ : Loc Cert.KernelScanIdeal.nD Cert.KernelScanIdeal.τ Cert.KernelScanIdeal.sig) → Buf (Elt Ideal) ℓ) : Prop :=
  ∀ c : Dev Cert.KernelScanIdeal.nD,
    (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (m ((c.tc : Thread Cert.KernelScanIdeal.nD Cert.KernelScanIdeal.τ).loc Cert.KernelScanIdeal.main_arg9)) (m ((c.tc : Thread Cert.KernelScanIdeal.nD Cert.KernelScanIdeal.τ).loc Cert.KernelScanIdeal.main_arg10)) (m ((c.tc : Thread Cert.KernelScanIdeal.nD Cert.KernelScanIdeal.τ).loc Cert.KernelScanIdeal.main_arg11)) (m ((c.tc : Thread Cert.KernelScanIdeal.nD Cert.KernelScanIdeal.τ).loc Cert.KernelScanIdeal.main_arg12))).1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (m ((c.tc : Thread Cert.KernelScanIdeal.nD Cert.KernelScanIdeal.τ).loc Cert.KernelScanIdeal.main_arg9)) (m ((c.tc : Thread Cert.KernelScanIdeal.nD Cert.KernelScanIdeal.τ).loc Cert.KernelScanIdeal.main_arg10)) (m ((c.tc : Thread Cert.KernelScanIdeal.nD Cert.KernelScanIdeal.τ).loc Cert.KernelScanIdeal.main_arg11)) (m ((c.tc : Thread Cert.KernelScanIdeal.nD Cert.KernelScanIdeal.τ).loc Cert.KernelScanIdeal.main_arg12))).2.1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (m ((c.tc : Thread Cert.KernelScanIdeal.nD Cert.KernelScanIdeal.τ).loc Cert.KernelScanIdeal.main_arg9)) (m ((c.tc : Thread Cert.KernelScanIdeal.nD Cert.KernelScanIdeal.τ).loc Cert.KernelScanIdeal.main_arg10)) (m ((c.tc : Thread Cert.KernelScanIdeal.nD Cert.KernelScanIdeal.τ).loc Cert.KernelScanIdeal.main_arg11)) (m ((c.tc : Thread Cert.KernelScanIdeal.nD Cert.KernelScanIdeal.τ).loc Cert.KernelScanIdeal.main_arg12))).2.2.1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (m ((c.tc : Thread Cert.KernelScanIdeal.nD Cert.KernelScanIdeal.τ).loc Cert.KernelScanIdeal.main_arg9)) (m ((c.tc : Thread Cert.KernelScanIdeal.nD Cert.KernelScanIdeal.τ).loc Cert.KernelScanIdeal.main_arg10)) (m ((c.tc : Thread Cert.KernelScanIdeal.nD Cert.KernelScanIdeal.τ).loc Cert.KernelScanIdeal.main_arg11)) (m ((c.tc : Thread Cert.KernelScanIdeal.nD Cert.KernelScanIdeal.τ).loc Cert.KernelScanIdeal.main_arg12))).2.2.2.1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (m ((c.tc : Thread Cert.KernelScanIdeal.nD Cert.KernelScanIdeal.τ).loc Cert.KernelScanIdeal.main_arg9)) (m ((c.tc : Thread Cert.KernelScanIdeal.nD Cert.KernelScanIdeal.τ).loc Cert.KernelScanIdeal.main_arg10)) (m ((c.tc : Thread Cert.KernelScanIdeal.nD Cert.KernelScanIdeal.τ).loc Cert.KernelScanIdeal.main_arg11)) (m ((c.tc : Thread Cert.KernelScanIdeal.nD Cert.KernelScanIdeal.τ).loc Cert.KernelScanIdeal.main_arg12))).2.2.2.2.1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (m ((c.tc : Thread Cert.KernelScanIdeal.nD Cert.KernelScanIdeal.τ).loc Cert.KernelScanIdeal.main_arg9)) (m ((c.tc : Thread Cert.KernelScanIdeal.nD Cert.KernelScanIdeal.τ).loc Cert.KernelScanIdeal.main_arg10)) (m ((c.tc : Thread Cert.KernelScanIdeal.nD Cert.KernelScanIdeal.τ).loc Cert.KernelScanIdeal.main_arg11)) (m ((c.tc : Thread Cert.KernelScanIdeal.nD Cert.KernelScanIdeal.τ).loc Cert.KernelScanIdeal.main_arg12))).2.2.2.2.2.1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (m ((c.tc : Thread Cert.KernelScanIdeal.nD Cert.KernelScanIdeal.τ).loc Cert.KernelScanIdeal.main_arg9)) (m ((c.tc : Thread Cert.KernelScanIdeal.nD Cert.KernelScanIdeal.τ).loc Cert.KernelScanIdeal.main_arg10)) (m ((c.tc : Thread Cert.KernelScanIdeal.nD Cert.KernelScanIdeal.τ).loc Cert.KernelScanIdeal.main_arg11)) (m ((c.tc : Thread Cert.KernelScanIdeal.nD Cert.KernelScanIdeal.τ).loc Cert.KernelScanIdeal.main_arg12))).2.2.2.2.2.2.1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (m ((c.tc : Thread Cert.KernelScanIdeal.nD Cert.KernelScanIdeal.τ).loc Cert.KernelScanIdeal.main_arg9)) (m ((c.tc : Thread Cert.KernelScanIdeal.nD Cert.KernelScanIdeal.τ).loc Cert.KernelScanIdeal.main_arg10)) (m ((c.tc : Thread Cert.KernelScanIdeal.nD Cert.KernelScanIdeal.τ).loc Cert.KernelScanIdeal.main_arg11)) (m ((c.tc : Thread Cert.KernelScanIdeal.nD Cert.KernelScanIdeal.τ).loc Cert.KernelScanIdeal.main_arg12))).2.2.2.2.2.2.2.1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (m ((c.tc : Thread Cert.KernelScanIdeal.nD Cert.KernelScanIdeal.τ).loc Cert.KernelScanIdeal.main_arg9)) (m ((c.tc : Thread Cert.KernelScanIdeal.nD Cert.KernelScanIdeal.τ).loc Cert.KernelScanIdeal.main_arg10)) (m ((c.tc : Thread Cert.KernelScanIdeal.nD Cert.KernelScanIdeal.τ).loc Cert.KernelScanIdeal.main_arg11)) (m ((c.tc : Thread Cert.KernelScanIdeal.nD Cert.KernelScanIdeal.τ).loc Cert.KernelScanIdeal.main_arg12))).2.2.2.2.2.2.2.2.1 = (fun _ => 1#1)
    ∧ (Cert.Pre_scan_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (m ((c.tc : Thread Cert.KernelScanIdeal.nD Cert.KernelScanIdeal.τ).loc Cert.KernelScanIdeal.main_arg9)) (m ((c.tc : Thread Cert.KernelScanIdeal.nD Cert.KernelScanIdeal.τ).loc Cert.KernelScanIdeal.main_arg10)) (m ((c.tc : Thread Cert.KernelScanIdeal.nD Cert.KernelScanIdeal.τ).loc Cert.KernelScanIdeal.main_arg11)) (m ((c.tc : Thread Cert.KernelScanIdeal.nD Cert.KernelScanIdeal.τ).loc Cert.KernelScanIdeal.main_arg12))).2.2.2.2.2.2.2.2.2 = (fun _ => 1#1)

def Pre_ReferenceScanIdeal (m : (ℓ : Loc Cert.ReferenceScanIdeal.nD Cert.ReferenceScanIdeal.τ Cert.ReferenceScanIdeal.sig) → Buf (Elt Ideal) ℓ) : Prop :=
  True

def Pre_ReferenceScanIdeal_scan_finite [hPre_scan_finite : Cert.Pre_scan_finite.Facts] (m : (ℓ : Loc Cert.ReferenceScanIdeal.nD Cert.ReferenceScanIdeal.τ Cert.ReferenceScanIdeal.sig) → Buf (Elt Ideal) ℓ) : Prop :=
  ∀ c : Dev Cert.ReferenceScanIdeal.nD,
    (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8)) (m ((c.tc : Thread Cert.ReferenceScanIdeal.nD Cert.ReferenceScanIdeal.τ).loc Cert.ReferenceScanIdeal.main_arg9)) (m ((c.tc : Thread Cert.ReferenceScanIdeal.nD Cert.ReferenceScanIdeal.τ).loc Cert.ReferenceScanIdeal.main_arg10)) (m ((c.tc : Thread Cert.ReferenceScanIdeal.nD Cert.ReferenceScanIdeal.τ).loc Cert.ReferenceScanIdeal.main_arg11)) (m ((c.tc : Thread Cert.ReferenceScanIdeal.nD Cert.ReferenceScanIdeal.τ).loc Cert.ReferenceScanIdeal.main_arg12))).1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8)) (m ((c.tc : Thread Cert.ReferenceScanIdeal.nD Cert.ReferenceScanIdeal.τ).loc Cert.ReferenceScanIdeal.main_arg9)) (m ((c.tc : Thread Cert.ReferenceScanIdeal.nD Cert.ReferenceScanIdeal.τ).loc Cert.ReferenceScanIdeal.main_arg10)) (m ((c.tc : Thread Cert.ReferenceScanIdeal.nD Cert.ReferenceScanIdeal.τ).loc Cert.ReferenceScanIdeal.main_arg11)) (m ((c.tc : Thread Cert.ReferenceScanIdeal.nD Cert.ReferenceScanIdeal.τ).loc Cert.ReferenceScanIdeal.main_arg12))).2.1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8)) (m ((c.tc : Thread Cert.ReferenceScanIdeal.nD Cert.ReferenceScanIdeal.τ).loc Cert.ReferenceScanIdeal.main_arg9)) (m ((c.tc : Thread Cert.ReferenceScanIdeal.nD Cert.ReferenceScanIdeal.τ).loc Cert.ReferenceScanIdeal.main_arg10)) (m ((c.tc : Thread Cert.ReferenceScanIdeal.nD Cert.ReferenceScanIdeal.τ).loc Cert.ReferenceScanIdeal.main_arg11)) (m ((c.tc : Thread Cert.ReferenceScanIdeal.nD Cert.ReferenceScanIdeal.τ).loc Cert.ReferenceScanIdeal.main_arg12))).2.2.1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8)) (m ((c.tc : Thread Cert.ReferenceScanIdeal.nD Cert.ReferenceScanIdeal.τ).loc Cert.ReferenceScanIdeal.main_arg9)) (m ((c.tc : Thread Cert.ReferenceScanIdeal.nD Cert.ReferenceScanIdeal.τ).loc Cert.ReferenceScanIdeal.main_arg10)) (m ((c.tc : Thread Cert.ReferenceScanIdeal.nD Cert.ReferenceScanIdeal.τ).loc Cert.ReferenceScanIdeal.main_arg11)) (m ((c.tc : Thread Cert.ReferenceScanIdeal.nD Cert.ReferenceScanIdeal.τ).loc Cert.ReferenceScanIdeal.main_arg12))).2.2.2.1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8)) (m ((c.tc : Thread Cert.ReferenceScanIdeal.nD Cert.ReferenceScanIdeal.τ).loc Cert.ReferenceScanIdeal.main_arg9)) (m ((c.tc : Thread Cert.ReferenceScanIdeal.nD Cert.ReferenceScanIdeal.τ).loc Cert.ReferenceScanIdeal.main_arg10)) (m ((c.tc : Thread Cert.ReferenceScanIdeal.nD Cert.ReferenceScanIdeal.τ).loc Cert.ReferenceScanIdeal.main_arg11)) (m ((c.tc : Thread Cert.ReferenceScanIdeal.nD Cert.ReferenceScanIdeal.τ).loc Cert.ReferenceScanIdeal.main_arg12))).2.2.2.2.1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8)) (m ((c.tc : Thread Cert.ReferenceScanIdeal.nD Cert.ReferenceScanIdeal.τ).loc Cert.ReferenceScanIdeal.main_arg9)) (m ((c.tc : Thread Cert.ReferenceScanIdeal.nD Cert.ReferenceScanIdeal.τ).loc Cert.ReferenceScanIdeal.main_arg10)) (m ((c.tc : Thread Cert.ReferenceScanIdeal.nD Cert.ReferenceScanIdeal.τ).loc Cert.ReferenceScanIdeal.main_arg11)) (m ((c.tc : Thread Cert.ReferenceScanIdeal.nD Cert.ReferenceScanIdeal.τ).loc Cert.ReferenceScanIdeal.main_arg12))).2.2.2.2.2.1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8)) (m ((c.tc : Thread Cert.ReferenceScanIdeal.nD Cert.ReferenceScanIdeal.τ).loc Cert.ReferenceScanIdeal.main_arg9)) (m ((c.tc : Thread Cert.ReferenceScanIdeal.nD Cert.ReferenceScanIdeal.τ).loc Cert.ReferenceScanIdeal.main_arg10)) (m ((c.tc : Thread Cert.ReferenceScanIdeal.nD Cert.ReferenceScanIdeal.τ).loc Cert.ReferenceScanIdeal.main_arg11)) (m ((c.tc : Thread Cert.ReferenceScanIdeal.nD Cert.ReferenceScanIdeal.τ).loc Cert.ReferenceScanIdeal.main_arg12))).2.2.2.2.2.2.1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8)) (m ((c.tc : Thread Cert.ReferenceScanIdeal.nD Cert.ReferenceScanIdeal.τ).loc Cert.ReferenceScanIdeal.main_arg9)) (m ((c.tc : Thread Cert.ReferenceScanIdeal.nD Cert.ReferenceScanIdeal.τ).loc Cert.ReferenceScanIdeal.main_arg10)) (m ((c.tc : Thread Cert.ReferenceScanIdeal.nD Cert.ReferenceScanIdeal.τ).loc Cert.ReferenceScanIdeal.main_arg11)) (m ((c.tc : Thread Cert.ReferenceScanIdeal.nD Cert.ReferenceScanIdeal.τ).loc Cert.ReferenceScanIdeal.main_arg12))).2.2.2.2.2.2.2.1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8)) (m ((c.tc : Thread Cert.ReferenceScanIdeal.nD Cert.ReferenceScanIdeal.τ).loc Cert.ReferenceScanIdeal.main_arg9)) (m ((c.tc : Thread Cert.ReferenceScanIdeal.nD Cert.ReferenceScanIdeal.τ).loc Cert.ReferenceScanIdeal.main_arg10)) (m ((c.tc : Thread Cert.ReferenceScanIdeal.nD Cert.ReferenceScanIdeal.τ).loc Cert.ReferenceScanIdeal.main_arg11)) (m ((c.tc : Thread Cert.ReferenceScanIdeal.nD Cert.ReferenceScanIdeal.τ).loc Cert.ReferenceScanIdeal.main_arg12))).2.2.2.2.2.2.2.2.1 = (fun _ => 1#1)
    ∧ (Cert.Pre_scan_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8)) (m ((c.tc : Thread Cert.ReferenceScanIdeal.nD Cert.ReferenceScanIdeal.τ).loc Cert.ReferenceScanIdeal.main_arg9)) (m ((c.tc : Thread Cert.ReferenceScanIdeal.nD Cert.ReferenceScanIdeal.τ).loc Cert.ReferenceScanIdeal.main_arg10)) (m ((c.tc : Thread Cert.ReferenceScanIdeal.nD Cert.ReferenceScanIdeal.τ).loc Cert.ReferenceScanIdeal.main_arg11)) (m ((c.tc : Thread Cert.ReferenceScanIdeal.nD Cert.ReferenceScanIdeal.τ).loc Cert.ReferenceScanIdeal.main_arg12))).2.2.2.2.2.2.2.2.2 = (fun _ => 1#1)

def Pre_KernelShift (m : (ℓ : Loc Cert.KernelShift.nD Cert.KernelShift.τ Cert.KernelShift.sig) → Buf (Elt Bits) ℓ) : Prop :=
  True

def Pre_KernelShiftIdeal (m : (ℓ : Loc Cert.KernelShiftIdeal.nD Cert.KernelShiftIdeal.τ Cert.KernelShiftIdeal.sig) → Buf (Elt Ideal) ℓ) : Prop :=
  True

def Pre_ReferenceShiftIdeal (m : (ℓ : Loc Cert.ReferenceShiftIdeal.nD Cert.ReferenceShiftIdeal.τ Cert.ReferenceShiftIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_KernelScan [hKernelScan : Cert.KernelScan.Facts] : Prop :=
  ∀ (m : (ℓ : Loc Cert.KernelScan.nD Cert.KernelScan.τ Cert.KernelScan.sig) → Buf (Elt Bits) ℓ) (g : Dev Cert.KernelScan.nD → PrngReg), Pre_KernelScan m →
    θ_run (Cert.KernelScan.defs (F := Bits)) (onTc (τ := Cert.KernelScan.τ) (Cert.KernelScan.main (F := Bits))) ⟨m, fun _ => 0, g⟩ (fun r => (∀ c : Dev Cert.KernelScan.nD,
      r.2.mem ((c.tc : Thread Cert.KernelScan.nD Cert.KernelScan.τ).loc Cert.KernelScan.main_arg0) = m ((c.tc : Thread Cert.KernelScan.nD Cert.KernelScan.τ).loc Cert.KernelScan.main_arg0)
      ∧ r.2.mem ((c.tc : Thread Cert.KernelScan.nD Cert.KernelScan.τ).loc Cert.KernelScan.main_arg1) = m ((c.tc : Thread Cert.KernelScan.nD Cert.KernelScan.τ).loc Cert.KernelScan.main_arg1)
      ∧ r.2.mem ((c.tc : Thread Cert.KernelScan.nD Cert.KernelScan.τ).loc Cert.KernelScan.main_arg2) = m ((c.tc : Thread Cert.KernelScan.nD Cert.KernelScan.τ).loc Cert.KernelScan.main_arg2)
      ∧ r.2.mem ((c.tc : Thread Cert.KernelScan.nD Cert.KernelScan.τ).loc Cert.KernelScan.main_arg3) = m ((c.tc : Thread Cert.KernelScan.nD Cert.KernelScan.τ).loc Cert.KernelScan.main_arg3)
      ∧ r.2.mem ((c.tc : Thread Cert.KernelScan.nD Cert.KernelScan.τ).loc Cert.KernelScan.main_arg4) = m ((c.tc : Thread Cert.KernelScan.nD Cert.KernelScan.τ).loc Cert.KernelScan.main_arg4)
      ∧ r.2.mem ((c.tc : Thread Cert.KernelScan.nD Cert.KernelScan.τ).loc Cert.KernelScan.main_arg5) = m ((c.tc : Thread Cert.KernelScan.nD Cert.KernelScan.τ).loc Cert.KernelScan.main_arg5)
      ∧ r.2.mem ((c.tc : Thread Cert.KernelScan.nD Cert.KernelScan.τ).loc Cert.KernelScan.main_arg6) = m ((c.tc : Thread Cert.KernelScan.nD Cert.KernelScan.τ).loc Cert.KernelScan.main_arg6)
      ∧ r.2.mem ((c.tc : Thread Cert.KernelScan.nD Cert.KernelScan.τ).loc Cert.KernelScan.main_arg7) = m ((c.tc : Thread Cert.KernelScan.nD Cert.KernelScan.τ).loc Cert.KernelScan.main_arg7)
      ∧ r.2.mem ((c.tc : Thread Cert.KernelScan.nD Cert.KernelScan.τ).loc Cert.KernelScan.main_arg8) = m ((c.tc : Thread Cert.KernelScan.nD Cert.KernelScan.τ).loc Cert.KernelScan.main_arg8)
      ∧ r.2.mem ((c.tc : Thread Cert.KernelScan.nD Cert.KernelScan.τ).loc Cert.KernelScan.main_arg9) = m ((c.tc : Thread Cert.KernelScan.nD Cert.KernelScan.τ).loc Cert.KernelScan.main_arg9)
      ∧ r.2.mem ((c.tc : Thread Cert.KernelScan.nD Cert.KernelScan.τ).loc Cert.KernelScan.main_arg10) = m ((c.tc : Thread Cert.KernelScan.nD Cert.KernelScan.τ).loc Cert.KernelScan.main_arg10)
      ∧ r.2.mem ((c.tc : Thread Cert.KernelScan.nD Cert.KernelScan.τ).loc Cert.KernelScan.main_arg11) = m ((c.tc : Thread Cert.KernelScan.nD Cert.KernelScan.τ).loc Cert.KernelScan.main_arg11)
      ∧ r.2.mem ((c.tc : Thread Cert.KernelScan.nD Cert.KernelScan.τ).loc Cert.KernelScan.main_arg12) = m ((c.tc : Thread Cert.KernelScan.nD Cert.KernelScan.τ).loc Cert.KernelScan.main_arg12))
      ∧ r.2.sem = fun _ => 0)

def quiescent_KernelScanIdeal [hKernelScanIdeal : Cert.KernelScanIdeal.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
      ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
      ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
      ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
      ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5)
      ∧ r.2.mem ((c.tc : Thread Cert.KernelScanIdeal.nD Cert.KernelScanIdeal.τ).loc Cert.KernelScanIdeal.main_arg6) = m ((c.tc : Thread Cert.KernelScanIdeal.nD Cert.KernelScanIdeal.τ).loc Cert.KernelScanIdeal.main_arg6)
      ∧ r.2.mem ((c.tc : Thread Cert.KernelScanIdeal.nD Cert.KernelScanIdeal.τ).loc Cert.KernelScanIdeal.main_arg7) = m ((c.tc : Thread Cert.KernelScanIdeal.nD Cert.KernelScanIdeal.τ).loc Cert.KernelScanIdeal.main_arg7)
      ∧ r.2.mem ((c.tc : Thread Cert.KernelScanIdeal.nD Cert.KernelScanIdeal.τ).loc Cert.KernelScanIdeal.main_arg8) = m ((c.tc : Thread Cert.KernelScanIdeal.nD Cert.KernelScanIdeal.τ).loc Cert.KernelScanIdeal.main_arg8)
      ∧ r.2.mem ((c.tc : Thread Cert.KernelScanIdeal.nD Cert.KernelScanIdeal.τ).loc Cert.KernelScanIdeal.main_arg9) = m ((c.tc : Thread Cert.KernelScanIdeal.nD Cert.KernelScanIdeal.τ).loc Cert.KernelScanIdeal.main_arg9)
      ∧ r.2.mem ((c.tc : Thread Cert.KernelScanIdeal.nD Cert.KernelScanIdeal.τ).loc Cert.KernelScanIdeal.main_arg10) = m ((c.tc : Thread Cert.KernelScanIdeal.nD Cert.KernelScanIdeal.τ).loc Cert.KernelScanIdeal.main_arg10)
      ∧ r.2.mem ((c.tc : Thread Cert.KernelScanIdeal.nD Cert.KernelScanIdeal.τ).loc Cert.KernelScanIdeal.main_arg11) = m ((c.tc : Thread Cert.KernelScanIdeal.nD Cert.KernelScanIdeal.τ).loc Cert.KernelScanIdeal.main_arg11)
      ∧ r.2.mem ((c.tc : Thread Cert.KernelScanIdeal.nD Cert.KernelScanIdeal.τ).loc Cert.KernelScanIdeal.main_arg12) = m ((c.tc : Thread Cert.KernelScanIdeal.nD Cert.KernelScanIdeal.τ).loc Cert.KernelScanIdeal.main_arg12))
      ∧ r.2.sem = fun _ => 0)

def quiescent_KernelScanIdeal_pre_scan_finite [hKernelScanIdeal : Cert.KernelScanIdeal.Facts] [hPre_scan_finite : Cert.Pre_scan_finite.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal_scan_finite m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
      ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
      ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
      ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
      ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5)
      ∧ r.2.mem ((c.tc : Thread Cert.KernelScanIdeal.nD Cert.KernelScanIdeal.τ).loc Cert.KernelScanIdeal.main_arg6) = m ((c.tc : Thread Cert.KernelScanIdeal.nD Cert.KernelScanIdeal.τ).loc Cert.KernelScanIdeal.main_arg6)
      ∧ r.2.mem ((c.tc : Thread Cert.KernelScanIdeal.nD Cert.KernelScanIdeal.τ).loc Cert.KernelScanIdeal.main_arg7) = m ((c.tc : Thread Cert.KernelScanIdeal.nD Cert.KernelScanIdeal.τ).loc Cert.KernelScanIdeal.main_arg7)
      ∧ r.2.mem ((c.tc : Thread Cert.KernelScanIdeal.nD Cert.KernelScanIdeal.τ).loc Cert.KernelScanIdeal.main_arg8) = m ((c.tc : Thread Cert.KernelScanIdeal.nD Cert.KernelScanIdeal.τ).loc Cert.KernelScanIdeal.main_arg8)
      ∧ r.2.mem ((c.tc : Thread Cert.KernelScanIdeal.nD Cert.KernelScanIdeal.τ).loc Cert.KernelScanIdeal.main_arg9) = m ((c.tc : Thread Cert.KernelScanIdeal.nD Cert.KernelScanIdeal.τ).loc Cert.KernelScanIdeal.main_arg9)
      ∧ r.2.mem ((c.tc : Thread Cert.KernelScanIdeal.nD Cert.KernelScanIdeal.τ).loc Cert.KernelScanIdeal.main_arg10) = m ((c.tc : Thread Cert.KernelScanIdeal.nD Cert.KernelScanIdeal.τ).loc Cert.KernelScanIdeal.main_arg10)
      ∧ r.2.mem ((c.tc : Thread Cert.KernelScanIdeal.nD Cert.KernelScanIdeal.τ).loc Cert.KernelScanIdeal.main_arg11) = m ((c.tc : Thread Cert.KernelScanIdeal.nD Cert.KernelScanIdeal.τ).loc Cert.KernelScanIdeal.main_arg11)
      ∧ r.2.mem ((c.tc : Thread Cert.KernelScanIdeal.nD Cert.KernelScanIdeal.τ).loc Cert.KernelScanIdeal.main_arg12) = m ((c.tc : Thread Cert.KernelScanIdeal.nD Cert.KernelScanIdeal.τ).loc Cert.KernelScanIdeal.main_arg12))
      ∧ r.2.sem = fun _ => 0)

def quiescent_ReferenceScanIdeal [hReferenceScanIdeal : Cert.ReferenceScanIdeal.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1)
      ∧ r.2.mem ((c.tc : Thread Cert.ReferenceScanIdeal.nD Cert.ReferenceScanIdeal.τ).loc Cert.ReferenceScanIdeal.main_arg2) = m ((c.tc : Thread Cert.ReferenceScanIdeal.nD Cert.ReferenceScanIdeal.τ).loc Cert.ReferenceScanIdeal.main_arg2)
      ∧ r.2.mem ((c.tc : Thread Cert.ReferenceScanIdeal.nD Cert.ReferenceScanIdeal.τ).loc Cert.ReferenceScanIdeal.main_arg3) = m ((c.tc : Thread Cert.ReferenceScanIdeal.nD Cert.ReferenceScanIdeal.τ).loc Cert.ReferenceScanIdeal.main_arg3)
      ∧ r.2.mem ((c.tc : Thread Cert.ReferenceScanIdeal.nD Cert.ReferenceScanIdeal.τ).loc Cert.ReferenceScanIdeal.main_arg4) = m ((c.tc : Thread Cert.ReferenceScanIdeal.nD Cert.ReferenceScanIdeal.τ).loc Cert.ReferenceScanIdeal.main_arg4)
      ∧ r.2.mem ((c.tc : Thread Cert.ReferenceScanIdeal.nD Cert.ReferenceScanIdeal.τ).loc Cert.ReferenceScanIdeal.main_arg5) = m ((c.tc : Thread Cert.ReferenceScanIdeal.nD Cert.ReferenceScanIdeal.τ).loc Cert.ReferenceScanIdeal.main_arg5)
      ∧ r.2.mem ((c.tc : Thread Cert.ReferenceScanIdeal.nD Cert.ReferenceScanIdeal.τ).loc Cert.ReferenceScanIdeal.main_arg6) = m ((c.tc : Thread Cert.ReferenceScanIdeal.nD Cert.ReferenceScanIdeal.τ).loc Cert.ReferenceScanIdeal.main_arg6)
      ∧ r.2.mem ((c.tc : Thread Cert.ReferenceScanIdeal.nD Cert.ReferenceScanIdeal.τ).loc Cert.ReferenceScanIdeal.main_arg7) = m ((c.tc : Thread Cert.ReferenceScanIdeal.nD Cert.ReferenceScanIdeal.τ).loc Cert.ReferenceScanIdeal.main_arg7)
      ∧ r.2.mem ((c.tc : Thread Cert.ReferenceScanIdeal.nD Cert.ReferenceScanIdeal.τ).loc Cert.ReferenceScanIdeal.main_arg8) = m ((c.tc : Thread Cert.ReferenceScanIdeal.nD Cert.ReferenceScanIdeal.τ).loc Cert.ReferenceScanIdeal.main_arg8)
      ∧ r.2.mem ((c.tc : Thread Cert.ReferenceScanIdeal.nD Cert.ReferenceScanIdeal.τ).loc Cert.ReferenceScanIdeal.main_arg9) = m ((c.tc : Thread Cert.ReferenceScanIdeal.nD Cert.ReferenceScanIdeal.τ).loc Cert.ReferenceScanIdeal.main_arg9)
      ∧ r.2.mem ((c.tc : Thread Cert.ReferenceScanIdeal.nD Cert.ReferenceScanIdeal.τ).loc Cert.ReferenceScanIdeal.main_arg10) = m ((c.tc : Thread Cert.ReferenceScanIdeal.nD Cert.ReferenceScanIdeal.τ).loc Cert.ReferenceScanIdeal.main_arg10)
      ∧ r.2.mem ((c.tc : Thread Cert.ReferenceScanIdeal.nD Cert.ReferenceScanIdeal.τ).loc Cert.ReferenceScanIdeal.main_arg11) = m ((c.tc : Thread Cert.ReferenceScanIdeal.nD Cert.ReferenceScanIdeal.τ).loc Cert.ReferenceScanIdeal.main_arg11)
      ∧ r.2.mem ((c.tc : Thread Cert.ReferenceScanIdeal.nD Cert.ReferenceScanIdeal.τ).loc Cert.ReferenceScanIdeal.main_arg12) = m ((c.tc : Thread Cert.ReferenceScanIdeal.nD Cert.ReferenceScanIdeal.τ).loc Cert.ReferenceScanIdeal.main_arg12))
      ∧ r.2.sem = fun _ => 0)

def quiescent_ReferenceScanIdeal_pre_scan_finite [hReferenceScanIdeal : Cert.ReferenceScanIdeal.Facts] [hPre_scan_finite : Cert.Pre_scan_finite.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal_scan_finite m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1)
      ∧ r.2.mem ((c.tc : Thread Cert.ReferenceScanIdeal.nD Cert.ReferenceScanIdeal.τ).loc Cert.ReferenceScanIdeal.main_arg2) = m ((c.tc : Thread Cert.ReferenceScanIdeal.nD Cert.ReferenceScanIdeal.τ).loc Cert.ReferenceScanIdeal.main_arg2)
      ∧ r.2.mem ((c.tc : Thread Cert.ReferenceScanIdeal.nD Cert.ReferenceScanIdeal.τ).loc Cert.ReferenceScanIdeal.main_arg3) = m ((c.tc : Thread Cert.ReferenceScanIdeal.nD Cert.ReferenceScanIdeal.τ).loc Cert.ReferenceScanIdeal.main_arg3)
      ∧ r.2.mem ((c.tc : Thread Cert.ReferenceScanIdeal.nD Cert.ReferenceScanIdeal.τ).loc Cert.ReferenceScanIdeal.main_arg4) = m ((c.tc : Thread Cert.ReferenceScanIdeal.nD Cert.ReferenceScanIdeal.τ).loc Cert.ReferenceScanIdeal.main_arg4)
      ∧ r.2.mem ((c.tc : Thread Cert.ReferenceScanIdeal.nD Cert.ReferenceScanIdeal.τ).loc Cert.ReferenceScanIdeal.main_arg5) = m ((c.tc : Thread Cert.ReferenceScanIdeal.nD Cert.ReferenceScanIdeal.τ).loc Cert.ReferenceScanIdeal.main_arg5)
      ∧ r.2.mem ((c.tc : Thread Cert.ReferenceScanIdeal.nD Cert.ReferenceScanIdeal.τ).loc Cert.ReferenceScanIdeal.main_arg6) = m ((c.tc : Thread Cert.ReferenceScanIdeal.nD Cert.ReferenceScanIdeal.τ).loc Cert.ReferenceScanIdeal.main_arg6)
      ∧ r.2.mem ((c.tc : Thread Cert.ReferenceScanIdeal.nD Cert.ReferenceScanIdeal.τ).loc Cert.ReferenceScanIdeal.main_arg7) = m ((c.tc : Thread Cert.ReferenceScanIdeal.nD Cert.ReferenceScanIdeal.τ).loc Cert.ReferenceScanIdeal.main_arg7)
      ∧ r.2.mem ((c.tc : Thread Cert.ReferenceScanIdeal.nD Cert.ReferenceScanIdeal.τ).loc Cert.ReferenceScanIdeal.main_arg8) = m ((c.tc : Thread Cert.ReferenceScanIdeal.nD Cert.ReferenceScanIdeal.τ).loc Cert.ReferenceScanIdeal.main_arg8)
      ∧ r.2.mem ((c.tc : Thread Cert.ReferenceScanIdeal.nD Cert.ReferenceScanIdeal.τ).loc Cert.ReferenceScanIdeal.main_arg9) = m ((c.tc : Thread Cert.ReferenceScanIdeal.nD Cert.ReferenceScanIdeal.τ).loc Cert.ReferenceScanIdeal.main_arg9)
      ∧ r.2.mem ((c.tc : Thread Cert.ReferenceScanIdeal.nD Cert.ReferenceScanIdeal.τ).loc Cert.ReferenceScanIdeal.main_arg10) = m ((c.tc : Thread Cert.ReferenceScanIdeal.nD Cert.ReferenceScanIdeal.τ).loc Cert.ReferenceScanIdeal.main_arg10)
      ∧ r.2.mem ((c.tc : Thread Cert.ReferenceScanIdeal.nD Cert.ReferenceScanIdeal.τ).loc Cert.ReferenceScanIdeal.main_arg11) = m ((c.tc : Thread Cert.ReferenceScanIdeal.nD Cert.ReferenceScanIdeal.τ).loc Cert.ReferenceScanIdeal.main_arg11)
      ∧ r.2.mem ((c.tc : Thread Cert.ReferenceScanIdeal.nD Cert.ReferenceScanIdeal.τ).loc Cert.ReferenceScanIdeal.main_arg12) = m ((c.tc : Thread Cert.ReferenceScanIdeal.nD Cert.ReferenceScanIdeal.τ).loc Cert.ReferenceScanIdeal.main_arg12))
      ∧ r.2.sem = fun _ => 0)

def quiescent_KernelShift [hKernelShift : Cert.KernelShift.Facts] : Prop :=
  ∀ (m : (ℓ : Loc Cert.KernelShift.nD Cert.KernelShift.τ Cert.KernelShift.sig) → Buf (Elt Bits) ℓ) (g : Dev Cert.KernelShift.nD → PrngReg), Pre_KernelShift m →
    θ_run (Cert.KernelShift.defs (F := Bits)) (onTc (τ := Cert.KernelShift.τ) (Cert.KernelShift.main (F := Bits))) ⟨m, fun _ => 0, g⟩ (fun r => (∀ c : Dev Cert.KernelShift.nD,
      r.2.mem ((c.tc : Thread Cert.KernelShift.nD Cert.KernelShift.τ).loc Cert.KernelShift.main_arg0) = m ((c.tc : Thread Cert.KernelShift.nD Cert.KernelShift.τ).loc Cert.KernelShift.main_arg0)
      ∧ r.2.mem ((c.tc : Thread Cert.KernelShift.nD Cert.KernelShift.τ).loc Cert.KernelShift.main_arg1) = m ((c.tc : Thread Cert.KernelShift.nD Cert.KernelShift.τ).loc Cert.KernelShift.main_arg1))
      ∧ r.2.sem = fun _ => 0)

def quiescent_KernelShiftIdeal [hKernelShiftIdeal : Cert.KernelShiftIdeal.Facts] : Prop :=
  ∀ (m : (ℓ : Loc Cert.KernelShiftIdeal.nD Cert.KernelShiftIdeal.τ Cert.KernelShiftIdeal.sig) → Buf (Elt Ideal) ℓ) (g : Dev Cert.KernelShiftIdeal.nD → PrngReg), Pre_KernelShiftIdeal m →
    θ_run (Cert.KernelShiftIdeal.defs (F := Ideal)) (onTc (τ := Cert.KernelShiftIdeal.τ) (Cert.KernelShiftIdeal.main (F := Ideal))) ⟨m, fun _ => 0, g⟩ (fun r => (∀ c : Dev Cert.KernelShiftIdeal.nD,
      r.2.mem ((c.tc : Thread Cert.KernelShiftIdeal.nD Cert.KernelShiftIdeal.τ).loc Cert.KernelShiftIdeal.main_arg0) = m ((c.tc : Thread Cert.KernelShiftIdeal.nD Cert.KernelShiftIdeal.τ).loc Cert.KernelShiftIdeal.main_arg0)
      ∧ r.2.mem ((c.tc : Thread Cert.KernelShiftIdeal.nD Cert.KernelShiftIdeal.τ).loc Cert.KernelShiftIdeal.main_arg1) = m ((c.tc : Thread Cert.KernelShiftIdeal.nD Cert.KernelShiftIdeal.τ).loc Cert.KernelShiftIdeal.main_arg1))
      ∧ r.2.sem = fun _ => 0)

def quiescent_ReferenceShiftIdeal [hReferenceShiftIdeal : Cert.ReferenceShiftIdeal.Facts] : Prop :=
  ∀ (m : (ℓ : Loc Cert.ReferenceShiftIdeal.nD Cert.ReferenceShiftIdeal.τ Cert.ReferenceShiftIdeal.sig) → Buf (Elt Ideal) ℓ) (g : Dev Cert.ReferenceShiftIdeal.nD → PrngReg), Pre_ReferenceShiftIdeal m →
    θ_run (Cert.ReferenceShiftIdeal.defs (F := Ideal)) (onTc (τ := Cert.ReferenceShiftIdeal.τ) (Cert.ReferenceShiftIdeal.main (F := Ideal))) ⟨m, fun _ => 0, g⟩ (fun r => (∀ c : Dev Cert.ReferenceShiftIdeal.nD,
      r.2.mem ((c.tc : Thread Cert.ReferenceShiftIdeal.nD Cert.ReferenceShiftIdeal.τ).loc Cert.ReferenceShiftIdeal.main_arg0) = m ((c.tc : Thread Cert.ReferenceShiftIdeal.nD Cert.ReferenceShiftIdeal.τ).loc Cert.ReferenceShiftIdeal.main_arg0)
      ∧ r.2.mem ((c.tc : Thread Cert.ReferenceShiftIdeal.nD Cert.ReferenceShiftIdeal.τ).loc Cert.ReferenceShiftIdeal.main_arg1) = m ((c.tc : Thread Cert.ReferenceShiftIdeal.nD Cert.ReferenceShiftIdeal.τ).loc Cert.ReferenceShiftIdeal.main_arg1))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v6)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v6) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v34) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v16)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v16) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v23) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)) →
    ∃ (v0 : (c : Dev Cert.KernelOutIdeal.nD) → Buf (Elt Ideal) ((c.tc : Thread Cert.KernelOutIdeal.nD Cert.KernelOutIdeal.τ).loc Cert.KernelOutIdeal.main_v12)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v12) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v18) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6))

def preserves_KernelScan_KernelScanIdeal : Prop :=
  True

def algebraic_KernelScanIdeal_ReferenceScanIdeal_pre_scan_finite [hKernelScanIdeal : Cert.KernelScanIdeal.Facts] [hReferenceScanIdeal : Cert.ReferenceScanIdeal.Facts] [hPre_scan_finite : Cert.Pre_scan_finite.Facts] : Prop :=
  ∀ (m : (ℓ : Loc Cert.KernelScanIdeal.nD Cert.KernelScanIdeal.τ Cert.KernelScanIdeal.sig) → Buf (Elt Ideal) ℓ) (g : Dev Cert.KernelScanIdeal.nD → PrngReg)
    (m' : (ℓ : Loc Cert.ReferenceScanIdeal.nD Cert.ReferenceScanIdeal.τ Cert.ReferenceScanIdeal.sig) → Buf (Elt Ideal) ℓ) (g' : Dev Cert.ReferenceScanIdeal.nD → PrngReg), Pre_KernelScanIdeal_scan_finite m →
    (∀ c : Dev Cert.KernelScanIdeal.nD,
      m' ((c.tc : Thread Cert.ReferenceScanIdeal.nD Cert.ReferenceScanIdeal.τ).loc Cert.ReferenceScanIdeal.main_arg0) = m ((c.tc : Thread Cert.KernelScanIdeal.nD Cert.KernelScanIdeal.τ).loc Cert.KernelScanIdeal.main_arg0)
      ∧ m' ((c.tc : Thread Cert.ReferenceScanIdeal.nD Cert.ReferenceScanIdeal.τ).loc Cert.ReferenceScanIdeal.main_arg1) = m ((c.tc : Thread Cert.KernelScanIdeal.nD Cert.KernelScanIdeal.τ).loc Cert.KernelScanIdeal.main_arg1)
      ∧ m' ((c.tc : Thread Cert.ReferenceScanIdeal.nD Cert.ReferenceScanIdeal.τ).loc Cert.ReferenceScanIdeal.main_arg2) = m ((c.tc : Thread Cert.KernelScanIdeal.nD Cert.KernelScanIdeal.τ).loc Cert.KernelScanIdeal.main_arg2)
      ∧ m' ((c.tc : Thread Cert.ReferenceScanIdeal.nD Cert.ReferenceScanIdeal.τ).loc Cert.ReferenceScanIdeal.main_arg3) = m ((c.tc : Thread Cert.KernelScanIdeal.nD Cert.KernelScanIdeal.τ).loc Cert.KernelScanIdeal.main_arg3)
      ∧ m' ((c.tc : Thread Cert.ReferenceScanIdeal.nD Cert.ReferenceScanIdeal.τ).loc Cert.ReferenceScanIdeal.main_arg4) = m ((c.tc : Thread Cert.KernelScanIdeal.nD Cert.KernelScanIdeal.τ).loc Cert.KernelScanIdeal.main_arg4)
      ∧ m' ((c.tc : Thread Cert.ReferenceScanIdeal.nD Cert.ReferenceScanIdeal.τ).loc Cert.ReferenceScanIdeal.main_arg5) = m ((c.tc : Thread Cert.KernelScanIdeal.nD Cert.KernelScanIdeal.τ).loc Cert.KernelScanIdeal.main_arg5)
      ∧ m' ((c.tc : Thread Cert.ReferenceScanIdeal.nD Cert.ReferenceScanIdeal.τ).loc Cert.ReferenceScanIdeal.main_arg6) = m ((c.tc : Thread Cert.KernelScanIdeal.nD Cert.KernelScanIdeal.τ).loc Cert.KernelScanIdeal.main_arg6)
      ∧ m' ((c.tc : Thread Cert.ReferenceScanIdeal.nD Cert.ReferenceScanIdeal.τ).loc Cert.ReferenceScanIdeal.main_arg7) = m ((c.tc : Thread Cert.KernelScanIdeal.nD Cert.KernelScanIdeal.τ).loc Cert.KernelScanIdeal.main_arg7)
      ∧ m' ((c.tc : Thread Cert.ReferenceScanIdeal.nD Cert.ReferenceScanIdeal.τ).loc Cert.ReferenceScanIdeal.main_arg8) = m ((c.tc : Thread Cert.KernelScanIdeal.nD Cert.KernelScanIdeal.τ).loc Cert.KernelScanIdeal.main_arg8)
      ∧ m' ((c.tc : Thread Cert.ReferenceScanIdeal.nD Cert.ReferenceScanIdeal.τ).loc Cert.ReferenceScanIdeal.main_arg9) = m ((c.tc : Thread Cert.KernelScanIdeal.nD Cert.KernelScanIdeal.τ).loc Cert.KernelScanIdeal.main_arg9)
      ∧ m' ((c.tc : Thread Cert.ReferenceScanIdeal.nD Cert.ReferenceScanIdeal.τ).loc Cert.ReferenceScanIdeal.main_arg10) = m ((c.tc : Thread Cert.KernelScanIdeal.nD Cert.KernelScanIdeal.τ).loc Cert.KernelScanIdeal.main_arg10)
      ∧ m' ((c.tc : Thread Cert.ReferenceScanIdeal.nD Cert.ReferenceScanIdeal.τ).loc Cert.ReferenceScanIdeal.main_arg11) = m ((c.tc : Thread Cert.KernelScanIdeal.nD Cert.KernelScanIdeal.τ).loc Cert.KernelScanIdeal.main_arg11)
      ∧ m' ((c.tc : Thread Cert.ReferenceScanIdeal.nD Cert.ReferenceScanIdeal.τ).loc Cert.ReferenceScanIdeal.main_arg12) = m ((c.tc : Thread Cert.KernelScanIdeal.nD Cert.KernelScanIdeal.τ).loc Cert.KernelScanIdeal.main_arg12)) →
    ∃ (v0 : (c : Dev Cert.KernelScanIdeal.nD) → Buf (Elt Ideal) ((c.tc : Thread Cert.KernelScanIdeal.nD Cert.KernelScanIdeal.τ).loc Cert.KernelScanIdeal.main_v161_0)) (v1 : (c : Dev Cert.KernelScanIdeal.nD) → Buf (Elt Ideal) ((c.tc : Thread Cert.KernelScanIdeal.nD Cert.KernelScanIdeal.τ).loc Cert.KernelScanIdeal.main_v161_1)),
      θ_run (Cert.KernelScanIdeal.defs (F := Ideal)) (onTc (τ := Cert.KernelScanIdeal.τ) (Cert.KernelScanIdeal.main (F := Ideal))) ⟨m, fun _ => 0, g⟩ (fun r => ∀ c : Dev Cert.KernelScanIdeal.nD,
          r.2.mem ((c.tc : Thread Cert.KernelScanIdeal.nD Cert.KernelScanIdeal.τ).loc Cert.KernelScanIdeal.main_v161_0) = v0 c
          ∧ r.2.mem ((c.tc : Thread Cert.KernelScanIdeal.nD Cert.KernelScanIdeal.τ).loc Cert.KernelScanIdeal.main_v161_1) = v1 c
          ∧ r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
          ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
          ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
          ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
          ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
          ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5)
          ∧ r.2.mem ((c.tc : Thread Cert.KernelScanIdeal.nD Cert.KernelScanIdeal.τ).loc Cert.KernelScanIdeal.main_arg6) = m ((c.tc : Thread Cert.KernelScanIdeal.nD Cert.KernelScanIdeal.τ).loc Cert.KernelScanIdeal.main_arg6)
          ∧ r.2.mem ((c.tc : Thread Cert.KernelScanIdeal.nD Cert.KernelScanIdeal.τ).loc Cert.KernelScanIdeal.main_arg7) = m ((c.tc : Thread Cert.KernelScanIdeal.nD Cert.KernelScanIdeal.τ).loc Cert.KernelScanIdeal.main_arg7)
          ∧ r.2.mem ((c.tc : Thread Cert.KernelScanIdeal.nD Cert.KernelScanIdeal.τ).loc Cert.KernelScanIdeal.main_arg8) = m ((c.tc : Thread Cert.KernelScanIdeal.nD Cert.KernelScanIdeal.τ).loc Cert.KernelScanIdeal.main_arg8)
          ∧ r.2.mem ((c.tc : Thread Cert.KernelScanIdeal.nD Cert.KernelScanIdeal.τ).loc Cert.KernelScanIdeal.main_arg9) = m ((c.tc : Thread Cert.KernelScanIdeal.nD Cert.KernelScanIdeal.τ).loc Cert.KernelScanIdeal.main_arg9)
          ∧ r.2.mem ((c.tc : Thread Cert.KernelScanIdeal.nD Cert.KernelScanIdeal.τ).loc Cert.KernelScanIdeal.main_arg10) = m ((c.tc : Thread Cert.KernelScanIdeal.nD Cert.KernelScanIdeal.τ).loc Cert.KernelScanIdeal.main_arg10)
          ∧ r.2.mem ((c.tc : Thread Cert.KernelScanIdeal.nD Cert.KernelScanIdeal.τ).loc Cert.KernelScanIdeal.main_arg11) = m ((c.tc : Thread Cert.KernelScanIdeal.nD Cert.KernelScanIdeal.τ).loc Cert.KernelScanIdeal.main_arg11)
          ∧ r.2.mem ((c.tc : Thread Cert.KernelScanIdeal.nD Cert.KernelScanIdeal.τ).loc Cert.KernelScanIdeal.main_arg12) = m ((c.tc : Thread Cert.KernelScanIdeal.nD Cert.KernelScanIdeal.τ).loc Cert.KernelScanIdeal.main_arg12))
      ∧ θ_run (Cert.ReferenceScanIdeal.defs (F := Ideal)) (onTc (τ := Cert.ReferenceScanIdeal.τ) (Cert.ReferenceScanIdeal.main (F := Ideal))) ⟨m', fun _ => 0, g'⟩ (fun r => ∀ c : Dev Cert.ReferenceScanIdeal.nD,
          r.2.mem ((c.tc : Thread Cert.ReferenceScanIdeal.nD Cert.ReferenceScanIdeal.τ).loc Cert.ReferenceScanIdeal.main_v170) = v0 c
          ∧ r.2.mem ((c.tc : Thread Cert.ReferenceScanIdeal.nD Cert.ReferenceScanIdeal.τ).loc Cert.ReferenceScanIdeal.main_v173) = v1 c
          ∧ r.2.mem ((c.tc : Thread Cert.ReferenceScanIdeal.nD Cert.ReferenceScanIdeal.τ).loc Cert.ReferenceScanIdeal.main_arg0) = m' ((c.tc : Thread Cert.ReferenceScanIdeal.nD Cert.ReferenceScanIdeal.τ).loc Cert.ReferenceScanIdeal.main_arg0)
          ∧ r.2.mem ((c.tc : Thread Cert.ReferenceScanIdeal.nD Cert.ReferenceScanIdeal.τ).loc Cert.ReferenceScanIdeal.main_arg1) = m' ((c.tc : Thread Cert.ReferenceScanIdeal.nD Cert.ReferenceScanIdeal.τ).loc Cert.ReferenceScanIdeal.main_arg1)
          ∧ r.2.mem ((c.tc : Thread Cert.ReferenceScanIdeal.nD Cert.ReferenceScanIdeal.τ).loc Cert.ReferenceScanIdeal.main_arg2) = m' ((c.tc : Thread Cert.ReferenceScanIdeal.nD Cert.ReferenceScanIdeal.τ).loc Cert.ReferenceScanIdeal.main_arg2)
          ∧ r.2.mem ((c.tc : Thread Cert.ReferenceScanIdeal.nD Cert.ReferenceScanIdeal.τ).loc Cert.ReferenceScanIdeal.main_arg3) = m' ((c.tc : Thread Cert.ReferenceScanIdeal.nD Cert.ReferenceScanIdeal.τ).loc Cert.ReferenceScanIdeal.main_arg3)
          ∧ r.2.mem ((c.tc : Thread Cert.ReferenceScanIdeal.nD Cert.ReferenceScanIdeal.τ).loc Cert.ReferenceScanIdeal.main_arg4) = m' ((c.tc : Thread Cert.ReferenceScanIdeal.nD Cert.ReferenceScanIdeal.τ).loc Cert.ReferenceScanIdeal.main_arg4)
          ∧ r.2.mem ((c.tc : Thread Cert.ReferenceScanIdeal.nD Cert.ReferenceScanIdeal.τ).loc Cert.ReferenceScanIdeal.main_arg5) = m' ((c.tc : Thread Cert.ReferenceScanIdeal.nD Cert.ReferenceScanIdeal.τ).loc Cert.ReferenceScanIdeal.main_arg5)
          ∧ r.2.mem ((c.tc : Thread Cert.ReferenceScanIdeal.nD Cert.ReferenceScanIdeal.τ).loc Cert.ReferenceScanIdeal.main_arg6) = m' ((c.tc : Thread Cert.ReferenceScanIdeal.nD Cert.ReferenceScanIdeal.τ).loc Cert.ReferenceScanIdeal.main_arg6)
          ∧ r.2.mem ((c.tc : Thread Cert.ReferenceScanIdeal.nD Cert.ReferenceScanIdeal.τ).loc Cert.ReferenceScanIdeal.main_arg7) = m' ((c.tc : Thread Cert.ReferenceScanIdeal.nD Cert.ReferenceScanIdeal.τ).loc Cert.ReferenceScanIdeal.main_arg7)
          ∧ r.2.mem ((c.tc : Thread Cert.ReferenceScanIdeal.nD Cert.ReferenceScanIdeal.τ).loc Cert.ReferenceScanIdeal.main_arg8) = m' ((c.tc : Thread Cert.ReferenceScanIdeal.nD Cert.ReferenceScanIdeal.τ).loc Cert.ReferenceScanIdeal.main_arg8)
          ∧ r.2.mem ((c.tc : Thread Cert.ReferenceScanIdeal.nD Cert.ReferenceScanIdeal.τ).loc Cert.ReferenceScanIdeal.main_arg9) = m' ((c.tc : Thread Cert.ReferenceScanIdeal.nD Cert.ReferenceScanIdeal.τ).loc Cert.ReferenceScanIdeal.main_arg9)
          ∧ r.2.mem ((c.tc : Thread Cert.ReferenceScanIdeal.nD Cert.ReferenceScanIdeal.τ).loc Cert.ReferenceScanIdeal.main_arg10) = m' ((c.tc : Thread Cert.ReferenceScanIdeal.nD Cert.ReferenceScanIdeal.τ).loc Cert.ReferenceScanIdeal.main_arg10)
          ∧ r.2.mem ((c.tc : Thread Cert.ReferenceScanIdeal.nD Cert.ReferenceScanIdeal.τ).loc Cert.ReferenceScanIdeal.main_arg11) = m' ((c.tc : Thread Cert.ReferenceScanIdeal.nD Cert.ReferenceScanIdeal.τ).loc Cert.ReferenceScanIdeal.main_arg11)
          ∧ r.2.mem ((c.tc : Thread Cert.ReferenceScanIdeal.nD Cert.ReferenceScanIdeal.τ).loc Cert.ReferenceScanIdeal.main_arg12) = m' ((c.tc : Thread Cert.ReferenceScanIdeal.nD Cert.ReferenceScanIdeal.τ).loc Cert.ReferenceScanIdeal.main_arg12))

def preserves_KernelShift_KernelShiftIdeal : Prop :=
  True

def algebraic_KernelShiftIdeal_ReferenceShiftIdeal [hKernelShiftIdeal : Cert.KernelShiftIdeal.Facts] [hReferenceShiftIdeal : Cert.ReferenceShiftIdeal.Facts] : Prop :=
  ∀ (m : (ℓ : Loc Cert.KernelShiftIdeal.nD Cert.KernelShiftIdeal.τ Cert.KernelShiftIdeal.sig) → Buf (Elt Ideal) ℓ) (g : Dev Cert.KernelShiftIdeal.nD → PrngReg)
    (m' : (ℓ : Loc Cert.ReferenceShiftIdeal.nD Cert.ReferenceShiftIdeal.τ Cert.ReferenceShiftIdeal.sig) → Buf (Elt Ideal) ℓ) (g' : Dev Cert.ReferenceShiftIdeal.nD → PrngReg), Pre_KernelShiftIdeal m →
    (∀ c : Dev Cert.KernelShiftIdeal.nD,
      m' ((c.tc : Thread Cert.ReferenceShiftIdeal.nD Cert.ReferenceShiftIdeal.τ).loc Cert.ReferenceShiftIdeal.main_arg0) = m ((c.tc : Thread Cert.KernelShiftIdeal.nD Cert.KernelShiftIdeal.τ).loc Cert.KernelShiftIdeal.main_arg0)
      ∧ m' ((c.tc : Thread Cert.ReferenceShiftIdeal.nD Cert.ReferenceShiftIdeal.τ).loc Cert.ReferenceShiftIdeal.main_arg1) = m ((c.tc : Thread Cert.KernelShiftIdeal.nD Cert.KernelShiftIdeal.τ).loc Cert.KernelShiftIdeal.main_arg1)) →
    ∃ (v0 : (c : Dev Cert.KernelShiftIdeal.nD) → Buf (Elt Ideal) ((c.tc : Thread Cert.KernelShiftIdeal.nD Cert.KernelShiftIdeal.τ).loc Cert.KernelShiftIdeal.main_v10_1)) (v1 : (c : Dev Cert.KernelShiftIdeal.nD) → Buf (Elt Ideal) ((c.tc : Thread Cert.KernelShiftIdeal.nD Cert.KernelShiftIdeal.τ).loc Cert.KernelShiftIdeal.main_v10_2)),
      θ_run (Cert.KernelShiftIdeal.defs (F := Ideal)) (onTc (τ := Cert.KernelShiftIdeal.τ) (Cert.KernelShiftIdeal.main (F := Ideal))) ⟨m, fun _ => 0, g⟩ (fun r => ∀ c : Dev Cert.KernelShiftIdeal.nD,
          r.2.mem ((c.tc : Thread Cert.KernelShiftIdeal.nD Cert.KernelShiftIdeal.τ).loc Cert.KernelShiftIdeal.main_v10_1) = v0 c
          ∧ r.2.mem ((c.tc : Thread Cert.KernelShiftIdeal.nD Cert.KernelShiftIdeal.τ).loc Cert.KernelShiftIdeal.main_v10_2) = v1 c
          ∧ r.2.mem ((c.tc : Thread Cert.KernelShiftIdeal.nD Cert.KernelShiftIdeal.τ).loc Cert.KernelShiftIdeal.main_arg0) = m ((c.tc : Thread Cert.KernelShiftIdeal.nD Cert.KernelShiftIdeal.τ).loc Cert.KernelShiftIdeal.main_arg0)
          ∧ r.2.mem ((c.tc : Thread Cert.KernelShiftIdeal.nD Cert.KernelShiftIdeal.τ).loc Cert.KernelShiftIdeal.main_arg1) = m ((c.tc : Thread Cert.KernelShiftIdeal.nD Cert.KernelShiftIdeal.τ).loc Cert.KernelShiftIdeal.main_arg1))
      ∧ θ_run (Cert.ReferenceShiftIdeal.defs (F := Ideal)) (onTc (τ := Cert.ReferenceShiftIdeal.τ) (Cert.ReferenceShiftIdeal.main (F := Ideal))) ⟨m', fun _ => 0, g'⟩ (fun r => ∀ c : Dev Cert.ReferenceShiftIdeal.nD,
          r.2.mem ((c.tc : Thread Cert.ReferenceShiftIdeal.nD Cert.ReferenceShiftIdeal.τ).loc Cert.ReferenceShiftIdeal.main_v10) = v0 c
          ∧ r.2.mem ((c.tc : Thread Cert.ReferenceShiftIdeal.nD Cert.ReferenceShiftIdeal.τ).loc Cert.ReferenceShiftIdeal.main_v12) = v1 c
          ∧ r.2.mem ((c.tc : Thread Cert.ReferenceShiftIdeal.nD Cert.ReferenceShiftIdeal.τ).loc Cert.ReferenceShiftIdeal.main_arg0) = m' ((c.tc : Thread Cert.ReferenceShiftIdeal.nD Cert.ReferenceShiftIdeal.τ).loc Cert.ReferenceShiftIdeal.main_arg0)
          ∧ r.2.mem ((c.tc : Thread Cert.ReferenceShiftIdeal.nD Cert.ReferenceShiftIdeal.τ).loc Cert.ReferenceShiftIdeal.main_arg1) = m' ((c.tc : Thread Cert.ReferenceShiftIdeal.nD Cert.ReferenceShiftIdeal.τ).loc Cert.ReferenceShiftIdeal.main_arg1))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelScan : Cert.KernelScan.Facts) (hKernelScanIdeal : Cert.KernelScanIdeal.Facts) (hReferenceScanIdeal : Cert.ReferenceScanIdeal.Facts) (hKernelShift : Cert.KernelShift.Facts) (hKernelShiftIdeal : Cert.KernelShiftIdeal.Facts) (hReferenceShiftIdeal : Cert.ReferenceShiftIdeal.Facts) (hPre_scores_finite : Cert.Pre_scores_finite.Facts) (hPre_scan_finite : Cert.Pre_scan_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelScan (hKernelScan := hKernelScan)
    ∧ quiescent_KernelScanIdeal (hKernelScanIdeal := hKernelScanIdeal)
    ∧ quiescent_KernelScanIdeal_pre_scan_finite (hKernelScanIdeal := hKernelScanIdeal) (hPre_scan_finite := hPre_scan_finite)
    ∧ quiescent_ReferenceScanIdeal (hReferenceScanIdeal := hReferenceScanIdeal)
    ∧ quiescent_ReferenceScanIdeal_pre_scan_finite (hReferenceScanIdeal := hReferenceScanIdeal) (hPre_scan_finite := hPre_scan_finite)
    ∧ quiescent_KernelShift (hKernelShift := hKernelShift)
    ∧ quiescent_KernelShiftIdeal (hKernelShiftIdeal := hKernelShiftIdeal)
    ∧ quiescent_ReferenceShiftIdeal (hReferenceShiftIdeal := hReferenceShiftIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelScan_KernelScanIdeal
    ∧ algebraic_KernelScanIdeal_ReferenceScanIdeal_pre_scan_finite (hKernelScanIdeal := hKernelScanIdeal) (hReferenceScanIdeal := hReferenceScanIdeal) (hPre_scan_finite := hPre_scan_finite)
    ∧ preserves_KernelShift_KernelShiftIdeal
    ∧ algebraic_KernelShiftIdeal_ReferenceShiftIdeal (hKernelShiftIdeal := hKernelShiftIdeal) (hReferenceShiftIdeal := hReferenceShiftIdeal)
-- ==== Pre_scan_finite.lean ====
abbrev S1024x3072 : Shape := ⟨2, ![1024, 3072]⟩
abbrev S128x16x64 : Shape := ⟨3, ![128, 16, 64]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S128x8x3072 : Shape := ⟨3, ![128, 8, 3072]⟩
abbrev S128x4x256 : Shape := ⟨3, ![128, 4, 256]⟩
abbrev S_ : Shape := ⟨0, ![]⟩

class Facts : Prop where
  shapeCasts_S1024x3072_S128x8x3072 : S1024x3072.ShapeCasts S128x8x3072
  slices_S128x8x3072_S128x4x256_0_0_0 : S128x8x3072.Slices ![0, 0, 0] S128x4x256
  bcast_S_S128x4x256 : S_.BroadcastsInDim S128x4x256 (![] : Fin 0 → Fin S128x4x256.rank)
  bcast_S_S128x16x64 : S_.BroadcastsInDim S128x16x64 (![] : Fin 0 → Fin S128x16x64.rank)
  bcast_S_S16x64 : S_.BroadcastsInDim S16x64 (![] : Fin 0 → Fin S16x64.rank)
  bcast_S_S16 : S_.BroadcastsInDim S16 (![] : Fin 0 → Fin S16.rank)
  bcast_S_S16x64x16 : S_.BroadcastsInDim S16x64x16 (![] : Fin 0 → Fin S16x64x16.rank)
  bcast_S_S16x16x64 : S_.BroadcastsInDim S16x16x64 (![] : Fin 0 → Fin S16x16x64.rank)

variable [Facts]

def fn_part2 {F : FTy → Type} [FloatOps F] (main_arg3 : FVec F S16x64 .f32) (main_arg4 : FVec F S16x64 .f32) (main_arg6 : FVec F S16x64x16 .f32) (main_arg7 : FVec F S16x64x16 .f32) (main_arg9 : FVec F S16x16x64 .f32) (main_v6 : IVec S128x4x256 1) (main_v11 : IVec S128x16x64 1) (main_v16 : IVec S128x16x64 1) (main_v21 : IVec S16x64 1) (main_v26 : IVec S16x64 1) (main_v31 : IVec S16 1) (main_v33 : IVec S16x64x16 1) (main_cst_12 : FVec F S_ .f32) : IVec S128x4x256 1 × IVec S128x16x64 1 × IVec S128x16x64 1 × IVec S16x64 1 × IVec S16x64 1 × IVec S16 1 × IVec S16x64x16 1 × IVec S16x64x16 1 × IVec S16x16x64 1 × IVec S16x64 1 :=
  let main_v34 : FVec F S16x64x16 .f32 := broadcastInDim S16x64x16 ![] bcast_S_S16x64x16 main_cst_12
  let main_v35 : IVec S16x64x16 1 := cmpf .olt main_arg6 main_v34
  let main_v36 : IVec S16x64x16 1 := andi main_v33 main_v35
  let main_cst_13 : FVec F S_ .f32 := constant S_ .f32 0xFF800000#32
  let main_v37 : FVec F S16x64x16 .f32 := broadcastInDim S16x64x16 ![] bcast_S_S16x64x16 main_cst_13
  let main_v38 : IVec S16x64x16 1 := cmpf .ogt main_arg7 main_v37
  let main_cst_14 : FVec F S_ .f32 := constant S_ .f32 0x7F800000#32
  let main_v39 : FVec F S16x64x16 .f32 := broadcastInDim S16x64x16 ![] bcast_S_S16x64x16 main_cst_14
  let main_v40 : IVec S16x64x16 1 := cmpf .olt main_arg7 main_v39
  let main_v41 : IVec S16x64x16 1 := andi main_v38 main_v40
  let main_cst_15 : FVec F S_ .f32 := constant S_ .f32 0xFF800000#32
  let main_v42 : FVec F S16x16x64 .f32 := broadcastInDim S16x16x64 ![] bcast_S_S16x16x64 main_cst_15
  let main_v43 : IVec S16x16x64 1 := cmpf .ogt main_arg9 main_v42
  let main_cst_16 : FVec F S_ .f32 := constant S_ .f32 0x7F800000#32
  let main_v44 : FVec F S16x16x64 .f32 := broadcastInDim S16x16x64 ![] bcast_S_S16x16x64 main_cst_16
  let main_v45 : IVec S16x16x64 1 := cmpf .olt main_arg9 main_v44
  let main_v46 : IVec S16x16x64 1 := andi main_v43 main_v45
  let main_cst_17 : FVec F S_ .f32 := constant S_ .f32 0x00000000#32
  let main_v47 : FVec F S16x64 .f32 := broadcastInDim S16x64 ![] bcast_S_S16x64 main_cst_17
  let main_v48 : IVec S16x64 1 := cmpf .une main_arg3 main_v47
  let main_cst_18 : FVec F S_ .f32 := constant S_ .f32 0x00000000#32
  let main_v49 : FVec F S16x64 .f32 := broadcastInDim S16x64 ![] bcast_S_S16x64 main_cst_18
  let main_v50 : IVec S16x64 1 := cmpf .une main_arg4 main_v49
  let main_v51 : IVec S16x64 1 := ori main_v48 main_v50
  (main_v6, main_v11, main_v16, main_v21, main_v26, main_v31, main_v36, main_v41, main_v46, main_v51)

def fn_part1 {F : FTy → Type} [FloatOps F] (main_arg3 : FVec F S16x64 .f32) (main_arg4 : FVec F S16x64 .f32) (main_arg5 : FVec F S16 .f32) (main_arg6 : FVec F S16x64x16 .f32) (main_arg7 : FVec F S16x64x16 .f32) (main_arg9 : FVec F S16x16x64 .f32) (main_v6 : IVec S128x4x256 1) (main_v11 : IVec S128x16x64 1) (main_v16 : IVec S128x16x64 1) (main_cst_5 : FVec F S_ .f32) : IVec S128x4x256 1 × IVec S128x16x64 1 × IVec S128x16x64 1 × IVec S16x64 1 × IVec S16x64 1 × IVec S16 1 × IVec S16x64x16 1 × IVec S16x64x16 1 × IVec S16x16x64 1 × IVec S16x64 1 :=
  let main_v17 : FVec F S16x64 .f32 := broadcastInDim S16x64 ![] bcast_S_S16x64 main_cst_5
  let main_v18 : IVec S16x64 1 := cmpf .ogt main_arg3 main_v17
  let main_cst_6 : FVec F S_ .f32 := constant S_ .f32 0x7F800000#32
  let main_v19 : FVec F S16x64 .f32 := broadcastInDim S16x64 ![] bcast_S_S16x64 main_cst_6
  let main_v20 : IVec S16x64 1 := cmpf .olt main_arg3 main_v19
  let main_v21 : IVec S16x64 1 := andi main_v18 main_v20
  let main_cst_7 : FVec F S_ .f32 := constant S_ .f32 0xFF800000#32
  let main_v22 : FVec F S16x64 .f32 := broadcastInDim S16x64 ![] bcast_S_S16x64 main_cst_7
  let main_v23 : IVec S16x64 1 := cmpf .ogt main_arg4 main_v22
  let main_cst_8 : FVec F S_ .f32 := constant S_ .f32 0x7F800000#32
  let main_v24 : FVec F S16x64 .f32 := broadcastInDim S16x64 ![] bcast_S_S16x64 main_cst_8
  let main_v25 : IVec S16x64 1 := cmpf .olt main_arg4 main_v24
  let main_v26 : IVec S16x64 1 := andi main_v23 main_v25
  let main_cst_9 : FVec F S_ .f32 := constant S_ .f32 0xFF800000#32
  let main_v27 : FVec F S16 .f32 := broadcastInDim S16 ![] bcast_S_S16 main_cst_9
  let main_v28 : IVec S16 1 := cmpf .ogt main_arg5 main_v27
  let main_cst_10 : FVec F S_ .f32 := constant S_ .f32 0x7F800000#32
  let main_v29 : FVec F S16 .f32 := broadcastInDim S16 ![] bcast_S_S16 main_cst_10
  let main_v30 : IVec S16 1 := cmpf .olt main_arg5 main_v29
  let main_v31 : IVec S16 1 := andi main_v28 main_v30
  let main_cst_11 : FVec F S_ .f32 := constant S_ .f32 0xFF800000#32
  let main_v32 : FVec F S16x64x16 .f32 := broadcastInDim S16x64x16 ![] bcast_S_S16x64x16 main_cst_11
  let main_v33 : IVec S16x64x16 1 := cmpf .ogt main_arg6 main_v32
  let main_cst_12 : FVec F S_ .f32 := constant S_ .f32 0x7F800000#32
  fn_part2 (F := F) main_arg3 main_arg4 main_arg6 main_arg7 main_arg9 main_v6 main_v11 main_v16 main_v21 main_v26 main_v31 main_v33 main_cst_12

def fn {F : FTy → Type} [FloatOps F] (main_arg0 : FVec F S1024x3072 .f32) (main_arg1 : FVec F S128x16x64 .f32) (main_arg2 : FVec F S128x16x64 .f32) (main_arg3 : FVec F S16x64 .f32) (main_arg4 : FVec F S16x64 .f32) (main_arg5 : FVec F S16 .f32) (main_arg6 : FVec F S16x64x16 .f32) (main_arg7 : FVec F S16x64x16 .f32) (main_arg8 : FVec F S16x16x64 .f32) (main_arg9 : FVec F S16x16x64 .f32) (main_arg10 : FVec F S256 .f32) (main_arg11 : FVec F S256x256 .f32) (main_arg12 : FVec F S256x256 .f32) : IVec S128x4x256 1 × IVec S128x16x64 1 × IVec S128x16x64 1 × IVec S16x64 1 × IVec S16x64 1 × IVec S16 1 × IVec S16x64x16 1 × IVec S16x64x16 1 × IVec S16x16x64 1 × IVec S16x64 1 :=
  let main_v0 : FVec F S128x8x3072 .f32 := shapeCast S128x8x3072 main_arg0 shapeCasts_S1024x3072_S128x8x3072
  let main_v1 : FVec F S128x4x256 .f32 := (extractStridedSlice S128x4x256 ![0, 0, 0] · slices_S128x8x3072_S128x4x256_0_0_0) main_v0
  let main_cst : FVec F S_ .f32 := constant S_ .f32 0xFF800000#32
  let main_v2 : FVec F S128x4x256 .f32 := broadcastInDim S128x4x256 ![] bcast_S_S128x4x256 main_cst
  let main_v3 : IVec S128x4x256 1 := cmpf .ogt main_v1 main_v2
  let main_cst_0 : FVec F S_ .f32 := constant S_ .f32 0x7F800000#32
  let main_v4 : FVec F S128x4x256 .f32 := broadcastInDim S128x4x256 ![] bcast_S_S128x4x256 main_cst_0
  let main_v5 : IVec S128x4x256 1 := cmpf .olt main_v1 main_v4
  let main_v6 : IVec S128x4x256 1 := andi main_v3 main_v5
  let main_cst_1 : FVec F S_ .f32 := constant S_ .f32 0xFF800000#32
  let main_v7 : FVec F S128x16x64 .f32 := broadcastInDim S128x16x64 ![] bcast_S_S128x16x64 main_cst_1
  let main_v8 : IVec S128x16x64 1 := cmpf .ogt main_arg1 main_v7
  let main_cst_2 : FVec F S_ .f32 := constant S_ .f32 0x7F800000#32
  let main_v9 : FVec F S128x16x64 .f32 := broadcastInDim S128x16x64 ![] bcast_S_S128x16x64 main_cst_2
  let main_v10 : IVec S128x16x64 1 := cmpf .olt main_arg1 main_v9
  let main_v11 : IVec S128x16x64 1 := andi main_v8 main_v10
  let main_cst_3 : FVec F S_ .f32 := constant S_ .f32 0xFF800000#32
  let main_v12 : FVec F S128x16x64 .f32 := broadcastInDim S128x16x64 ![] bcast_S_S128x16x64 main_cst_3
  let main_v13 : IVec S128x16x64 1 := cmpf .ogt main_arg2 main_v12
  let main_cst_4 : FVec F S_ .f32 := constant S_ .f32 0x7F800000#32
  let main_v14 : FVec F S128x16x64 .f32 := broadcastInDim S128x16x64 ![] bcast_S_S128x16x64 main_cst_4
  let main_v15 : IVec S128x16x64 1 := cmpf .olt main_arg2 main_v14
  let main_v16 : IVec S128x16x64 1 := andi main_v13 main_v15
  let main_cst_5 : FVec F S_ .f32 := constant S_ .f32 0xFF800000#32
  fn_part1 (F := F) main_arg3 main_arg4 main_arg5 main_arg6 main_arg7 main_arg9 main_v6 main_v11 main_v16 main_cst_5
-- ==== Pre_scores_finite.lean ====
abbrev S1024x3072 : Shape := ⟨2, ![1024, 3072]⟩
abbrev S128x128x2x64 : Shape := ⟨4, ![128, 128, 2, 64]⟩
abbrev S4 : Shape := ⟨1, ![4]⟩
abbrev S128x8x3072 : Shape := ⟨3, ![128, 8, 3072]⟩
abbrev S128x4x3072 : Shape := ⟨3, ![128, 4, 3072]⟩
abbrev S128x4x384 : Shape := ⟨3, ![128, 4, 384]⟩
abbrev S_ : Shape := ⟨0, ![]⟩

class Facts : Prop where
  shapeCasts_S1024x3072_S128x8x3072 : S1024x3072.ShapeCasts S128x8x3072
  slices_S128x8x3072_S128x4x3072_0_0_0 : S128x8x3072.Slices ![0, 0, 0] S128x4x3072
  slices_S128x4x3072_S128x4x384_0_0_2304 : S128x4x3072.Slices ![0, 0, 2304] S128x4x384
  bcast_S_S128x4x384 : S_.BroadcastsInDim S128x4x384 (![] : Fin 0 → Fin S128x4x384.rank)
  bcast_S_S128x128x2x64 : S_.BroadcastsInDim S128x128x2x64 (![] : Fin 0 → Fin S128x128x2x64.rank)
  bcast_S_S4 : S_.BroadcastsInDim S4 (![] : Fin 0 → Fin S4.rank)

variable [Facts]

def fn {F : FTy → Type} [FloatOps F] (main_arg0 : FVec F S1024x3072 .f32) (main_arg1 : FVec F S128x128x2x64 .f32) (main_arg2 : FVec F S128x128x2x64 .f32) (main_arg3 : FVec F S4 .f32) : IVec S128x4x384 1 × IVec S128x128x2x64 1 × IVec S4 1 :=
  let main_v0 : FVec F S128x8x3072 .f32 := shapeCast S128x8x3072 main_arg0 shapeCasts_S1024x3072_S128x8x3072
  let main_v1 : FVec F S128x4x3072 .f32 := (extractStridedSlice S128x4x3072 ![0, 0, 0] · slices_S128x8x3072_S128x4x3072_0_0_0) main_v0
  let main_v2 : FVec F S128x4x384 .f32 := (extractStridedSlice S128x4x384 ![0, 0, 2304] · slices_S128x4x3072_S128x4x384_0_0_2304) main_v1
  let main_cst : FVec F S_ .f32 := constant S_ .f32 0xFF800000#32
  let main_v3 : FVec F S128x4x384 .f32 := broadcastInDim S128x4x384 ![] bcast_S_S128x4x384 main_cst
  let main_v4 : IVec S128x4x384 1 := cmpf .ogt main_v2 main_v3
  let main_cst_0 : FVec F S_ .f32 := constant S_ .f32 0x7F800000#32
  let main_v5 : FVec F S128x4x384 .f32 := broadcastInDim S128x4x384 ![] bcast_S_S128x4x384 main_cst_0
  let main_v6 : IVec S128x4x384 1 := cmpf .olt main_v2 main_v5
  let main_v7 : IVec S128x4x384 1 := andi main_v4 main_v6
  let main_cst_1 : FVec F S_ .f32 := constant S_ .f32 0xFF800000#32
  let main_v8 : FVec F S128x128x2x64 .f32 := broadcastInDim S128x128x2x64 ![] bcast_S_S128x128x2x64 main_cst_1
  let main_v9 : IVec S128x128x2x64 1 := cmpf .ogt main_arg1 main_v8
  let main_cst_2 : FVec F S_ .f32 := constant S_ .f32 0x7F800000#32
  let main_v10 : FVec F S128x128x2x64 .f32 := broadcastInDim S128x128x2x64 ![] bcast_S_S128x128x2x64 main_cst_2
  let main_v11 : IVec S128x128x2x64 1 := cmpf .olt main_arg1 main_v10
  let main_v12 : IVec S128x128x2x64 1 := andi main_v9 main_v11
  let main_cst_3 : FVec F S_ .f32 := constant S_ .f32 0xFF800000#32
  let main_v13 : FVec F S4 .f32 := broadcastInDim S4 ![] bcast_S_S4 main_cst_3
  let main_v14 : IVec S4 1 := cmpf .ogt main_arg3 main_v13
  let main_cst_4 : FVec F S_ .f32 := constant S_ .f32 0x7F800000#32
  let main_v15 : FVec F S4 .f32 := broadcastInDim S4 ![] bcast_S_S4 main_cst_4
  let main_v16 : IVec S4 1 := cmpf .olt main_arg3 main_v15
  let main_v17 : IVec S4 1 := andi main_v14 main_v16
  (main_v7, main_v12, main_v17)
-- ==== Kernel.lean ====
abbrev S1024x3072 : Shape := ⟨2, ![1024, 3072]⟩
abbrev S128x128x2x64 : Shape := ⟨4, ![128, 128, 2, 64]⟩
abbrev S4 : Shape := ⟨1, ![4]⟩
abbrev S32x136 : Shape := ⟨2, ![32, 136]⟩
abbrev S_ : Shape := ⟨0, ![]⟩
abbrev S4x1 : Shape := ⟨2, ![4, 1]⟩
abbrev S4x8 : Shape := ⟨2, ![4, 8]⟩
abbrev S32 : Shape := ⟨1, ![32]⟩
abbrev S32x1 : Shape := ⟨2, ![32, 1]⟩
abbrev S128x128x128 : Shape := ⟨3, ![128, 128, 128]⟩
abbrev S1024x256 : Shape := ⟨2, ![1024, 256]⟩
abbrev S128x256 : Shape := ⟨2, ![128, 256]⟩
abbrev S16x128x128 : Shape := ⟨3, ![16, 128, 128]⟩
abbrev S136x128 : Shape := ⟨2, ![136, 128]⟩
abbrev S1x128 : Shape := ⟨2, ![1, 128]⟩
abbrev S8x1 : Shape := ⟨2, ![8, 1]⟩
abbrev S1x128x128 : Shape := ⟨3, ![1, 128, 128]⟩
abbrev S128x128 : Shape := ⟨2, ![128, 128]⟩
abbrev S8x256 : Shape := ⟨2, ![8, 256]⟩
abbrev S8x128 : Shape := ⟨2, ![8, 128]⟩
abbrev S32x128 : Shape := ⟨2, ![32, 128]⟩

abbrev nBuf : Space → Nat
  | .hbm => 21
  | .vmem => 18
  | .smem => 0
  | _ => 0

abbrev bufTy : (tb : Table) → Fin (tcTables nBuf tb) → BufTy
  | .hbm, ⟨0, _⟩ => ⟨S1024x3072, .f32⟩
  | .hbm, ⟨1, _⟩ => ⟨S128x128x2x64, .f32⟩
  | .hbm, ⟨2, _⟩ => ⟨S128x128x2x64, .f32⟩
  | .hbm, ⟨3, _⟩ => ⟨S4, .f32⟩
  | .hbm, ⟨4, _⟩ => ⟨S4, .i32⟩
  | .hbm, ⟨5, _⟩ => ⟨S4, .i1⟩
  | .hbm, ⟨6, _⟩ => ⟨S32x136, .f32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S4x1, .i32⟩
  | .hbm, ⟨12, _⟩ => ⟨S4, .f32⟩
  | .hbm, ⟨13, _⟩ => ⟨S4x8, .f32⟩
  | .hbm, ⟨14, _⟩ => ⟨S32, .f32⟩
  | .hbm, ⟨15, _⟩ => ⟨S32x1, .f32⟩
  | .hbm, ⟨16, _⟩ => ⟨S128x128x128, .f32⟩
  | .hbm, ⟨17, _⟩ => ⟨S128x128x128, .f32⟩
  | .hbm, ⟨18, _⟩ => ⟨S1024x256, .f32⟩
  | .hbm, ⟨19, _⟩ => ⟨S128x128x128, .f32⟩
  | .hbm, ⟨20, _⟩ => ⟨S128x128x128, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S16x128x128, .f32⟩
  | .local _ .vmem, ⟨5, _⟩ => ⟨S16x128x128, .f32⟩
  | .local _ .vmem, ⟨6, _⟩ => ⟨S16x128x128, .f32⟩
  | .local _ .vmem, ⟨7, _⟩ => ⟨S16x128x128, .f32⟩
  | .local _ .vmem, ⟨8, _⟩ => ⟨S32x136, .f32⟩
  | .local _ .vmem, ⟨9, _⟩ => ⟨S32x1, .f32⟩
  | .local _ .vmem, ⟨10, _⟩ => ⟨S128x256, .f32⟩
  | .local _ .vmem, ⟨11, _⟩ => ⟨S128x256, .f32⟩
  | .local _ .vmem, ⟨12, _⟩ => ⟨S16x128x128, .f32⟩
  | .local _ .vmem, ⟨13, _⟩ => ⟨S16x128x128, .f32⟩
  | .local _ .vmem, ⟨14, _⟩ => ⟨S16x128x128, .f32⟩
  | .local _ .vmem, ⟨15, _⟩ => ⟨S16x128x128, .f32⟩
  | .local _ .vmem, ⟨16, _⟩ => ⟨S136x128, .f32⟩
  | .local _ .vmem, ⟨17, _⟩ => ⟨S136x128, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32_3 : BitVec 32 := 0#32
  let c16_i32 : BitVec 32 := 16#32
  let v16 : BitVec 32 := Scalar.addi c0_i32_3 c16_i32
  let c1_i32_4 : BitVec 32 := 1#32
  ⟨c0_i32_3, v16, c1_i32_4⟩
def k0_mult1 (k0_t1 : Fin k0_t1_loop.trips) : BitVec 32 :=
  let c0_i32_3 : BitVec 32 := 0#32
  let c1_i32_4 : BitVec 32 := 1#32
  let arg13 : BitVec 32 := Scf.iv c0_i32_3 c1_i32_4 k0_t1
  let c8_i32 : BitVec 32 := 8#32
  let v34 : BitVec 32 := Scalar.muli arg13 c8_i32
  v34
def k0_off1 (k0_t1 : Fin k0_t1_loop.trips) : Fin 3 → Nat :=
  let c0_i32_3 : BitVec 32 := 0#32
  let c1_i32_4 : BitVec 32 := 1#32
  let arg13 : BitVec 32 := Scf.iv c0_i32_3 c1_i32_4 k0_t1
  let c0_i32_7 : BitVec 32 := 0#32
  let v18 : BitVec 1 := Scalar.cmpi .sgt arg13 c0_i32_7
  let v19 : BitVec 32 := Scalar.extui v18
  let c0_i32_8 : BitVec 32 := 0#32
  let v20 : BitVec 1 := Scalar.cmpi .slt arg13 c0_i32_8
  let v21 : BitVec 32 := Scalar.extui v20
  let v22 : BitVec 32 := Scalar.subi v19 v21
  let c1_i32_6 : BitVec 32 := 1#32
  let c0_i32_9 : BitVec 32 := 0#32
  let v23 : BitVec 1 := Scalar.cmpi .sgt c1_i32_6 c0_i32_9
  let v24 : BitVec 32 := Scalar.extui v23
  let c0_i32_10 : BitVec 32 := 0#32
  let v25 : BitVec 1 := Scalar.cmpi .slt c1_i32_6 c0_i32_10
  let v26 : BitVec 32 := Scalar.extui v25
  let v27 : BitVec 32 := Scalar.subi v24 v26
  let v28 : BitVec 1 := Scalar.cmpi .ne v22 v27
  let v29 : BitVec 32 := Scalar.remsi arg13 c1_i32_6
  let c0_i32_11 : BitVec 32 := 0#32
  let v30 : BitVec 1 := Scalar.cmpi .ne v29 c0_i32_11
  let v31 : BitVec 1 := Scalar.andi v28 v30
  let v17 : BitVec 32 := Scalar.divsi arg13 c1_i32_6
  let c1_i32_12 : BitVec 32 := 1#32
  let v32 : BitVec 32 := Scalar.subi v17 c1_i32_12
  let v33 : BitVec 32 := Scalar.select v31 v32 v17
  let v54 : Index := Scalar.indexCast v33
  let c0 : Index := 0#32
  let c0_21 : Index := 0#32
  ![v54.toNat, 0, 0]
def k0_off2 (k0_t1 : Fin k0_t1_loop.trips) : Fin 2 → Nat :=
  let c0_i32_3 : BitVec 32 := 0#32
  let c1_i32_4 : BitVec 32 := 1#32
  let arg13 : BitVec 32 := Scf.iv c0_i32_3 c1_i32_4 k0_t1
  let c8_i32 : BitVec 32 := 8#32
  let v34 : BitVec 32 := Scalar.muli arg13 c8_i32
  let v35 : BitVec 32 := v34
  let v66 : Index := Scalar.indexCast v35
  let c0_28 : Index := 0#32
  ![v66.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c10_i32 : BitVec 32 := 10#32
  let c0_i32 : BitVec 32 := 0#32
  ![v1.toNat, c10_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S32x136 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S1024x3072 : Shape := ⟨2, ![1024, 3072]⟩
abbrev S128x128x2x64 : Shape := ⟨4, ![128, 128, 2, 64]⟩
abbrev S4 : Shape := ⟨1, ![4]⟩
abbrev S128x8x3072 : Shape := ⟨3, ![128, 8, 3072]⟩
abbrev S128x4x3072 : Shape := ⟨3, ![128, 4, 3072]⟩
abbrev S128x4x256 : Shape := ⟨3, ![128, 4, 256]⟩
abbrev S128x4x2x2x64 : Shape := ⟨5, ![128, 4, 2, 2, 64]⟩
abbrev S128x4x128 : Shape := ⟨3, ![128, 4, 128]⟩
abbrev S128x4x2x64 : Shape := ⟨4, ![128, 4, 2, 64]⟩
abbrev S128x132x2x64 : Shape := ⟨4, ![128, 132, 2, 64]⟩
abbrev S4x1 : Shape := ⟨2, ![4, 1]⟩
abbrev S132 : Shape := ⟨1, ![132]⟩
abbrev S1x132 : Shape := ⟨2, ![1, 132]⟩
abbrev S_ : Shape := ⟨0, ![]⟩
abbrev S4x132 : Shape := ⟨2, ![4, 132]⟩
abbrev S2x2 : Shape := ⟨2, ![2, 2]⟩
abbrev S128x2x132x4x2 : Shape := ⟨5, ![128, 2, 132, 4, 2]⟩
abbrev S128x2x2x4x132 : Shape := ⟨5, ![128, 2, 2, 4, 132]⟩
abbrev S2x2x1x1 : Shape := ⟨4, ![2, 2, 1, 1]⟩
abbrev S1x1x4x132 : Shape := ⟨4, ![1, 1, 4, 132]⟩
abbrev S2x2x4x132 : Shape := ⟨4, ![2, 2, 4, 132]⟩
abbrev S1x2x2x4x132 : Shape := ⟨5, ![1, 2, 2, 4, 132]⟩
abbrev S128x2x2x4x1 : Shape := ⟨5, ![128, 2, 2, 4, 1]⟩
abbrev S128x2x2x4 : Shape := ⟨4, ![128, 2, 2, 4]⟩
abbrev S128x2x64x2x4 : Shape := ⟨5, ![128, 2, 64, 2, 4]⟩
abbrev S128x8x256 : Shape := ⟨3, ![128, 8, 256]⟩
abbrev S1024x256 : Shape := ⟨2, ![1024, 256]⟩
abbrev S128x128x128 : Shape := ⟨3, ![128, 128, 128]⟩

abbrev nBuf : Space → Nat
  | .hbm => 104
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S128x128x2x64, .f32⟩
  | .hbm, ⟨2, _⟩ => ⟨S128x128x2x64, .f32⟩
  | .hbm, ⟨3, _⟩ => ⟨S4, .f32⟩
  | .hbm, ⟨4, _⟩ => ⟨S128x8x3072, .f32⟩
  | .hbm, ⟨5, _⟩ => ⟨S128x4x3072, .f32⟩
  | .hbm, ⟨6, _⟩ => ⟨S128x4x256, .f32⟩
  | .hbm, ⟨7, _⟩ => ⟨S128x4x2x2x64, .f32⟩
  | .hbm, ⟨8, _⟩ => ⟨S128x4x2x2x64, .f32⟩
  | .hbm, ⟨9, _⟩ => ⟨S128x4x128, .f32⟩
  | .hbm, ⟨10, _⟩ => ⟨S128x4x2x64, .f32⟩
  | .hbm, ⟨11, _⟩ => ⟨S128x4x128, .f32⟩
  | .hbm, ⟨12, _⟩ => ⟨S128x4x2x64, .f32⟩
  | .hbm, ⟨13, _⟩ => ⟨S128x132x2x64, .f32⟩
  | .hbm, ⟨14, _⟩ => ⟨S128x132x2x64, .f32⟩
  | .hbm, ⟨15, _⟩ => ⟨S4, .i32⟩
  | .hbm, ⟨16, _⟩ => ⟨S4x1, .i32⟩
  | .hbm, ⟨17, _⟩ => ⟨S132, .i32⟩
  | .hbm, ⟨18, _⟩ => ⟨S1x132, .i32⟩
  | .hbm, ⟨19, _⟩ => ⟨S_, .i32⟩
  | .hbm, ⟨20, _⟩ => ⟨S4x1, .i32⟩
  | .hbm, ⟨21, _⟩ => ⟨S4x1, .i32⟩
  | .hbm, ⟨22, _⟩ => ⟨S4x132, .i32⟩
  | .hbm, ⟨23, _⟩ => ⟨S4x132, .i32⟩
  | .hbm, ⟨24, _⟩ => ⟨S4x132, .i32⟩
  | .hbm, ⟨25, _⟩ => ⟨S_, .i32⟩
  | .hbm, ⟨26, _⟩ => ⟨S4x132, .i32⟩
  | .hbm, ⟨27, _⟩ => ⟨S4x132, .i1⟩
  | .hbm, ⟨28, _⟩ => ⟨S_, .i32⟩
  | .hbm, ⟨29, _⟩ => ⟨S4x132, .i32⟩
  | .hbm, ⟨30, _⟩ => ⟨S4x132, .i1⟩
  | .hbm, ⟨31, _⟩ => ⟨S4x132, .i1⟩
  | .hbm, ⟨32, _⟩ => ⟨S4, .i32⟩
  | .hbm, ⟨33, _⟩ => ⟨S2x2, .i32⟩
  | .hbm, ⟨34, _⟩ => ⟨S_, .i32⟩
  | .hbm, ⟨35, _⟩ => ⟨S2x2, .i32⟩
  | .hbm, ⟨36, _⟩ => ⟨S2x2, .i1⟩
  | .hbm, ⟨37, _⟩ => ⟨S_, .i32⟩
  | .hbm, ⟨38, _⟩ => ⟨S2x2, .i32⟩
  | .hbm, ⟨39, _⟩ => ⟨S2x2, .i1⟩
  | .hbm, ⟨40, _⟩ => ⟨S_, .i32⟩
  | .hbm, ⟨41, _⟩ => ⟨S2x2, .i32⟩
  | .hbm, ⟨42, _⟩ => ⟨S2x2, .i1⟩
  | .hbm, ⟨43, _⟩ => ⟨S_, .f32⟩
  | .hbm, ⟨44, _⟩ => ⟨S_, .f32⟩
  | .hbm, ⟨45, _⟩ => ⟨S2x2, .f32⟩
  | .hbm, ⟨46, _⟩ => ⟨S2x2, .f32⟩
  | .hbm, ⟨47, _⟩ => ⟨S2x2, .f32⟩
  | .hbm, ⟨48, _⟩ => ⟨S_, .f32⟩
  | .hbm, ⟨49, _⟩ => ⟨S2x2, .f32⟩
  | .hbm, ⟨50, _⟩ => ⟨S2x2, .f32⟩
  | .hbm, ⟨51, _⟩ => ⟨S_, .f32⟩
  | .hbm, ⟨52, _⟩ => ⟨S2x2, .f32⟩
  | .hbm, ⟨53, _⟩ => ⟨S2x2, .f32⟩
  | .hbm, ⟨54, _⟩ => ⟨S2x2, .f32⟩
  | .hbm, ⟨55, _⟩ => ⟨S128x2x132x4x2, .f32⟩
  | .hbm, ⟨56, _⟩ => ⟨S128x2x2x4x132, .f32⟩
  | .hbm, ⟨57, _⟩ => ⟨S_, .f32⟩
  | .hbm, ⟨58, _⟩ => ⟨S128x2x2x4x132, .f32⟩
  | .hbm, ⟨59, _⟩ => ⟨S128x2x2x4x132, .f32⟩
  | .hbm, ⟨60, _⟩ => ⟨S2x2x1x1, .f32⟩
  | .hbm, ⟨61, _⟩ => ⟨S4x132, .f32⟩
  | .hbm, ⟨62, _⟩ => ⟨S2x2x1x1, .f32⟩
  | .hbm, ⟨63, _⟩ => ⟨S1x1x4x132, .f32⟩
  | .hbm, ⟨64, _⟩ => ⟨S2x2x4x132, .f32⟩
  | .hbm, ⟨65, _⟩ => ⟨S2x2x4x132, .f32⟩
  | .hbm, ⟨66, _⟩ => ⟨S2x2x4x132, .f32⟩
  | .hbm, ⟨67, _⟩ => ⟨S1x2x2x4x132, .f32⟩
  | .hbm, ⟨68, _⟩ => ⟨S128x2x2x4x132, .f32⟩
  | .hbm, ⟨69, _⟩ => ⟨S128x2x2x4x132, .f32⟩
  | .hbm, ⟨70, _⟩ => ⟨S_, .f32⟩
  | .hbm, ⟨71, _⟩ => ⟨S_, .f32⟩
  | .hbm, ⟨72, _⟩ => ⟨S128x2x2x4x132, .i1⟩
  | .hbm, ⟨73, _⟩ => ⟨S128x2x2x4x132, .f32⟩
  | .hbm, ⟨74, _⟩ => ⟨S128x2x2x4x132, .f32⟩
  | .hbm, ⟨75, _⟩ => ⟨S2x2x1x1, .f32⟩
  | .hbm, ⟨76, _⟩ => ⟨S128x2x2x4x1, .f32⟩
  | .hbm, ⟨77, _⟩ => ⟨S_, .f32⟩
  | .hbm, ⟨78, _⟩ => ⟨S128x2x2x4, .f32⟩
  | .hbm, ⟨79, _⟩ => ⟨S128x2x2x4x1, .f32⟩
  | .hbm, ⟨80, _⟩ => ⟨S128x2x2x4x1, .f32⟩
  | .hbm, ⟨81, _⟩ => ⟨S128x2x2x4x132, .f32⟩
  | .hbm, ⟨82, _⟩ => ⟨S128x2x2x4x132, .f32⟩
  | .hbm, ⟨83, _⟩ => ⟨S128x2x2x4x132, .f32⟩
  | .hbm, ⟨84, _⟩ => ⟨S_, .f32⟩
  | .hbm, ⟨85, _⟩ => ⟨S128x2x2x4, .f32⟩
  | .hbm, ⟨86, _⟩ => ⟨S128x2x2x4x1, .f32⟩
  | .hbm, ⟨87, _⟩ => ⟨S128x2x2x4x1, .f32⟩
  | .hbm, ⟨88, _⟩ => ⟨S128x2x2x4x1, .f32⟩
  | .hbm, ⟨89, _⟩ => ⟨S128x2x2x4x1, .f32⟩
  | .hbm, ⟨90, _⟩ => ⟨S128x2x2x4x132, .f32⟩
  | .hbm, ⟨91, _⟩ => ⟨S128x2x2x4x132, .f32⟩
  | .hbm, ⟨92, _⟩ => ⟨S128x2x64x2x4, .f32⟩
  | .hbm, ⟨93, _⟩ => ⟨S128x4x2x2x64, .f32⟩
  | .hbm, ⟨94, _⟩ => ⟨S128x4x2x2x64, .f32⟩
  | .hbm, ⟨95, _⟩ => ⟨S128x4x256, .f32⟩
  | .hbm, ⟨96, _⟩ => ⟨S_, .i32⟩
  | .hbm, ⟨97, _⟩ => ⟨S_, .f32⟩
  | .hbm, ⟨98, _⟩ => ⟨S128x8x256, .f32⟩
  | .hbm, ⟨99, _⟩ => ⟨S1024x256, .f32⟩
  | .hbm, ⟨100, _⟩ => ⟨S128x128x2x64, .f32⟩
  | .hbm, ⟨101, _⟩ => ⟨S128x128x128, .f32⟩
  | .hbm, ⟨102, _⟩ => ⟨S128x128x2x64, .f32⟩
  | .hbm, ⟨103, _⟩ => ⟨S128x128x128, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_2 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v33 : Ref sig .tc := ⟨.hbm, 47, rfl⟩
abbrev main_cst_6 : Ref sig .tc := ⟨.hbm, 48, rfl⟩
abbrev main_call1_v0 : Ref sig .tc := ⟨.hbm, 49, rfl⟩
abbrev main_v34 : Ref sig .tc := ⟨.hbm, 50, rfl⟩
abbrev main_cst_7 : Ref sig .tc := ⟨.hbm, 51, rfl⟩
abbrev main_call2_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_12 : Ref sig .tc := ⟨.hbm, 96, rfl⟩
abbrev main_call4_v0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]
-- ==== KernelFfn.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceFfnIdeal.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S_, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== KernelIn.lean ====
abbrev S8x2048x1024 : Shape := ⟨3, ![8, 2048, 1024]⟩
abbrev S1024 : Shape := ⟨1, ![1024]⟩
abbrev S1024x2824 : Shape := ⟨2, ![1024, 2824]⟩
abbrev S4 : Shape := ⟨1, ![4]⟩
abbrev S16384x1024 : Shape := ⟨2, ![16384, 1024]⟩
abbrev S1x1024 : Shape := ⟨2, ![1, 1024]⟩
abbrev S1024x256 : Shape := ⟨2, ![1024, 256]⟩
abbrev S1024x4x64 : Shape := ⟨3, ![1024, 4, 64]⟩
abbrev S_ : Shape := ⟨0, ![]⟩
abbrev S4x1 : Shape := ⟨2, ![4, 1]⟩
abbrev S1024x8 : Shape := ⟨2, ![1024, 8]⟩
abbrev S1024x2304 : Shape := ⟨2, ![1024, 2304]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 25
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2824, .f32⟩
  | .hbm, ⟨3, _⟩ => ⟨S4, .i32⟩
  | .hbm, ⟨4, _⟩ => ⟨S4, .i1⟩
  | .hbm, ⟨5, _⟩ => ⟨S16384x1024, .f32⟩
  | .hbm, ⟨6, _⟩ => ⟨S1x1024, .f32⟩
  | .hbm, ⟨7, _⟩ => ⟨S1024x256, .f32⟩
  | .hbm, ⟨8, _⟩ => ⟨S1024x4x64, .f32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i32⟩
  | .hbm, ⟨13, _⟩ => ⟨S4x1, .i32⟩
  | .hbm, ⟨14, _⟩ => ⟨S1024x4x64, .f32⟩
  | .hbm, ⟨15, _⟩ => ⟨S1024x256, .f32⟩
  | .hbm, ⟨16, _⟩ => ⟨S1024x8, .f32⟩
  | .hbm, ⟨17, _⟩ => ⟨S_, .i32⟩
  | .hbm, ⟨18, _⟩ => ⟨S_, .f32⟩
  | .hbm, ⟨19, _⟩ => ⟨S1024x256, .f32⟩
  | .hbm, ⟨20, _⟩ => ⟨S1024x2304, .f32⟩
  | .hbm, ⟨21, _⟩ => ⟨S1024x256, .f32⟩
  | .hbm, ⟨22, _⟩ => ⟨S1024x3072, .f32⟩
  | .hbm, ⟨23, _⟩ => ⟨S1024x3072, .bf16⟩
  | .hbm, ⟨24, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceInIdeal.lean ====
abbrev S8x2048x1024 : Shape := ⟨3, ![8, 2048, 1024]⟩
abbrev S1024 : Shape := ⟨1, ![1024]⟩
abbrev S1024x2824 : Shape := ⟨2, ![1024, 2824]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2824 : Shape := ⟨3, ![8, 2048, 2824]⟩
abbrev S16384x2824 : Shape := ⟨2, ![16384, 2824]⟩
abbrev S16384x256 : Shape := ⟨2, ![16384, 256]⟩
abbrev S16384x2x2x64 : Shape := ⟨4, ![16384, 2, 2, 64]⟩
abbrev S16384x2304 : Shape := ⟨2, ![16384, 2304]⟩
abbrev S16384x8 : Shape := ⟨2, ![16384, 8]⟩
abbrev S16384x248 : Shape := ⟨2, ![16384, 248]⟩
abbrev S16384x3072 : Shape := ⟨2, ![16384, 3072]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2824, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2824, .f32⟩
  | .hbm, ⟨20, _⟩ => ⟨S16384x2824, .f32⟩
  | .hbm, ⟨21, _⟩ => ⟨S16384x256, .f32⟩
  | .hbm, ⟨22, _⟩ => ⟨S16384x2x2x64, .f32⟩
  | .hbm, ⟨23, _⟩ => ⟨S16384x2x2x64, .f32⟩
  | .hbm, ⟨24, _⟩ => ⟨S16384x256, .f32⟩
  | .hbm, ⟨25, _⟩ => ⟨S16384x2304, .f32⟩
  | .hbm, ⟨26, _⟩ => ⟨S16384x256, .f32⟩
  | .hbm, ⟨27, _⟩ => ⟨S16384x8, .f32⟩
  | .hbm, ⟨28, _⟩ => ⟨S_, .f32⟩
  | .hbm, ⟨29, _⟩ => ⟨S16384x248, .f32⟩
  | .hbm, ⟨30, _⟩ => ⟨S16384x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== KernelOut.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S4 : Shape := ⟨1, ![4]⟩
abbrev S256x1024 : Shape := ⟨2, ![256, 1024]⟩
abbrev S4x64x1024 : Shape := ⟨3, ![4, 64, 1024]⟩
abbrev S_ : Shape := ⟨0, ![]⟩
abbrev S4x1 : Shape := ⟨2, ![4, 1]⟩
abbrev S768x1024 : Shape := ⟨2, ![768, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 23
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024x1024, .f32⟩
  | .hbm, ⟨6, _⟩ => ⟨S1024, .f32⟩
  | .hbm, ⟨7, _⟩ => ⟨S4, .i32⟩
  | .hbm, ⟨8, _⟩ => ⟨S4, .i1⟩
  | .hbm, ⟨9, _⟩ => ⟨S256x1024, .f32⟩
  | .hbm, ⟨10, _⟩ => ⟨S4x64x1024, .f32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S4, .i32⟩
  | .hbm, ⟨15, _⟩ => ⟨S4x1, .i32⟩
  | .hbm, ⟨16, _⟩ => ⟨S4x64x1024, .f32⟩
  | .hbm, ⟨17, _⟩ => ⟨S256x1024, .f32⟩
  | .hbm, ⟨18, _⟩ => ⟨S768x1024, .f32⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_c_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutIdeal.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S16384x2x2x64 : Shape := ⟨4, ![16384, 2, 2, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024x1024, .f32⟩
  | .hbm, ⟨6, _⟩ => ⟨S1024, .f32⟩
  | .hbm, ⟨7, _⟩ => ⟨S16384x2x2x64, .f32⟩
  | .hbm, ⟨8, _⟩ => ⟨S16384x2x2x64, .f32⟩
  | .hbm, ⟨9, _⟩ => ⟨S16384x256, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== KernelScan.lean ====
abbrev S1024x3072 : Shape := ⟨2, ![1024, 3072]⟩
abbrev S128x16x64 : Shape := ⟨3, ![128, 16, 64]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S128x1x1024 : Shape := ⟨3, ![128, 1, 1024]⟩
abbrev S128x1x2048 : Shape := ⟨3, ![128, 1, 2048]⟩
abbrev S16x1 : Shape := ⟨2, ![16, 1]⟩
abbrev S_ : Shape := ⟨0, ![]⟩
abbrev S16x64x1 : Shape := ⟨3, ![16, 64, 1]⟩
abbrev S16x16 : Shape := ⟨2, ![16, 16]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x2048 : Shape := ⟨2, ![256, 2048]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S2048x256 : Shape := ⟨2, ![2048, 256]⟩
abbrev S1x1024 : Shape := ⟨2, ![1, 1024]⟩
abbrev S8 : Shape := ⟨1, ![8]⟩
abbrev S8x1 : Shape := ⟨2, ![8, 1]⟩
abbrev S8x1024 : Shape := ⟨2, ![8, 1024]⟩
abbrev S1x256 : Shape := ⟨2, ![1, 256]⟩
abbrev S1x8x1024 : Shape := ⟨3, ![1, 8, 1024]⟩
abbrev S6x8x1024 : Shape := ⟨3, ![6, 8, 1024]⟩
abbrev S2x8x1024 : Shape := ⟨3, ![2, 8, 1024]⟩
abbrev S128x256 : Shape := ⟨2, ![128, 256]⟩
abbrev S16x1x2048 : Shape := ⟨3, ![16, 1, 2048]⟩
abbrev S128x2048 : Shape := ⟨2, ![128, 2048]⟩
abbrev S1x1x2048 : Shape := ⟨3, ![1, 1, 2048]⟩
abbrev S1x2048 : Shape := ⟨2, ![1, 2048]⟩
abbrev S128x1 : Shape := ⟨2, ![128, 1]⟩

abbrev nBuf : Space → Nat
  | .hbm => 215
  | .vmem => 18
  | .smem => 0
  | _ => 0

abbrev hbmTy0_0 (i : Nat) : BufTy := match i % 128 with
  | 0 => ⟨S1024x3072, .f32⟩
  | 1 => ⟨S128x16x64, .f32⟩
  | 2 => ⟨S128x16x64, .f32⟩
  | 3 => ⟨S16x64, .f32⟩
  | 4 => ⟨S16x64, .f32⟩
  | 5 => ⟨S16, .f32⟩
  | 6 => ⟨S16x64x16, .f32⟩
  | 7 => ⟨S16x64x16, .f32⟩
  | 8 => ⟨S16x16x64, .f32⟩
  | 9 => ⟨S16x16x64, .f32⟩
  | 10 => ⟨S256, .f32⟩
  | 11 => ⟨S256x256, .f32⟩
  | 12 => ⟨S256x256, .f32⟩
  | 13 => ⟨S128x1x1024, .f32⟩
  | 14 => ⟨S128x1x1024, .f32⟩
  | 15 => ⟨S128x1x2048, .f32⟩
  | 16 => ⟨S16, .f32⟩
  | 17 => ⟨S16x1, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S16x64, .f32⟩
  | 29 => ⟨S16x64, .f32⟩
  | 30 => ⟨S_, .f32⟩
  | 31 => ⟨S16x64, .f32⟩
  | 32 => ⟨S16x64, .f32⟩
  | 33 => ⟨S16x64, .f32⟩
  | 34 => ⟨S16x64, .f32⟩
  | 35 => ⟨S16x64, .f32⟩
  | 36 => ⟨S16x64, .f32⟩
  | 37 => ⟨S16x64, .f32⟩
  | 38 => ⟨S_, .f32⟩
  | 39 => ⟨S16x64, .f32⟩
  | 40 => ⟨S16x64, .f32⟩
  | 41 => ⟨S16x64, .f32⟩
  | 42 => ⟨S16x64, .f32⟩
  | 43 => ⟨S16x64, .f32⟩
  | 44 => ⟨S16x64x1, .f32⟩
  | 45 => ⟨S16x64x16, .f32⟩
  | 46 => ⟨S16x64x16, .f32⟩
  | 47 => ⟨S16x64x1, .f32⟩
  | 48 => ⟨S16x64x16, .f32⟩
  | 49 => ⟨S16x64x16, .f32⟩
  | 50 => ⟨S16x64x16, .f32⟩
  | 51 => ⟨S16x64x1, .f32⟩
  | 52 => ⟨S16x64x16, .f32⟩
  | 53 => ⟨S16x64x16, .f32⟩
  | 54 => ⟨S16x64x1, .f32⟩
  | 55 => ⟨S16x64x16, .f32⟩
  | 56 => ⟨S16x64x16, .f32⟩
  | 57 => ⟨S16x64x16, .f32⟩
  | 58 => ⟨S16x16, .i32⟩
  | 59 => ⟨S16x16, .i32⟩
  | 60 => ⟨S_, .i32⟩
  | 61 => ⟨S16x16, .i32⟩
  | 62 => ⟨S16x16, .i32⟩
  | 63 => ⟨S16x16, .i1⟩
  | 64 => ⟨S16x16, .f32⟩
  | 65 => ⟨S16x16x64, .f32⟩
  | 66 => ⟨S16x16x1x64, .f32⟩
  | 67 => ⟨S16x1x16x1, .f32⟩
  | 68 => ⟨S16x16x16x64, .f32⟩
  | 69 => ⟨S16x16x16x64, .f32⟩
  | 70 => ⟨S16x16x16x64, .f32⟩
  | 71 => ⟨S256x1024, .f32⟩
  | 72 => ⟨S16x16x64, .f32⟩
  | 73 => ⟨S16x16x1x64, .f32⟩
  | 74 => ⟨S16x1x16x1, .f32⟩
  | 75 => ⟨S16x16x16x64, .f32⟩
  | 76 => ⟨S16x16x16x64, .f32⟩
  | 77 => ⟨S16x16x16x64, .f32⟩
  | 78 => ⟨S256x1024, .f32⟩
  | 79 => ⟨S256x2048, .f32⟩
  | 80 => ⟨S256x2048, .bf16⟩
  | 81 => ⟨S16x64x16, .f32⟩
  | 82 => ⟨S16x64x1x16, .f32⟩
  | 83 => ⟨S16x1x16x1, .f32⟩
  | 84 => ⟨S16x64x16x16, .f32⟩
  | 85 => ⟨S16x64x16x16, .f32⟩
  | 86 => ⟨S16x64x16x16, .f32⟩
  | 87 => ⟨S1024x256, .f32⟩
  | 88 => ⟨S16x64x16, .f32⟩
  | 89 => ⟨S16x64x1x16, .f32⟩
  | 90 => ⟨S16x1x16x1, .f32⟩
  | 91 => ⟨S16x64x16x16, .f32⟩
  | 92 => ⟨S16x64x16x16, .f32⟩
  | 93 => ⟨S16x64x16x16, .f32⟩
  | 94 => ⟨S1024x256, .f32⟩
  | 95 => ⟨S1024x256, .f32⟩
  | 96 => ⟨S2048x256, .f32⟩
  | 97 => ⟨S2048x256, .bf16⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S1024x3072, .f32⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S8, .i32⟩
  | 15 => ⟨S8x1, .i32⟩
  | 16 => ⟨S_, .i32⟩
  | 17 => ⟨S8x1, .i32⟩
  | 18 => ⟨S8x1, .i1⟩
  | 19 => ⟨S_, .f32⟩
  | 20 => ⟨S_, .f32⟩
  | 21 => ⟨S8x1024, .i1⟩
  | 22 => ⟨S8x1024, .f32⟩
  | 23 => ⟨S8x1024, .f32⟩
  | 24 => ⟨S8x1024, .f32⟩
  | 25 => ⟨S_, .i32⟩
  | 26 => ⟨S8x1, .i32⟩
  | 27 => ⟨S8x1, .i1⟩
  | 28 => ⟨S_, .f32⟩
  | 29 => ⟨S_, .f32⟩
  | 30 => ⟨S8x1024, .i1⟩
  | 31 => ⟨S8x1024, .f32⟩
  | 32 => ⟨S8x1024, .f32⟩
  | 33 => ⟨S8x1024, .f32⟩
  | 34 => ⟨S_, .i32⟩
  | 35 => ⟨S8x1, .i32⟩
  | 36 => ⟨S8x1, .i1⟩
  | 37 => ⟨S_, .f32⟩
  | 38 => ⟨S_, .f32⟩
  | 39 => ⟨S8x1024, .i1⟩
  | 40 => ⟨S8x1024, .f32⟩
  | 41 => ⟨S8x1024, .f32⟩
  | 42 => ⟨S8x1024, .f32⟩
  | 43 => ⟨S_, .i32⟩
  | 44 => ⟨S8x1, .i32⟩
  | 45 => ⟨S8x1, .i1⟩
  | 46 => ⟨S_, .f32⟩
  | 47 => ⟨S_, .f32⟩
  | 48 => ⟨S8x1024, .i1⟩
  | 49 => ⟨S8x1024, .f32⟩
  | 50 => ⟨S8x1024, .f32⟩
  | 51 => ⟨S8x1024, .f32⟩
  | 52 => ⟨S_, .i32⟩
  | 53 => ⟨S8x1, .i32⟩
  | 54 => ⟨S8x1, .i1⟩
  | 55 => ⟨S_, .f32⟩
  | 56 => ⟨S_, .f32⟩
  | 57 => ⟨S8x1024, .i1⟩
  | 58 => ⟨S8x1024, .f32⟩
  | 59 => ⟨S8x1024, .f32⟩
  | 60 => ⟨S8x1024, .f32⟩
  | 61 => ⟨S_, .i32⟩
  | 62 => ⟨S8x1, .i32⟩
  | 63 => ⟨S8x1, .i1⟩
  | 64 => ⟨S_, .f32⟩
  | 65 => ⟨S_, .f32⟩
  | 66 => ⟨S8x1024, .i1⟩
  | 67 => ⟨S8x1024, .f32⟩
  | 68 => ⟨S8x1024, .f32⟩
  | 69 => ⟨S8x1024, .f32⟩
  | 70 => ⟨S8x1024, .f32⟩
  | 71 => ⟨S8x1024, .f32⟩
  | 72 => ⟨S1x256, .f32⟩
  | 73 => ⟨S256x256, .bf16⟩
  | 74 => ⟨S256x256, .bf16⟩
  | 75 => ⟨S1x8x1024, .f32⟩
  | 76 => ⟨S1x8x1024, .f32⟩
  | 77 => ⟨S1x8x1024, .f32⟩
  | 78 => ⟨S1x8x1024, .f32⟩
  | 79 => ⟨S1x8x1024, .f32⟩
  | 80 => ⟨S1x8x1024, .f32⟩
  | 81 => ⟨S6x8x1024, .f32⟩
  | 82 => ⟨S1x8x1024, .f32⟩
  | 83 => ⟨S1x8x1024, .f32⟩
  | 84 => ⟨S2x8x1024, .f32⟩
  | 85 => ⟨S1024x256, .f32⟩
  | 86 => ⟨S128x1x2048, .f32⟩
  | _ => ⟨S1024x3072, .f32⟩

abbrev hbmTy (i : Nat) : BufTy := match i / 128 with
  | 0 => hbmTy0_0 i
  | 1 => hbmTy0_1 i
  | _ => ⟨S1024x3072, .f32⟩

abbrev bufTy : (tb : Table) → Fin (tcTables nBuf tb) → BufTy
  | .hbm, ⟨i, _⟩ => hbmTy i
  | .local _ .vmem, ⟨0, _⟩ => ⟨S128x256, .f32⟩
  | .local _ .vmem, ⟨1, _⟩ => ⟨S128x256, .f32⟩
  | .local _ .vmem, ⟨2, _⟩ => ⟨S16x1x2048, .f32⟩
  | .local _ .vmem, ⟨3, _⟩ => ⟨S16x1x2048, .f32⟩
  | .local _ .vmem, ⟨4, _⟩ => ⟨S256x2048, .bf16⟩
  | .local _ .vmem, ⟨5, _⟩ => ⟨S2048x256, .bf16⟩
  | .local _ .vmem, ⟨6, _⟩ => ⟨S1x256, .f32⟩
  | .local _ .vmem, ⟨7, _⟩ => ⟨S256x256, .bf16⟩
  | .local _ .vmem, ⟨8, _⟩ => ⟨S256x256, .bf16⟩
  | .local _ .vmem, ⟨9, _⟩ => ⟨S6x8x1024, .f32⟩
  | .local _ .vmem, ⟨10, _⟩ => ⟨S2x8x1024, .f32⟩
  | .local _ .vmem, ⟨11, _⟩ => ⟨S128x256, .f32⟩
  | .local _ .vmem, ⟨12, _⟩ => ⟨S128x256, .f32⟩
  | .local _ .vmem, ⟨13, _⟩ => ⟨S16x1x2048, .f32⟩
  | .local _ .vmem, ⟨14, _⟩ => ⟨S16x1x2048, .f32⟩
  | .local _ .vmem, ⟨15, _⟩ => ⟨S128x2048, .f32⟩
  | .local _ .vmem, ⟨16, _⟩ => ⟨S16x1x2048, .f32⟩
  | .local _ .vmem, ⟨17, _⟩ => ⟨S16x1x2048, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_c_1 : Ref sig .tc := ⟨.hbm, 144, rfl⟩
abbrev main_v128 : Ref sig .tc := ⟨.hbm, 145, rfl⟩
abbrev main_v129 : Ref sig .tc := ⟨.hbm, 146, rfl⟩
abbrev main_cst_2 : Ref sig .tc := ⟨.hbm, 147, rfl⟩
abbrev main_call0_v0 : Ref sig .tc := ⟨.hbm, 148, rfl⟩
abbrev main_call0_v1 : Ref sig .tc := ⟨.hbm, 149, rfl⟩
abbrev main_call0_v2 : Ref sig .tc := ⟨.hbm, 150, rfl⟩
abbrev main_call0_v3 : Ref sig .tc := ⟨.hbm, 151, rfl⟩
abbrev main_v130 : Ref sig .tc := ⟨.hbm, 152, rfl⟩
abbrev main_c_3 : Ref sig .tc := ⟨.hbm, 153, rfl⟩
abbrev main_v131 : Ref sig .tc := ⟨.hbm, 154, rfl⟩
abbrev main_v132 : Ref sig .tc := ⟨.hbm, 155, rfl⟩
abbrev main_cst_4 : Ref sig .tc := ⟨.hbm, 156, rfl⟩
abbrev main_call1_v0 : Ref sig .tc := ⟨.hbm, 157, rfl⟩
abbrev main_call1_v1 : Ref sig .tc := ⟨.hbm, 158, rfl⟩
abbrev main_call1_v2 : Ref sig .tc := ⟨.hbm, 159, rfl⟩
abbrev main_call1_v3 : Ref sig .tc := ⟨.hbm, 160, rfl⟩
abbrev main_v133 : Ref sig .tc := ⟨.hbm, 161, rfl⟩
abbrev main_c_5 : Ref sig .tc := ⟨.hbm, 162, rfl⟩
abbrev main_v134 : Ref sig .tc := ⟨.hbm, 163, rfl⟩
abbrev main_v135 : Ref sig .tc := ⟨.hbm, 164, rfl⟩
abbrev main_cst_6 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_v136 : Ref sig .tc := ⟨.hbm, 170, rfl⟩
abbrev main_c_7 : Ref sig .tc := ⟨.hbm, 171, rfl⟩
abbrev main_v137 : Ref sig .tc := ⟨.hbm, 172, rfl⟩
abbrev main_v138 : Ref sig .tc := ⟨.hbm, 173, rfl⟩
abbrev main_cst_8 : Ref sig .tc := ⟨.hbm, 174, rfl⟩
abbrev main_call3_v0 : Ref sig .tc := ⟨.hbm, 175, rfl⟩
abbrev main_call3_v1 : Ref sig .tc := ⟨.hbm, 176, rfl⟩
abbrev main_call3_v2 : Ref sig .tc := ⟨.hbm, 177, rfl⟩
abbrev main_call3_v3 : Ref sig .tc := ⟨.hbm, 178, rfl⟩
abbrev main_v139 : Ref sig .tc := ⟨.hbm, 179, rfl⟩
abbrev main_c_9 : Ref sig .tc := ⟨.hbm, 180, rfl⟩
abbrev main_v140 : Ref sig .tc := ⟨.hbm, 181, rfl⟩
abbrev main_v141 : Ref sig .tc := ⟨.hbm, 182, rfl⟩
abbrev main_cst_10 : Ref sig .tc := ⟨.hbm, 183, rfl⟩
abbrev main_call4_v0 : Ref sig .tc := ⟨.hbm, 184, rfl⟩
abbrev main_call4_v1 : Ref sig .tc := ⟨.hbm, 185, rfl⟩
abbrev main_call4_v2 : Ref sig .tc := ⟨.hbm, 186, rfl⟩
abbrev main_call4_v3 : Ref sig .tc := ⟨.hbm, 187, rfl⟩
abbrev main_v142 : Ref sig .tc := ⟨.hbm, 188, rfl⟩
abbrev main_c_11 : Ref sig .tc := ⟨.hbm, 189, rfl⟩
abbrev main_v143 : Ref sig .tc := ⟨.hbm, 190, rfl⟩
abbrev main_v144 : Ref sig .tc := ⟨.hbm, 191, rfl⟩
abbrev main_cst_12 : Ref sig .tc := ⟨.hbm, 192, rfl⟩
abbrev main_call5_v0 : Ref sig .tc := ⟨.hbm, 193, rfl⟩
abbrev main_call5_v1 : Ref sig .tc := ⟨.hbm, 194, rfl⟩
abbrev main_call5_v2 : Ref sig .tc := ⟨.hbm, 195, rfl⟩
abbrev main_call5_v3 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161_0 : Ref sig .tc := ⟨.hbm, 213, rfl⟩
abbrev main_v161_1 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32_6 : BitVec 32 := 0#32
  let c16_i32 : BitVec 32 := 16#32
  let v11 : BitVec 32 := Scalar.addi c0_i32_6 c16_i32
  let c1_i32 : BitVec 32 := 1#32
  ⟨c0_i32_6, v11, c1_i32⟩
def k0_mult1 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c8_i32_37 : BitVec 32 := 8#32
  let v78 : BitVec 32 := Scalar.muli arg16 c8_i32_37
  v78
def k0_off1 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c8_i32_37 : BitVec 32 := 8#32
  let v78 : BitVec 32 := Scalar.muli arg16 c8_i32_37
  let v79 : BitVec 32 := v78
  let v80 : Index := Scalar.indexCast v79
  let c0_38 : Index := 0#32
  ![v80.toNat, 0]
def k0_off2 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c8_i32_37 : BitVec 32 := 8#32
  let v78 : BitVec 32 := Scalar.muli arg16 c8_i32_37
  let v79 : BitVec 32 := v78
  let v82 : Index := Scalar.indexCast v79
  let c1024 : Index := 1024#32
  ![v82.toNat, 1024]
def k0_off3 (k0_t1 : Fin k0_t1_loop.trips) : Fin 3 → Nat :=
  let c0_i32_6 : BitVec 32 := 0#32
  let c1_i32 : BitVec 32 := 1#32
  let arg16 : BitVec 32 := Scf.iv c0_i32_6 c1_i32 k0_t1
  let c0_i32_31 : BitVec 32 := 0#32
  let v62 : BitVec 1 := Scalar.cmpi .sgt arg16 c0_i32_31
  let v63 : BitVec 32 := Scalar.extui v62
  let c0_i32_32 : BitVec 32 := 0#32
  let v64 : BitVec 1 := Scalar.cmpi .slt arg16 c0_i32_32
  let v65 : BitVec 32 := Scalar.extui v64
  let v66 : BitVec 32 := Scalar.subi v63 v65
  let c1_i32_30 : BitVec 32 := 1#32
  let c0_i32_33 : BitVec 32 := 0#32
  let v67 : BitVec 1 := Scalar.cmpi .sgt c1_i32_30 c0_i32_33
  let v68 : BitVec 32 := Scalar.extui v67
  let c0_i32_34 : BitVec 32 := 0#32
  let v69 : BitVec 1 := Scalar.cmpi .slt c1_i32_30 c0_i32_34
  let v70 : BitVec 32 := Scalar.extui v69
  let v71 : BitVec 32 := Scalar.subi v68 v70
  let v72 : BitVec 1 := Scalar.cmpi .ne v66 v71
  let v73 : BitVec 32 := Scalar.remsi arg16 c1_i32_30
  let c0_i32_35 : BitVec 32 := 0#32
  let v74 : BitVec 1 := Scalar.cmpi .ne v73 c0_i32_35
  let v75 : BitVec 1 := Scalar.andi v72 v74
  let v61 : BitVec 32 := Scalar.divsi arg16 c1_i32_30
  let c1_i32_36 : BitVec 32 := 1#32
  let v76 : BitVec 32 := Scalar.subi v61 c1_i32_36
  let v77 : BitVec 32 := Scalar.select v75 v76 v61
  let v126 : Index := Scalar.indexCast v77
  let c0_57 : Index := 0#32
  let c0_58 : Index := 0#32
  ![v126.toNat, 0, 0]
def k0_cond2 (i : grid0.Coords) : BitVec 1 :=
  let arg1 : BitVec 32 := BitVec.ofNat 32 (i 1).val
  let c0_i32_28 : BitVec 32 := 0#32
  let v58 : BitVec 1 := Scalar.cmpi .eq arg1 c0_i32_28
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S6x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceScanIdeal.lean ====
abbrev S1024x3072 : Shape := ⟨2, ![1024, 3072]⟩
abbrev S128x16x64 : Shape := ⟨3, ![128, 16, 64]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S128x8x3072 : Shape := ⟨3, ![128, 8, 3072]⟩
abbrev S128x4x256 : Shape := ⟨3, ![128, 4, 256]⟩
abbrev S16x1 : Shape := ⟨2, ![16, 1]⟩
abbrev S_ : Shape := ⟨0, ![]⟩
abbrev S16x64x1 : Shape := ⟨3, ![16, 64, 1]⟩
abbrev S128x4x16x16 : Shape := ⟨4, ![128, 4, 16, 16]⟩
abbrev S16x64x128x4 : Shape := ⟨4, ![16, 64, 128, 4]⟩
abbrev S128x4x16x64 : Shape := ⟨4, ![128, 4, 16, 64]⟩
abbrev S1x16x64 : Shape := ⟨3, ![1, 16, 64]⟩
abbrev S128x1x16x64 : Shape := ⟨4, ![128, 1, 16, 64]⟩
abbrev S16x16x128x4 : Shape := ⟨4, ![16, 16, 128, 4]⟩
abbrev S1x1x256 : Shape := ⟨3, ![1, 1, 256]⟩
abbrev S128x8x256 : Shape := ⟨3, ![128, 8, 256]⟩
abbrev S1024x256 : Shape := ⟨2, ![1024, 256]⟩
abbrev S128x1x1024 : Shape := ⟨3, ![128, 1, 1024]⟩
abbrev S128x1x2048 : Shape := ⟨3, ![128, 1, 2048]⟩

abbrev nBuf : Space → Nat
  | .hbm => 197
  | .vmem => 0
  | .smem => 0
  | _ => 0

abbrev hbmTy0_0 (i : Nat) : BufTy := match i % 128 with
  | 0 => ⟨S1024x3072, .f32⟩
  | 1 => ⟨S128x16x64, .f32⟩
  | 2 => ⟨S128x16x64, .f32⟩
  | 3 => ⟨S16x64, .f32⟩
  | 4 => ⟨S16x64, .f32⟩
  | 5 => ⟨S16, .f32⟩
  | 6 => ⟨S16x64x16, .f32⟩
  | 7 => ⟨S16x64x16, .f32⟩
  | 8 => ⟨S16x16x64, .f32⟩
  | 9 => ⟨S16x16x64, .f32⟩
  | 10 => ⟨S256, .f32⟩
  | 11 => ⟨S256x256, .f32⟩
  | 12 => ⟨S256x256, .f32⟩
  | 13 => ⟨S128x8x3072, .f32⟩
  | 14 => ⟨S128x4x256, .f32⟩
  | 15 => ⟨S16, .f32⟩
  | 16 => ⟨S16x1, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S16x64, .f32⟩
  | 29 => ⟨S_, .f32⟩
  | 30 => ⟨S16x64, .f32⟩
  | 31 => ⟨S16x64, .f32⟩
  | 32 => ⟨S16x64, .f32⟩
  | 33 => ⟨S16x64, .f32⟩
  | 34 => ⟨S16x64, .f32⟩
  | 35 => ⟨S16x64, .f32⟩
  | 36 => ⟨S16x64, .f32⟩
  | 37 => ⟨S_, .f32⟩
  | 38 => ⟨S16x64, .f32⟩
  | 39 => ⟨S16x64, .f32⟩
  | 40 => ⟨S16x64, .f32⟩
  | 41 => ⟨S16x64, .f32⟩
  | 42 => ⟨S16x64, .f32⟩
  | 43 => ⟨S16x64x1, .f32⟩
  | 44 => ⟨S16x64x16, .f32⟩
  | 45 => ⟨S16x64x16, .f32⟩
  | 46 => ⟨S16x64x1, .f32⟩
  | 47 => ⟨S16x64x16, .f32⟩
  | 48 => ⟨S16x64x16, .f32⟩
  | 49 => ⟨S16x64x16, .f32⟩
  | 50 => ⟨S16x64x1, .f32⟩
  | 51 => ⟨S16x64x16, .f32⟩
  | 52 => ⟨S16x64x16, .f32⟩
  | 53 => ⟨S16x64x1, .f32⟩
  | 54 => ⟨S16x64x16, .f32⟩
  | 55 => ⟨S16x64x16, .f32⟩
  | 56 => ⟨S16x64x16, .f32⟩
  | 57 => ⟨S128x4x16x16, .f32⟩
  | 58 => ⟨S16x64x128x4, .f32⟩
  | 59 => ⟨S128x4x16x64, .f32⟩
  | 60 => ⟨S16x64x128x4, .f32⟩
  | 61 => ⟨S128x4x16x64, .f32⟩
  | 62 => ⟨S1x16x64, .f32⟩
  | 63 => ⟨S128x16x64, .f32⟩
  | 64 => ⟨S128x16x64, .f32⟩
  | 65 => ⟨S1x16x64, .f32⟩
  | 66 => ⟨S128x16x64, .f32⟩
  | 67 => ⟨S128x16x64, .f32⟩
  | 68 => ⟨S128x16x64, .f32⟩
  | 69 => ⟨S128x1x16x64, .f32⟩
  | 70 => ⟨S128x16x64, .f32⟩
  | 71 => ⟨S128x16x64, .f32⟩
  | 72 => ⟨S1x16x64, .f32⟩
  | 73 => ⟨S128x16x64, .f32⟩
  | 74 => ⟨S128x16x64, .f32⟩
  | 75 => ⟨S1x16x64, .f32⟩
  | 76 => ⟨S128x16x64, .f32⟩
  | 77 => ⟨S128x16x64, .f32⟩
  | 78 => ⟨S128x16x64, .f32⟩
  | 79 => ⟨S128x1x16x64, .f32⟩
  | 80 => ⟨S128x16x64, .f32⟩
  | 81 => ⟨S128x16x64, .f32⟩
  | 82 => ⟨S1x16x64, .f32⟩
  | 83 => ⟨S128x16x64, .f32⟩
  | 84 => ⟨S128x16x64, .f32⟩
  | 85 => ⟨S1x16x64, .f32⟩
  | 86 => ⟨S128x16x64, .f32⟩
  | 87 => ⟨S128x16x64, .f32⟩
  | 88 => ⟨S128x16x64, .f32⟩
  | 89 => ⟨S128x1x16x64, .f32⟩
  | 90 => ⟨S128x16x64, .f32⟩
  | 91 => ⟨S128x16x64, .f32⟩
  | 92 => ⟨S1x16x64, .f32⟩
  | 93 => ⟨S128x16x64, .f32⟩
  | 94 => ⟨S128x16x64, .f32⟩
  | 95 => ⟨S1x16x64, .f32⟩
  | 96 => ⟨S128x16x64, .f32⟩
  | 97 => ⟨S128x16x64, .f32⟩
  | 98 => ⟨S128x16x64, .f32⟩
  | 99 => ⟨S128x1x16x64, .f32⟩
  | 100 => ⟨S128x16x64, .f32⟩
  | 101 => ⟨S128x16x64, .f32⟩
  | 102 => ⟨S1x16x64, .f32⟩
  | 103 => ⟨S128x16x64, .f32⟩
  | 104 => ⟨S128x16x64, .f32⟩
  | 105 => ⟨S1x16x64, .f32⟩
  | 106 => ⟨S128x16x64, .f32⟩
  | 107 => ⟨S128x16x64, .f32⟩
  | 108 => ⟨S128x16x64, .f32⟩
  | 109 => ⟨S128x1x16x64, .f32⟩
  | 110 => ⟨S128x16x64, .f32⟩
  | 111 => ⟨S128x16x64, .f32⟩
  | 112 => ⟨S1x16x64, .f32⟩
  | 113 => ⟨S128x16x64, .f32⟩
  | 114 => ⟨S128x16x64, .f32⟩
  | 115 => ⟨S1x16x64, .f32⟩
  | 116 => ⟨S128x16x64, .f32⟩
  | 117 => ⟨S128x16x64, .f32⟩
  | 118 => ⟨S128x16x64, .f32⟩
  | 119 => ⟨S128x1x16x64, .f32⟩
  | 120 => ⟨S128x16x64, .f32⟩
  | 121 => ⟨S128x16x64, .f32⟩
  | 122 => ⟨S1x16x64, .f32⟩
  | 123 => ⟨S128x16x64, .f32⟩
  | 124 => ⟨S128x16x64, .f32⟩
  | 125 => ⟨S1x16x64, .f32⟩
  | 126 => ⟨S128x16x64, .f32⟩
  | 127 => ⟨S128x16x64, .f32⟩
  | _ => ⟨S1024x3072, .f32⟩

abbrev hbmTy0_1 (i : Nat) : BufTy := match i % 128 with
  | 0 => ⟨S128x16x64, .f32⟩
  | 1 => ⟨S128x1x16x64, .f32⟩
  | 2 => ⟨S128x16x64, .f32⟩
  | 3 => ⟨S128x16x64, .f32⟩
  | 4 => ⟨S1x16x64, .f32⟩
  | 5 => ⟨S128x16x64, .f32⟩
  | 6 => ⟨S128x16x64, .f32⟩
  | 7 => ⟨S1x16x64, .f32⟩
  | 8 => ⟨S128x16x64, .f32⟩
  | 9 => ⟨S128x16x64, .f32⟩
  | 10 => ⟨S128x16x64, .f32⟩
  | 11 => ⟨S128x1x16x64, .f32⟩
  | 12 => ⟨S128x16x64, .f32⟩
  | 13 => ⟨S128x16x64, .f32⟩
  | 14 => ⟨S128x1x16x64, .f32⟩
  | 15 => ⟨S128x1x16x64, .f32⟩
  | 16 => ⟨S128x1x16x64, .f32⟩
  | 17 => ⟨S128x1x16x64, .f32⟩
  | 18 => ⟨S128x4x16x64, .f32⟩
  | 19 => ⟨S16x16x128x4, .f32⟩
  | 20 => ⟨S128x4x16x16, .f32⟩
  | 21 => ⟨S128x1x16x64, .f32⟩
  | 22 => ⟨S128x1x16x64, .f32⟩
  | 23 => ⟨S128x1x16x64, .f32⟩
  | 24 => ⟨S128x1x16x64, .f32⟩
  | 25 => ⟨S128x4x16x64, .f32⟩
  | 26 => ⟨S16x16x128x4, .f32⟩
  | 27 => ⟨S128x4x16x16, .f32⟩
  | 28 => ⟨S128x4x16x16, .f32⟩
  | 29 => ⟨S128x4x256, .f32⟩
  | 30 => ⟨S1x1x256, .f32⟩
  | 31 => ⟨S128x4x256, .f32⟩
  | 32 => ⟨S128x4x256, .f32⟩
  | 33 => ⟨S128x4x256, .f32⟩
  | 34 => ⟨S128x4x256, .f32⟩
  | 35 => ⟨S128x4x256, .f32⟩
  | 36 => ⟨S_, .f32⟩
  | 37 => ⟨S128x4x256, .f32⟩
  | 38 => ⟨S128x4x256, .f32⟩
  | 39 => ⟨S128x4x256, .f32⟩
  | 40 => ⟨S_, .f32⟩
  | 41 => ⟨S128x4x256, .f32⟩
  | 42 => ⟨S128x4x256, .f32⟩
  | 43 => ⟨S128x4x256, .f32⟩
  | 44 => ⟨S_, .f32⟩
  | 45 => ⟨S128x4x256, .f32⟩
  | 46 => ⟨S128x4x256, .f32⟩
  | 47 => ⟨S_, .f32⟩
  | 48 => ⟨S128x4x256, .f32⟩
  | 49 => ⟨S128x4x256, .f32⟩
  | 50 => ⟨S128x4x256, .f32⟩
  | 51 => ⟨S128x4x256, .f32⟩
  | 52 => ⟨S128x4x256, .f32⟩
  | 53 => ⟨S128x4x256, .f32⟩
  | 54 => ⟨S128x4x256, .f32⟩
  | 55 => ⟨S_, .f32⟩
  | 56 => ⟨S128x4x256, .f32⟩
  | 57 => ⟨S128x4x256, .f32⟩
  | 58 => ⟨S_, .f32⟩
  | 59 => ⟨S128x4x256, .f32⟩
  | 60 => ⟨S128x4x256, .f32⟩
  | 61 => ⟨S128x4x256, .f32⟩
  | 62 => ⟨S_, .i32⟩
  | 63 => ⟨S_, .f32⟩
  | 64 => ⟨S128x8x256, .f32⟩
  | 65 => ⟨S1024x256, .f32⟩
  | 66 => ⟨S128x1x1024, .f32⟩
  | 67 => ⟨S128x1x1024, .f32⟩
  | 68 => ⟨S128x1x2048, .f32⟩
  | _ => ⟨S1024x3072, .f32⟩

abbrev hbmTy (i : Nat) : BufTy := match i / 128 with
  | 0 => hbmTy0_0 i
  | 1 => hbmTy0_1 i
  | _ => ⟨S1024x3072, .f32⟩

abbrev bufTy : (tb : Table) → Fin (tcTables nBuf tb) → BufTy
  | .hbm, ⟨i, _⟩ => hbmTy i
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_cst_1 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_cst_2 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_cst_3 : Ref sig .tc := ⟨.hbm, 172, rfl⟩
abbrev main_v155 : Ref sig .tc := ⟨.hbm, 173, rfl⟩
abbrev main_v156 : Ref sig .tc := ⟨.hbm, 174, rfl⟩
abbrev main_cst_4 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_cst_5 : Ref sig .tc := ⟨.hbm, 183, rfl⟩
abbrev main_v164 : Ref sig .tc := ⟨.hbm, 184, rfl⟩
abbrev main_v165 : Ref sig .tc := ⟨.hbm, 185, rfl⟩
abbrev main_cst_6 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_c : Ref sig .tc := ⟨.hbm, 190, rfl⟩
abbrev main_call0_v0 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩

abbrev nD : Nat := 1
abbrev τ : Topo := Topo.v7x

variable {F : FTy → Type} [FloatOps F]
-- ==== KernelShift.lean ====
abbrev S16384x3072 : Shape := ⟨2, ![16384, 3072]⟩
abbrev S4 : Shape := ⟨1, ![4]⟩
abbrev S256x192 : Shape := ⟨2, ![256, 192]⟩
abbrev S_ : Shape := ⟨0, ![]⟩
abbrev S4x1 : Shape := ⟨2, ![4, 1]⟩
abbrev S4x64 : Shape := ⟨2, ![4, 64]⟩
abbrev S256 : Shape := ⟨1, ![256]⟩
abbrev S256x1 : Shape := ⟨2, ![256, 1]⟩
abbrev S8x128x128 : Shape := ⟨3, ![8, 128, 128]⟩
abbrev S16384x256 : Shape := ⟨2, ![16384, 256]⟩
abbrev S256x256 : Shape := ⟨2, ![256, 256]⟩
abbrev S1x128x128 : Shape := ⟨3, ![1, 128, 128]⟩
abbrev S192x128 : Shape := ⟨2, ![192, 128]⟩
abbrev S1x128 : Shape := ⟨2, ![1, 128]⟩
abbrev S64x1 : Shape := ⟨2, ![64, 1]⟩
abbrev S128x128 : Shape := ⟨2, ![128, 128]⟩
abbrev S64x256 : Shape := ⟨2, ![64, 256]⟩
abbrev S64x128 : Shape := ⟨2, ![64, 128]⟩
abbrev S256x128 : Shape := ⟨2, ![256, 128]⟩

abbrev nBuf : Space → Nat
  | .hbm => 21
  | .vmem => 18
  | .smem => 0
  | _ => 0

abbrev bufTy : (tb : Table) → Fin (tcTables nBuf tb) → BufTy
  | .hbm, ⟨0, _⟩ => ⟨S16384x3072, .f32⟩
  | .hbm, ⟨1, _⟩ => ⟨S4, .f32⟩
  | .hbm, ⟨2, _⟩ => ⟨S4, .i32⟩
  | .hbm, ⟨3, _⟩ => ⟨S4, .i1⟩
  | .hbm, ⟨4, _⟩ => ⟨S256x192, .f32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S4, .i32⟩
  | .hbm, ⟨9, _⟩ => ⟨S4x1, .i32⟩
  | .hbm, ⟨10, _⟩ => ⟨S4, .f32⟩
  | .hbm, ⟨11, _⟩ => ⟨S4x64, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S8x128x128, .f32⟩
  | .hbm, ⟨16, _⟩ => ⟨S_, .f32⟩
  | .hbm, ⟨17, _⟩ => ⟨S8x128x128, .f32⟩
  | .hbm, ⟨18, _⟩ => ⟨S16384x256, .f32⟩
  | .hbm, ⟨19, _⟩ => ⟨S8x128x128, .f32⟩
  | .hbm, ⟨20, _⟩ => ⟨S8x128x128, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S256x192, .f32⟩
  | .local _ .vmem, ⟨9, _⟩ => ⟨S256x1, .f32⟩
  | .local _ .vmem, ⟨10, _⟩ => ⟨S256x256, .f32⟩
  | .local _ .vmem, ⟨11, _⟩ => ⟨S256x256, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S192x128, .f32⟩
  | .local _ .vmem, ⟨17, _⟩ => ⟨S192x128, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_3 : BitVec 32 := 0#32
  let c4_i32 : BitVec 32 := 4#32
  let v16 : BitVec 32 := Scalar.addi c0_i32_3 c4_i32
  let c1_i32_4 : BitVec 32 := 1#32
  ⟨c0_i32_3, v16, c1_i32_4⟩
def k0_mult1 (k0_t1 : Fin k0_t1_loop.trips) : BitVec 32 :=
  let c0_i32_3 : BitVec 32 := 0#32
  let c1_i32_4 : BitVec 32 := 1#32
  let arg13 : BitVec 32 := Scf.iv c0_i32_3 c1_i32_4 k0_t1
  let c64_i32 : BitVec 32 := 64#32
  let v34 : BitVec 32 := Scalar.muli arg13 c64_i32
  v34
def k0_off1 (k0_t1 : Fin k0_t1_loop.trips) : Fin 3 → Nat :=
  let c0_i32_3 : BitVec 32 := 0#32
  let c1_i32_4 : BitVec 32 := 1#32
  let arg13 : BitVec 32 := Scf.iv c0_i32_3 c1_i32_4 k0_t1
  let c0_i32_7 : BitVec 32 := 0#32
  let v18 : BitVec 1 := Scalar.cmpi .sgt arg13 c0_i32_7
  let v19 : BitVec 32 := Scalar.extui v18
  let c0_i32_8 : BitVec 32 := 0#32
  let v20 : BitVec 1 := Scalar.cmpi .slt arg13 c0_i32_8
  let v21 : BitVec 32 := Scalar.extui v20
  let v22 : BitVec 32 := Scalar.subi v19 v21
  let c4_i32_6 : BitVec 32 := 4#32
  let c0_i32_9 : BitVec 32 := 0#32
  let v23 : BitVec 1 := Scalar.cmpi .sgt c4_i32_6 c0_i32_9
  let v24 : BitVec 32 := Scalar.extui v23
  let c0_i32_10 : BitVec 32 := 0#32
  let v25 : BitVec 1 := Scalar.cmpi .slt c4_i32_6 c0_i32_10
  let v26 : BitVec 32 := Scalar.extui v25
  let v27 : BitVec 32 := Scalar.subi v24 v26
  let v28 : BitVec 1 := Scalar.cmpi .ne v22 v27
  let v29 : BitVec 32 := Scalar.remsi arg13 c4_i32_6
  let c0_i32_11 : BitVec 32 := 0#32
  let v30 : BitVec 1 := Scalar.cmpi .ne v29 c0_i32_11
  let v31 : BitVec 1 := Scalar.andi v28 v30
  let v17 : BitVec 32 := Scalar.divsi arg13 c4_i32_6
  let c1_i32_12 : BitVec 32 := 1#32
  let v32 : BitVec 32 := Scalar.subi v17 c1_i32_12
  let v33 : BitVec 32 := Scalar.select v31 v32 v17
  let v54 : Index := Scalar.indexCast v33
  let c0 : Index := 0#32
  let c0_20 : Index := 0#32
  ![v54.toNat, 0, 0]
def k0_off2 (k0_t1 : Fin k0_t1_loop.trips) : Fin 2 → Nat :=
  let c0_i32_3 : BitVec 32 := 0#32
  let c1_i32_4 : BitVec 32 := 1#32
  let arg13 : BitVec 32 := Scf.iv c0_i32_3 c1_i32_4 k0_t1
  let c64_i32 : BitVec 32 := 64#32
  let v34 : BitVec 32 := Scalar.muli arg13 c64_i32
  let v35 : BitVec 32 := v34
  let v66 : Index := Scalar.indexCast v35
  let c0_27 : Index := 0#32
  ![v66.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c10_i32 : BitVec 32 := 10#32
  let c0_i32 : BitVec 32 := 0#32
  ![v1.toNat, c10_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceShiftIdeal.lean ====
abbrev S16384x3072 : Shape := ⟨2, ![16384, 3072]⟩
abbrev S4 : Shape := ⟨1, ![4]⟩
abbrev S8x2048x3072 : Shape := ⟨3, ![8, 2048, 3072]⟩
abbrev S8x2048x128 : Shape := ⟨3, ![8, 2048, 128]⟩
abbrev S8x2048x2x64 : Shape := ⟨4, ![8, 2048, 2, 64]⟩
abbrev S_ : Shape := ⟨0, ![]⟩
abbrev S8x128x2x64 : Shape := ⟨4, ![8, 128, 2, 64]⟩
abbrev S8x2176x2x64 : Shape := ⟨4, ![8, 2176, 2, 64]⟩
abbrev S8x128x128 : Shape := ⟨3, ![8, 128, 128]⟩

abbrev nBuf : Space → Nat
  | .hbm => 17
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S4, .f32⟩
  | .hbm, ⟨2, _⟩ => ⟨S8x2048x3072, .f32⟩
  | .hbm, ⟨3, _⟩ => ⟨S8x2048x128, .f32⟩
  | .hbm, ⟨4, _⟩ => ⟨S8x2048x2x64, .f32⟩
  | .hbm, ⟨5, _⟩ => ⟨S8x2048x128, .f32⟩
  | .hbm, ⟨6, _⟩ => ⟨S8x2048x2x64, .f32⟩
  | .hbm, ⟨7, _⟩ => ⟨S_, .f32⟩
  | .hbm, ⟨8, _⟩ => ⟨S8x128x2x64, .f32⟩
  | .hbm, ⟨9, _⟩ => ⟨S8x2176x2x64, .f32⟩
  | .hbm, ⟨10, _⟩ => ⟨S_, .f32⟩
  | .hbm, ⟨11, _⟩ => ⟨S8x128x2x64, .f32⟩
  | .hbm, ⟨12, _⟩ => ⟨S8x2176x2x64, .f32⟩
  | .hbm, ⟨13, _⟩ => ⟨S8x128x2x64, .f32⟩
  | .hbm, ⟨14, _⟩ => ⟨S8x128x128, .f32⟩
  | .hbm, ⟨15, _⟩ => ⟨S8x128x2x64, .f32⟩
  | .hbm, ⟨16, _⟩ => ⟨S8x128x128, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.Ffn.lean ====
/- The feed-forward call: what the kernel's grid point stores, read at a row and a column, and the reference read there. -/
module

public import proofs.«01_k».proof.Proof.Gen.KernelFfnIdeal.Value
public import proofs.«01_k».proof.Proof.Gen.ReferenceFfnIdeal.Run
public import proofs.«01_k».proof.Proof.Gen.ReferenceFfnIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn

/-- A row scaled to unit mean square (up to the small constant) and by the gains. -/
def normed (x g : Fin 1024 → EReal) (k : Fin 1024) : EReal :=
  x k * Ideal.rsqrt (Ideal.div (∑ i, x i * x i) (Ideal.ofBits .f32 0x44800000#32) + Ideal.ofBits .f32 0x358637BD#32) * g k

/-- The gated hidden unit `f` of a normed row. -/
def hidden (h : Fin 1024 → EReal) (wg wu : Fin 1024 → Fin 2816 → EReal) (f : Fin 2816) : EReal :=
  (∑ k, h k * wg k f) * Ideal.logistic (∑ k, h k * wg k f) * ∑ k, h k * wu k f

/-- The whole layer on one row. -/
def row (x g1 g2 : Fin 1024 → EReal) (wg wu : Fin 1024 → Fin 2816 → EReal) (wd : Fin 2816 → Fin 1024 → EReal)
    (l : Fin 1024) : EReal :=
  x l + Ideal.ofBits .f32 0x3F000000#32 * normed (fun l => ∑ f, hidden (normed x g1) wg wu f * wd f l) g2 l

section
open Cert.KernelFfnIdeal Cert.KernelFfnIdeal.Gen
/-- What a grid point stores at row `r` and column `l` of its block is the layer on row `r` of the input block. -/
theorem pay_at (x : FVec Ideal S512x1024 .f32) (g1 g2 : FVec Ideal S1x1024 .f32) (wg wu : FVec Ideal S1024x2816 .bf16)
    (wd : FVec Ideal S2816x1024 .bf16) (r : Fin 512) (l : Fin 1024) :
    k0_pay1 (F := Ideal) (k0_pay2 x) (k0_pay3 x g1 wg wu wd) (k0_pay4 g2) (k0_pay5 x g1 wg wu wd) (k0_pay6 (F := Ideal)) (ix2 r l)
      = row (fun k => x (ix2 r k)) (fun k => g1 (ix2 0 k)) (fun k => g2 (ix2 0 k)) (fun k f => wg (ix2 k f))
          (fun k f => wu (ix2 k f)) (fun f k => wd (ix2 f k)) l := by
  pointwise [k0_pay1, k0_pay2, k0_pay3, k0_pay4, k0_pay5, k0_pay6]
  rfl
end

section
open Cert.ReferenceFfnIdeal Cert.ReferenceFfnIdeal.Gen Cert.ReferenceFfnIdeal.Read
/-- The reference before its final reshape, read at a sequence, a position and a column. -/
theorem ref3_at (x : FVec Ideal S8x2048x1024 .f32) (g1 g2 : FVec Ideal S1024 .f32) (wg wu : FVec Ideal S1024x2816 .f32)
    (wd : FVec Ideal S2816x1024 .f32) (b : Fin 8) (p : Fin 2048) (l : Fin 1024) :
    val_main_v33 (F := Ideal) x g1 g2 wg wu wd (ix3 b p l)
      = row (fun k => x (ix3 b p k)) (fun k => g1 (ix1 k)) (fun k => g2 (ix1 k)) (fun k f => wg (ix2 k f))
          (fun k f => wu (ix2 k f)) (fun f k => wd (ix2 f k)) l := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_v0, val_main_call0_v1, val_main_call0_cst, val_main_call0_v2, val_main_call0_v3, val_main_call0_cst_0, val_main_call0_v4, val_main_call0_v5, val_main_v14, val_main_v15, val_main_v16, val_main_v17, val_main_v18, val_main_cst_2, val_main_v19, val_main_v20, val_main_cst_3, val_main_v21, val_main_v22, val_main_cst_4, val_main_v23, val_main_v24, val_main_v25, val_main_v26, val_main_v27, val_main_v28, val_main_v29, val_main_v30, val_main_cst_5, val_main_v31, val_main_v32, val_main_v33]
  rfl
end

section
open Cert.ReferenceFfnIdeal Cert.ReferenceFfnIdeal.Gen Cert.ReferenceFfnIdeal.Read
/-- The reference's result: row `r` of the flat array is the layer on position `r % 2048` of sequence `r / 2048`. -/
theorem ref_at (x : FVec Ideal S8x2048x1024 .f32) (g1 g2 : FVec Ideal S1024 .f32) (wg wu : FVec Ideal S1024x2816 .f32)
    (wd : FVec Ideal S2816x1024 .f32) (r : Fin 16384) (l : Fin 1024) :
    val_main_v34 (F := Ideal) x g1 g2 wg wu wd (ix2 r l)
      = row (fun k => x (ix3 ⟨r.val / 2048, by omega⟩ ⟨r.val % 2048, by omega⟩ k)) (fun k => g1 (ix1 k)) (fun k => g2 (ix1 k))
          (fun k f => wg (ix2 k f)) (fun k f => wu (ix2 k f)) (fun f k => wd (ix2 f k)) l := by
  rw [val_main_v34_apply]
  refine Eq.trans (congrArg _ ?_) (ref3_at x g1 g2 wg wu wd ⟨r.val / 2048, by omega⟩ ⟨r.val % 2048, by omega⟩ l)
  funext a
  refine Fin.ext ?_
  have hl : l.val < 1024 := l.isLt
  match a with
  | ⟨0, _⟩ => show (r.val * 1024 + l.val) / 2097152 = r.val / 2048; omega
  | ⟨1, _⟩ => show (r.val * 1024 + l.val) / 1024 % 2048 = r.val % 2048; omega
  | ⟨2, _⟩ => show (r.val * 1024 + l.val) % 1024 = l.val; omega
end

section
open Cert.KernelFfnIdeal Cert.KernelFfnIdeal.Gen
variable (m : (ℓ : Loc nD τ sig) → Buf (Elt Ideal) ℓ)

/-- The reference's term over the kernel's arguments. -/
abbrev G (c : Dev nD) : FVec Ideal S16384x1024 .f32 :=
  Cert.ReferenceFfnIdeal.Read.val_main_v34 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The windows' block indices: the rows move with the grid point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- Point `t` stores the layer on its rows. -/
theorem point (c : Dev nD) (t : Fin cfg0.N) (y : S512x1024.Idx) :
    k0_pay1 (F := Ideal) (k0_pay2 (iblk m c 0 t)) (k0_pay3 (iblk m c 0 t) (iblk m c 1 t) (iblk m c 3 t) (iblk m c 4 t) (iblk m c 5 t))
      (k0_pay4 (iblk m c 2 t)) (k0_pay5 (iblk m c 0 t) (iblk m c 1 t) (iblk m c 3 t) (iblk m c 4 t) (iblk m c 5 t)) (k0_pay6 (F := Ideal)) y
    = G m c (((cfg0.win 6).blk t).view.emb y) := by
  idx_vars y
  refine (pay_at _ _ _ _ _ _ _ _).trans ?_
  have ht : t.val < 32 := t.isLt
  have he : (((cfg0.win 6).blk t).view.emb (ix2 y0 y1)) = (ix2 (⟨t.val * 512 + y0.val, by omega⟩ : Fin 16384) y1) := by
    blk_ext [idx t]
  rw [he]
  refine Eq.trans ?_ (ref_at _ _ _ _ _ _ _ _).symm
  blk_point [iblk, V, idx t]

theorem final (c : Dev nD) : (dats m 0 c).arrAt 6 (cfgs 0).N = G m c := by
  refine (dats m 0 c).arrAt_eq_of_covers 6 _ (by decide +kernel) fun t _ y => ?_
  blk_simp
  rw [after0_6]; frame_out
  exact point m c t y
end

end Cert.Ffn
-- ==== Proof.In.lean ====
/- The input projection: what the kernel's grid point stores, read at a row and a column, and the reference read there. -/
module

public import proofs.«01_k».proof.Proof.Gen.KernelInIdeal.Value
public import proofs.«01_k».proof.Proof.Gen.ReferenceInIdeal.Run
public import proofs.«01_k».proof.Proof.Gen.ReferenceInIdeal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProj

/-- A row scaled to unit mean square (up to the small constant) and by the gains. -/
def normed (x g : Fin 1024 → EReal) (k : Fin 1024) : EReal :=
  x k * Ideal.rsqrt (Ideal.div (∑ i, x i * x i) (Ideal.ofBits .f32 0x44800000#32) + Ideal.ofBits .f32 0x358637BD#32) * g k

/-- Column `l` of the laid-out weights, over a row `w` of the given ones: the columns of the first three groups, the queries
    of the fourth with its two middle heads exchanged, its keys and values, the eight scalars, and zeros. -/
def laid (w : Fin 2824 → EReal) (l : Fin 3072) : EReal :=
  if h0 : l.val < 2304 then w ⟨l.val, by omega⟩
  else if h1 : l.val < 2560 then w ⟨2312 + (((l.val - 2304) / 64 % 2 * 2 + (l.val - 2304) / 64 / 2) * 64 + (l.val - 2304) % 64), by omega⟩
  else if h2 : l.val < 2816 then w ⟨2568 + (l.val - 2560), by omega⟩
  else if h3 : l.val < 2824 then w ⟨2304 + (l.val - 2816), by omega⟩
  else 0

theorem laid_0 (w : Fin 2824 → EReal) (l : Fin 3072) (h : l.val < 2304) : laid w l = w ⟨l.val, by omega⟩ := dif_pos h
theorem laid_1 (w : Fin 2824 → EReal) (l : Fin 3072) (h : ¬l.val < 2304) (h' : l.val < 2560) :
    laid w l = w ⟨2312 + (((l.val - 2304) / 64 % 2 * 2 + (l.val - 2304) / 64 / 2) * 64 + (l.val - 2304) % 64), by omega⟩ :=
  (dif_neg h).trans (dif_pos h')
theorem laid_2 (w : Fin 2824 → EReal) (l : Fin 3072) (h : ¬l.val < 2560) (h' : l.val < 2816) :
    laid w l = w ⟨2568 + (l.val - 2560), by omega⟩ :=
  (dif_neg (by omega)).trans ((dif_neg h).trans (dif_pos h'))
theorem laid_3 (w : Fin 2824 → EReal) (l : Fin 3072) (h : ¬l.val < 2816) (h' : l.val < 2824) :
    laid w l = w ⟨2304 + (l.val - 2816), by omega⟩ :=
  (dif_neg (by omega)).trans ((dif_neg (by omega)).trans ((dif_neg h).trans (dif_pos h')))
theorem laid_4 (w : Fin 2824 → EReal) (l : Fin 3072) (h : ¬l.val < 2824) : laid w l = 0 :=
  (dif_neg (by omega)).trans ((dif_neg (by omega)).trans ((dif_neg (by omega)).trans (dif_neg h)))

section
open Cert.KernelInIdeal Cert.KernelInIdeal.Gen
/-- Taking whole head columns by a table of heads, read at a row, a head and a lane. -/
theorem take_at {α : Type} (x : S1024x4x64.Idx → α) (idx : IVec S4x1 32) (a : Fin 1024) (h : Fin 4) (l : Fin 64) :
    Host.gather gather_S1024x4x64_S4x1_S1024x4x64_02_1_n_n_1_1_1024164 x idx (ix3 a h l)
      = x (ix3 a ⟨min (idx (ix2 h 0)).toInt.toNat 3, by omega⟩ l) := by
  refine congrArg x (funext fun b => Fin.ext ?_)
  show GatherDims.start _ _ idx b + GatherDims.batchCoord _ _ b + GatherDims.offCoord _ _ b = _
  rw [GatherDims.batchCoord_eq_zero _ _ _ List.not_mem_nil, Nat.add_zero]
  unfold GatherDims.start GatherDims.offCoord
  have hb : b = (0 : Fin 3) ∨ b = (1 : Fin 3) ∨ b = (2 : Fin 3) := (by decide : ∀ b : Fin 3, b = 0 ∨ b = 1 ∨ b = 2) b
  rcases hb with rfl | rfl | rfl
  · rw [dif_neg (by decide), dif_pos (by decide), Nat.zero_add]; rfl
  · rw [dif_pos (by decide), dif_neg (by decide)]
    refine congrArg (fun i => min (idx i).toInt.toNat 3) (funext fun d => Fin.ext ?_)
    match d with
    | ⟨0, _⟩ => rfl
    | ⟨1, _⟩ => rfl
  · rw [dif_neg (by decide), dif_pos (by decide), Nat.zero_add]; rfl

/-- The table of heads exchanges the two middle ones. -/
theorem head_at : ∀ h : Fin 4, min (lit0 (S4.rowMajor (ix1 h))).toInt.toNat 3 = h.val % 2 * 2 + h.val / 2 := by decide +kernel

variable (m : (ℓ : Loc nD τ sig) → Buf (Elt Ideal) ℓ)

/-- The weights the call finds are the given ones, laid out. -/
theorem w_at (c : Dev nD) (w : FVec Ideal S1024x2824 .f32) (hw : m ((c : Thread nD τ).loc main_arg2) = w) (k : Fin 1024) (l : Fin 3072) :
    (V m c main_v15 : FVec Ideal S1024x3072 .bf16) (ix2 k l) = laid (fun j => w (ix2 k j)) l := by
  have hw' : m (c, Proc.tc.devRef main_arg2) = w := hw
  unfold V
  simp only [hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [take_at]
  after_results_simp
  pointwise [take_at]
  by_cases h0 : l.val < 2304
  · exact (dif_pos h0).trans ((congrFun hw' _).trans (laid_0 (fun j => w (ix2 k j)) l h0).symm)
  refine (dif_neg h0).trans ?_
  by_cases h1 : l.val < 2560
  · refine (dif_pos (by omega)).trans ((congrFun hw' _).trans (Eq.trans (congrArg (fun j => w (ix2 k j)) (Fin.ext ?_)) (laid_1 (fun j => w (ix2 k j)) l h0 h1).symm))
    show 2312 + (min (lit0 (S4.rowMajor (ix1 _))).toInt.toNat 3 * 64 + (↑l - 2304) % 64) = _
    rw [head_at]
  refine (dif_neg (by omega)).trans ?_
  by_cases h2 : l.val < 2816
  · refine (dif_pos (by omega)).trans ((congrFun hw' _).trans (Eq.trans (congrArg (fun j => w (ix2 k j)) (Fin.ext ?_)) (laid_2 (fun j => w (ix2 k j)) l h1 h2).symm))
    dsimp only
    omega
  refine (dif_neg (by omega)).trans ?_
  by_cases h3 : l.val < 2824
  · refine (dif_pos (by omega)).trans ((congrFun hw' _).trans (Eq.trans (congrArg (fun j => w (ix2 k j)) (Fin.ext ?_)) (laid_3 (fun j => w (ix2 k j)) l h2 h3).symm))
    dsimp only
    omega
  refine (dif_neg (by omega)).trans (Eq.trans ?_ (laid_4 (fun j => w (ix2 k j)) l h3).symm)
  show (((0#32 : BitVec 32).toInt : ℝ) : EReal) = 0
  simp

/-- The activations the call finds are the given ones, the sequences one after another, -/
theorem x_at (c : Dev nD) (x : FVec Ideal S8x2048x1024 .f32) (hx : m ((c : Thread nD τ).loc main_arg0) = x) (r : Fin 16384) (k : Fin 1024) :
    (V m c main_v0 : FVec Ideal S16384x1024 .f32) (ix2 r k) = x (ix3 ⟨r.val / 2048, by omega⟩ ⟨r.val % 2048, by omega⟩ k) := by
  have hx' : m (c, Proc.tc.devRef main_arg0) = x := hx
  unfold V
  simp only [hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  rw [hx']
  pointwise

/-- and the gains the given ones. -/
theorem g_at (c : Dev nD) (g : FVec Ideal S1024 .f32) (hg : m ((c : Thread nD τ).loc main_arg1) = g) (k : Fin 1024) :
    (V m c main_v1 : FVec Ideal S1x1024 .f32) (ix2 0 k) = g (ix1 k) := by
  have hg' : m (c, Proc.tc.devRef main_arg1) = g := hg
  unfold V
  simp only [hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  rw [hg']
  pointwise

/-- What a grid point stores at row `r` and column `l` of its block. -/
theorem pay_at (x : FVec Ideal S512x1024 .f32) (g : FVec Ideal S1x1024 .f32) (w : FVec Ideal S1024x3072 .bf16) (r : Fin 512) (l : Fin 3072) :
    k0_pay1 (F := Ideal) x g w (ix2 r l) = ∑ k, normed (fun k => x (ix2 r k)) (fun k => g (ix2 0 k)) k * w (ix2 k l) := by
  pointwise [k0_pay1]
  rfl
end

section
open Cert.ReferenceInIdeal Cert.ReferenceInIdeal.Gen Cert.ReferenceInIdeal.Read
/-- The projection before its columns are regrouped. -/
theorem ref3_at (x : FVec Ideal S8x2048x1024 .f32) (g : FVec Ideal S1024 .f32) (w : FVec Ideal S1024x2824 .f32) (b : Fin 8) (p : Fin 2048)
    (l : Fin 2824) : val_main_v13 (F := Ideal) x g w (ix3 b p l)
      = ∑ k, normed (fun k => x (ix3 b p k)) (fun k => g (ix1 k)) k * w (ix2 k l) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_cst_2]
  rfl

/-- The reference's result at a row and a column: the normed row against that column of the laid-out weights. -/
theorem ref_at (x : FVec Ideal S8x2048x1024 .f32) (g : FVec Ideal S1024 .f32) (w : FVec Ideal S1024x2824 .f32) (r : Fin 16384)
    (l : Fin 3072) : val_main_v23 (F := Ideal) x g w (ix2 r l)
      = ∑ k, normed (fun k => x (ix3 ⟨r.val / 2048, by omega⟩ ⟨r.val % 2048, by omega⟩ k)) (fun k => g (ix1 k)) k
          * laid (fun j => w (ix2 k j)) l := by
  pointwise [val_main_v14, val_main_v15, val_main_v16, val_main_v17, val_main_v18, val_main_v19, val_main_v20, val_main_v21, val_main_v22, val_main_v23, val_main_cst_2]
  have key : ∀ (j j' : Fin 2824), j.val = j'.val → val_main_v13 (F := Ideal) x g w (ix3 (⟨r.val / 2048, by omega⟩ : Fin 8) (⟨r.val % 2048, by omega⟩ : Fin 2048) j)
      = ∑ k, normed (fun k => x (ix3 ⟨r.val / 2048, by omega⟩ ⟨r.val % 2048, by omega⟩ k)) (fun k => g (ix1 k)) k * w (ix2 k j') := by
    intro j j' h
    rw [Fin.ext h]
    exact ref3_at x g w _ _ j'
  unfold laid
  by_cases h0 : l.val < 2304
  · simp only [dif_pos h0]; exact key _ _ rfl
  by_cases h1 : l.val < 2560
  · rw [dif_neg h0, dif_pos (by omega)]; simp only [dif_neg h0, dif_pos h1]
    exact key _ _ (by show 2312 + _ = 2312 + _; omega)
  by_cases h2 : l.val < 2816
  · rw [dif_neg h0, dif_neg (by omega), dif_pos (by omega)]; simp only [dif_neg h0, dif_neg h1, dif_pos h2]
    exact key _ _ (by show 2568 + _ = 2568 + _; omega)
  by_cases h3 : l.val < 2824
  · rw [dif_neg h0, dif_neg (by omega), dif_neg (by omega), dif_pos (by omega)]
    simp only [dif_neg h0, dif_neg h1, dif_neg h2, dif_pos h3]
    exact key _ _ (by show 2304 + _ = 2304 + _; omega)
  · rw [dif_neg h0, dif_neg (by omega), dif_neg (by omega), dif_neg (by omega)]
    simp only [dif_neg h0, dif_neg h1, dif_neg h2, dif_neg h3, mul_zero, Finset.sum_const_zero]
end

section
open Cert.KernelInIdeal Cert.KernelInIdeal.Gen
variable (m : (ℓ : Loc nD τ sig) → Buf (Elt Ideal) ℓ)

/-- The reference's term over the kernel's arguments. -/
abbrev G (c : Dev nD) : FVec Ideal S16384x3072 .f32 :=
  Cert.ReferenceInIdeal.Read.val_main_v23 (F := Ideal) (m ((c : Thread nD τ).loc main_arg0)) (m ((c : Thread nD τ).loc main_arg1))
    (m ((c : Thread nD τ).loc main_arg2))

/-- The windows' block indices: the rows move with the grid point, gains and weights stay. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- What the input windows hold at point `t`: 512 rows of the activations, all gains, all weights. -/
theorem xblk (c : Dev nD) (t : Fin cfg0.N) (r : Fin 512) (k : Fin 1024) (h : t.val * 512 + r.val < 16384) :
    (iblk m c 0 t : FVec Ideal S512x1024 .f32) (ix2 r k) = (V m c main_v0 : FVec Ideal S16384x1024 .f32) (ix2 ⟨t.val * 512 + r.val, h⟩ k) := by
  blk_ext [iblk, idx t]
theorem gblk (c : Dev nD) (t : Fin cfg0.N) (k : Fin 1024) :
    (iblk m c 1 t : FVec Ideal S1x1024 .f32) (ix2 0 k) = (V m c main_v1 : FVec Ideal S1x1024 .f32) (ix2 0 k) := by
  blk_ext [iblk, idx t]
theorem wblk (c : Dev nD) (t : Fin cfg0.N) (k : Fin 1024) (l : Fin 3072) :
    (iblk m c 2 t : FVec Ideal S1024x3072 .bf16) (ix2 k l) = (V m c main_v15 : FVec Ideal S1024x3072 .bf16) (ix2 k l) := by
  blk_ext [iblk, idx t]

/-- Point `t` stores the projection of its rows. -/
theorem point (c : Dev nD) (t : Fin cfg0.N) (y : S512x3072.Idx) :
    k0_pay1 (F := Ideal) (iblk m c 0 t) (iblk m c 1 t) (iblk m c 2 t) y = G m c (((cfg0.win 3).blk t).view.emb y) := by
  idx_vars y
  refine (pay_at _ _ _ _ _).trans ?_
  have ht : t.val < 32 := t.isLt
  have he : (((cfg0.win 3).blk t).view.emb (ix2 y0 y1)) = (ix2 (⟨t.val * 512 + y0.val, by omega⟩ : Fin 16384) y1) := by
    blk_ext [idx t]
  rw [he]
  refine Eq.trans ?_ (ref_at _ _ _ _ _).symm
  have hX : (fun k => (iblk m c 0 t : FVec Ideal S512x1024 .f32) (ix2 y0 k)) = _ :=
    funext fun k => (xblk m c t y0 k (by omega)).trans (x_at m c _ rfl _ k)
  have hG : (fun k => (iblk m c 1 t : FVec Ideal S1x1024 .f32) (ix2 0 k)) = _ :=
    funext fun k => (gblk m c t k).trans (g_at m c _ rfl k)
  refine Finset.sum_congr rfl fun k _ => congrArg₂ (· * ·) ?_ ((wblk m c t k y1).trans (w_at m c _ rfl k y1))
  exact congrArg₂ (normed · · k) hX hG

/-- So the result array ends holding the reference's term. -/
theorem final (c : Dev nD) : (dats m 0 c).arrAt 3 (cfgs 0).N = G m c := by
  refine (dats m 0 c).arrAt_eq_of_covers 3 _ (by decide +kernel) fun t _ y => ?_
  blk_simp
  rw [after0_3]; frame_out
  exact point m c t y
end

end Cert.InProj
-- ==== Proof.Out.lean ====
/- The output projection: what the kernel's grid point stores, read at a row and a column, and the reference read there. -/
module

public import proofs.«01_k».proof.Proof.Gen.KernelOutIdeal.Value
public import proofs.«01_k».proof.Proof.Gen.ReferenceOutIdeal.Run
public import proofs.«01_k».proof.Proof.Gen.ReferenceOutIdeal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProj

/-- A row scaled to unit mean square (up to the small constant) and by the gains. -/
def normed (x g : Fin 1024 → EReal) (k : Fin 1024) : EReal :=
  x k * Ideal.rsqrt (Ideal.div (∑ i, x i * x i) (Ideal.ofBits .f32 0x44800000#32) + Ideal.ofBits .f32 0x358637BD#32) * g k

/-- The place of row `j` of the weights' last 256 once its two middle heads are exchanged. -/
def swap (j : Fin 256) : Fin 256 := ⟨(j.val / 64 % 2 * 2 + j.val / 64 / 2) * 64 + j.val % 64, by omega⟩

/-- Exchanging twice changes nothing. -/
theorem swap_swap (j : Fin 256) : swap (swap j) = j := Fin.ext (by simp only [swap]; omega)

/-- The row of the given weights a row of the laid-out ones is: the last 256 rows with the two middle heads exchanged. -/
def place (i : Fin 1024) : Fin 1024 :=
  if h : i.val < 768 then i else ⟨768 + (swap ⟨i.val - 768, by omega⟩).val, by have := (swap ⟨i.val - 768, by omega⟩).isLt; omega⟩

theorem place_lo (i : Fin 1024) (h : i.val < 768) : place i = i := dif_pos h
theorem place_hi (i : Fin 1024) (h : ¬i.val < 768) :
    place i = ⟨768 + (((i.val - 768) / 64 % 2 * 2 + (i.val - 768) / 64 / 2) * 64 + (i.val - 768) % 64), by omega⟩ := dif_neg h

theorem place_place (i : Fin 1024) : place (place i) = i := by
  by_cases h : i.val < 768
  · rw [place_lo i h, place_lo i h]
  · rw [place_hi i h, place_hi _ (by dsimp only; omega)]
    exact Fin.ext (by dsimp only; omega)

/-- Four rows one after another. -/
def join (a b c d : Fin 256 → EReal) (i : Fin 1024) : EReal :=
  if h : i.val < 256 then a ⟨i.val, h⟩ else if h : i.val - 256 < 256 then b ⟨i.val - 256, h⟩
  else if h : i.val - 256 - 256 < 256 then c ⟨i.val - 256 - 256, h⟩ else d ⟨i.val - 256 - 256 - 256, by omega⟩

/-- Joining with the last row's heads exchanged is reading the join at the exchanged place. -/
theorem join_swap (a b c d : Fin 256 → EReal) (i : Fin 1024) : join a b c (fun j => d (swap j)) i = join a b c d (place i) := by
  unfold place
  by_cases h : i.val < 768
  · rw [dif_pos h]; unfold join
    split_ifs with h0 h1 h2
    · rfl
    · rfl
    · rfl
    · omega
  · rw [dif_neg h]; unfold join
    rw [dif_neg (by omega), dif_neg (by omega), dif_neg (by omega), dif_neg (by show ¬(768 + _ < 256); omega),
      dif_neg (by show ¬(768 + _ - 256 < 256); omega), dif_neg (by show ¬(768 + _ - 256 - 256 < 256); omega)]
    refine congrArg d (Fin.ext ?_)
    simp only [swap]
    omega

/-- A column of the mix: the joined row against the weights' column. -/
def mix (y w : Fin 1024 → EReal) : EReal := ∑ i, y i * w i

theorem mix_place (y w : Fin 1024 → EReal) : mix y (fun i => w (place i)) = mix (fun i => y (place i)) w := by
  unfold mix
  rw [← Equiv.sum_comp (Function.Involutive.toPerm place place_place) (fun i => y (place i) * w i)]
  refine Finset.sum_congr rfl fun i _ => ?_
  show _ = y (place (place i)) * w (place i)
  rw [place_place]

section
open Cert.KernelOutIdeal Cert.KernelOutIdeal.Gen
/-- What a grid point stores at row `r` and column `l` of its block. -/
theorem pay_at (ya yb yc yd : FVec Ideal S512x256 .f32) (w : FVec Ideal S1024x1024 .bf16) (x : FVec Ideal S512x1024 .f32) (g : FVec Ideal S1x1024 .f32)
    (r : Fin 512) (l : Fin 1024) : k0_pay1 (F := Ideal) ya yb yc yd w x g (ix2 r l)
      = x (ix2 r l) + normed (fun l => mix (join (fun j => ya (ix2 r j)) (fun j => yb (ix2 r j)) (fun j => yc (ix2 r j)) (fun j => yd (ix2 r j)))
          (fun i => w (ix2 i l))) (fun l => g (ix2 0 l)) l := by
  pointwise [k0_pay1]
  rfl

/-- Taking whole heads of rows by a table of heads, read at a head, a lane and a column. -/
theorem take_at {α : Type} (x : S4x64x1024.Idx → α) (idx : IVec S4x1 32) (h : Fin 4) (a : Fin 64) (l : Fin 1024) :
    Host.gather gather_S4x64x1024_S4x1_S4x64x1024_12_0_n_n_0_1_1641024 x idx (ix3 h a l)
      = x (ix3 ⟨min (idx (ix2 h 0)).toInt.toNat 3, by omega⟩ a l) := by
  refine congrArg x (funext fun b => Fin.ext ?_)
  show GatherDims.start _ _ idx b + GatherDims.batchCoord _ _ b + GatherDims.offCoord _ _ b = _
  rw [GatherDims.batchCoord_eq_zero _ _ _ List.not_mem_nil, Nat.add_zero]
  unfold GatherDims.start GatherDims.offCoord
  have hb : b = (0 : Fin 3) ∨ b = (1 : Fin 3) ∨ b = (2 : Fin 3) := (by decide : ∀ b : Fin 3, b = 0 ∨ b = 1 ∨ b = 2) b
  rcases hb with rfl | rfl | rfl
  · rw [dif_pos (by decide), dif_neg (by decide)]
    refine congrArg (fun i => min (idx i).toInt.toNat 3) (funext fun d => Fin.ext ?_)
    match d with
    | ⟨0, _⟩ => rfl
    | ⟨1, _⟩ => rfl
  · rw [dif_neg (by decide), dif_pos (by decide), Nat.zero_add]; rfl
  · rw [dif_neg (by decide), dif_pos (by decide), Nat.zero_add]; rfl

/-- The table of heads exchanges the two middle ones. -/
theorem head_at : ∀ h : Fin 4, min (lit0 (S4.rowMajor (ix1 h))).toInt.toNat 3 = h.val % 2 * 2 + h.val / 2 := by decide +kernel

variable (m : (ℓ : Loc nD τ sig) → Buf (Elt Ideal) ℓ)

theorem w_at (c : Dev nD) (w : FVec Ideal S1024x1024 .f32) (hw : m ((c : Thread nD τ).loc main_arg5) = w) (i l : Fin 1024) :
    (V m c main_v10 : FVec Ideal S1024x1024 .bf16) (ix2 i l) = w (ix2 (place i) l) := by
  have hw' : m (c, Proc.tc.devRef main_arg5) = w := hw
  unfold V
  simp only [hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [take_at]
  after_results_simp
  pointwise [take_at]
  by_cases h0 : i.val < 768
  · exact (dif_pos h0).trans ((congrFun hw' _).trans (congrArg (fun j => w (ix2 j l)) (place_lo i h0)).symm)
  · refine (dif_neg h0).trans ((congrFun hw' _).trans (Eq.trans (congrArg (fun j => w (ix2 j l)) (Fin.ext ?_)) (congrArg (fun j => w (ix2 j l)) (place_hi i h0)).symm))
    show 768 + (min (lit0 (S4.rowMajor (ix1 _))).toInt.toNat 3 * 64 + (i.val - 768) % 64) = _
    rw [head_at]

/-- The gains the call finds are the given ones. -/
theorem g_at (c : Dev nD) (g : FVec Ideal S1024 .f32) (hg : m ((c : Thread nD τ).loc main_arg6) = g) (k : Fin 1024) :
    (V m c main_v11 : FVec Ideal S1x1024 .f32) (ix2 0 k) = g (ix1 k) := by
  have hg' : m (c, Proc.tc.devRef main_arg6) = g := hg
  unfold V
  simp only [hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  rw [hg']
  pointwise
end

section
open Cert.ReferenceOutIdeal Cert.ReferenceOutIdeal.Gen Cert.ReferenceOutIdeal.Read
/-- The reference's mix, read at a row and a column. -/
theorem refmix_at (ya yb yc yd : FVec Ideal S16384x256 .f32) (w : FVec Ideal S1024x1024 .f32) (r : Fin 16384) (l : Fin 1024) :
    val_main_v4 (F := Ideal) ya yb yc yd w (ix2 r l)
      = mix (join (fun j => ya (ix2 r j)) (fun j => yb (ix2 r j)) (fun j => yc (ix2 r j)) (fun j => yd (ix2 r j))) (fun i => w (ix2 (place i) l)) := by
  refine Eq.trans ?_ (mix_place _ (fun i => w (ix2 i l))).symm
  refine Eq.trans ?_ (congrArg (mix · _) (funext fun i => join_swap _ _ _ _ i))
  pointwise [val_main_v0, val_main_v1, val_main_v2, val_main_v3, val_main_v4, mix, join]
  refine Finset.sum_congr rfl fun i _ => congrArg (· * w (ix2 i l)) ?_
  split_ifs
  all_goals first
    | rfl
    | refine congrArg (fun j => yd (ix2 r j)) (Fin.ext ?_)
      simp only [swap]
      omega

theorem ref_at (x : FVec Ideal S16384x1024 .f32) (ya yb yc yd : FVec Ideal S16384x256 .f32) (w : FVec Ideal S1024x1024 .f32) (g : FVec Ideal S1024 .f32)
    (r : Fin 16384) (l : Fin 1024) : val_main_v18 (F := Ideal) x ya yb yc yd w g (ix2 r l)
      = x (ix2 r l) + normed (fun l => mix (join (fun j => ya (ix2 r j)) (fun j => yb (ix2 r j)) (fun j => yc (ix2 r j)) (fun j => yd (ix2 r j)))
          (fun i => w (ix2 (place i) l))) (fun l => g (ix1 l)) l := by
  simp only [← refmix_at]
  pointwise [val_main_v5, val_main_cst, val_main_v6, val_main_v7, val_main_cst_0, val_main_v8, val_main_v9, val_main_cst_1, val_main_v10, val_main_v11, val_main_v12, val_main_v13, val_main_v14, val_main_v15, val_main_v16, val_main_v17, val_main_v18]
  rfl
end

section
open Cert.KernelOutIdeal Cert.KernelOutIdeal.Gen
variable (m : (ℓ : Loc nD τ sig) → Buf (Elt Ideal) ℓ)

/-- The reference's term over the kernel's arguments. -/
abbrev G (c : Dev nD) : FVec Ideal S16384x1024 .f32 :=
  Cert.ReferenceOutIdeal.Read.val_main_v18 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The windows' block indices: the rows move with the grid point, weights and gains stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] :=
  (by decide +kernel : ∀ t : Fin grid0.N, _)

/-- What the input windows hold at point `t`: 512 rows of the activations and of each mixer's output, all weights, all gains. -/
theorem xblk (c : Dev nD) (t : Fin cfg0.N) (r : Fin 512) (k : Fin 1024) (h : t.val * 512 + r.val < 16384) :
    (iblk m c 0 t : FVec Ideal S512x1024 .f32) (ix2 r k) = (m ((c : Thread nD τ).loc main_arg0) : FVec Ideal S16384x1024 .f32) (ix2 ⟨t.val * 512 + r.val, h⟩ k) := by
  blk_ext [iblk, V, idx t]
theorem ablk (c : Dev nD) (t : Fin cfg0.N) (r : Fin 512) (k : Fin 256) (h : t.val * 512 + r.val < 16384) :
    (iblk m c 1 t : FVec Ideal S512x256 .f32) (ix2 r k) = (m ((c : Thread nD τ).loc main_arg1) : FVec Ideal S16384x256 .f32) (ix2 ⟨t.val * 512 + r.val, h⟩ k) := by
  blk_ext [iblk, V, idx t]
theorem bblk (c : Dev nD) (t : Fin cfg0.N) (r : Fin 512) (k : Fin 256) (h : t.val * 512 + r.val < 16384) :
    (iblk m c 2 t : FVec Ideal S512x256 .f32) (ix2 r k) = (m ((c : Thread nD τ).loc main_arg2) : FVec Ideal S16384x256 .f32) (ix2 ⟨t.val * 512 + r.val, h⟩ k) := by
  blk_ext [iblk, V, idx t]
theorem cblk (c : Dev nD) (t : Fin cfg0.N) (r : Fin 512) (k : Fin 256) (h : t.val * 512 + r.val < 16384) :
    (iblk m c 3 t : FVec Ideal S512x256 .f32) (ix2 r k) = (m ((c : Thread nD τ).loc main_arg3) : FVec Ideal S16384x256 .f32) (ix2 ⟨t.val * 512 + r.val, h⟩ k) := by
  blk_ext [iblk, V, idx t]
theorem dblk (c : Dev nD) (t : Fin cfg0.N) (r : Fin 512) (k : Fin 256) (h : t.val * 512 + r.val < 16384) :
    (iblk m c 4 t : FVec Ideal S512x256 .f32) (ix2 r k) = (m ((c : Thread nD τ).loc main_arg4) : FVec Ideal S16384x256 .f32) (ix2 ⟨t.val * 512 + r.val, h⟩ k) := by
  blk_ext [iblk, V, idx t]
theorem wblk (c : Dev nD) (t : Fin cfg0.N) (k l : Fin 1024) :
    (iblk m c 5 t : FVec Ideal S1024x1024 .bf16) (ix2 k l) = (V m c main_v10 : FVec Ideal S1024x1024 .bf16) (ix2 k l) := by
  blk_ext [iblk, idx t]
theorem gblk (c : Dev nD) (t : Fin cfg0.N) (k : Fin 1024) :
    (iblk m c 6 t : FVec Ideal S1x1024 .f32) (ix2 0 k) = (V m c main_v11 : FVec Ideal S1x1024 .f32) (ix2 0 k) := by
  blk_ext [iblk, idx t]

/-- Point `t` stores the output of its rows. -/
theorem point (c : Dev nD) (t : Fin cfg0.N) (y : S512x1024.Idx) :
    k0_pay1 (F := Ideal) (iblk m c 1 t) (iblk m c 2 t) (iblk m c 3 t) (iblk m c 4 t) (iblk m c 5 t) (iblk m c 0 t) (iblk m c 6 t) y
      = G m c (((cfg0.win 7).blk t).view.emb y) := by
  idx_vars y
  refine (pay_at _ _ _ _ _ _ _ _ _).trans ?_
  have ht : t.val < 32 := t.isLt
  have he : (((cfg0.win 7).blk t).view.emb (ix2 y0 y1)) = (ix2 (⟨t.val * 512 + y0.val, by omega⟩ : Fin 16384) y1) := by
    blk_ext [idx t]
  rw [he]
  refine Eq.trans ?_ (ref_at _ _ _ _ _ _ _ _ _).symm
  have hg : (fun l => (iblk m c 6 t : FVec Ideal S1x1024 .f32) (ix2 0 l)) = _ :=
    funext fun l => (gblk m c t l).trans (g_at m c _ rfl l)
  have ha : (fun j => (iblk m c 1 t : FVec Ideal S512x256 .f32) (ix2 y0 j)) = _ := funext fun j => ablk m c t y0 j (by omega)
  have hb : (fun j => (iblk m c 2 t : FVec Ideal S512x256 .f32) (ix2 y0 j)) = _ := funext fun j => bblk m c t y0 j (by omega)
  have hc : (fun j => (iblk m c 3 t : FVec Ideal S512x256 .f32) (ix2 y0 j)) = _ := funext fun j => cblk m c t y0 j (by omega)
  have hd : (fun j => (iblk m c 4 t : FVec Ideal S512x256 .f32) (ix2 y0 j)) = _ := funext fun j => dblk m c t y0 j (by omega)
  have hw : ∀ l : Fin 1024, (fun i => (iblk m c 5 t : FVec Ideal S1024x1024 .bf16) (ix2 i l)) = _ :=
    fun l => funext fun i => (wblk m c t i l).trans (w_at m c _ rfl i l)
  refine congrArg₂ (· + ·) (xblk m c t y0 y1 (by omega)) (congrArg₂ (normed · · y1) (funext fun l => ?_) hg)
  rw [ha, hb, hc, hd]
  exact congrArg (mix _) (hw l)

/-- So the result array ends holding the reference's term. -/
theorem final (c : Dev nD) : (dats m 0 c).arrAt 7 (cfgs 0).N = G m c := by
  refine (dats m 0 c).arrAt_eq_of_covers 7 _ (by decide +kernel) fun t _ y => ?_
  blk_simp
  rw [after0_7]
  frame_out
  exact point m c t y
end
end Cert.OutProj
-- ==== Proof.Claims.lean ====
module

public import proofs.«01_k».proof.Defs
public import proofs.«01_k».proof.Proof.Ffn
public import proofs.«01_k».proof.Proof.In
public import proofs.«01_k».proof.Proof.Out
public import proofs.«01_k».proof.Proof.Gen.KernelFfn.Frame
public import proofs.«01_k».proof.Proof.Gen.KernelIn.Frame
public import proofs.«01_k».proof.Proof.Gen.KernelOut.Frame
public import proofs.«01_k».proof.Proof.Gen.ReferenceFfnIdeal.Run
public import proofs.«01_k».proof.Proof.Gen.ReferenceInIdeal.Run
public import proofs.«01_k».proof.Proof.Gen.ReferenceOutIdeal.Run
public import Idealize.ShloMosaic.Lib.Claim
public import Idealize.ShloMosaic.Adequacy
public import Idealize.ShloMosaic.Init

@[expose] public section

noncomputable section

namespace Cert.Proof

open Idealize.ShloMosaic Idealize.SL.Sem

/-- The feed-forward call: the idealized kernel's result and the reference's are one array. -/
theorem algebraicFfn : Cert.algebraic_KernelFfnIdeal_ReferenceFfnIdeal := by
  pair_intro
  · run_from Cert.KernelFfnIdeal.Gen.run_main m g
  · refine (θ_run _ _ _).mono (fun r h c => ⟨(h c).1.trans ?_, (h c).2⟩) (Cert.ReferenceFfnIdeal.Value.run m' g')
    obtain ⟨h0, h1, h2, h3, h4, h5⟩ := hagree c
    rw [Cert.ReferenceFfnIdeal.Read.val_main_v34_eq, h0, h1, h2, h3, h4, h5]
    exact (Cert.Ffn.final m c).symm

/-- Its reference runs on the host alone: the arguments end unchanged and there is no counter to move. -/
theorem quiescentFfn : Cert.quiescent_ReferenceFfnIdeal := fun m g _ =>
  (θ_run Cert.ReferenceFfnIdeal.defs _ _).mono
    (fun r h => ⟨fun c => (h c).2, sem_eq_zero_of_no_sems (by decide) r.2⟩)
    (Cert.ReferenceFfnIdeal.Value.run (F := Ideal) m g)

/-- The input projection: the idealized kernel's result and the reference's are one array. -/
theorem algebraicIn : Cert.algebraic_KernelInIdeal_ReferenceInIdeal := by
  pair_intro
  · run_from Cert.KernelInIdeal.Gen.run_main m g
    -- the host code before the call writes none of the arguments
    all_goals
      simp only [KernelInIdeal.Gen.hostOps0, KernelInIdeal.Gen.hostOps0_1, KernelInIdeal.Gen.hostOps0_2, List.flatten_cons, List.flatten_nil,
        List.append_nil, List.cons_append, List.nil_append, StableHlo.TRef.binary, StableHlo.TRef.nullary, StableHlo.TRef.unary,
        StableHlo.TRef.toBuf, StableHlo.TRef.ofBuf, cast_eq]
      after_results_simp
  · refine (θ_run _ _ _).mono (fun r h c => ⟨(h c).1.trans ?_, (h c).2⟩) (Cert.ReferenceInIdeal.Value.run m' g')
    obtain ⟨h0, h1, h2⟩ := hagree c
    rw [Cert.ReferenceInIdeal.Read.val_main_v23_eq, h0, h1, h2]
    exact (Cert.InProj.final m c).symm

/-- Its reference runs on the host alone: the arguments end unchanged and there is no counter to move. -/
theorem quiescentIn : Cert.quiescent_ReferenceInIdeal := fun m g _ =>
  (θ_run Cert.ReferenceInIdeal.defs _ _).mono
    (fun r h => ⟨fun c => (h c).2, sem_eq_zero_of_no_sems (by decide) r.2⟩)
    (Cert.ReferenceInIdeal.Value.run (F := Ideal) m g)

/-- The output projection: the idealized kernel's result and the reference's are one array. -/
theorem algebraicOut : Cert.algebraic_KernelOutIdeal_ReferenceOutIdeal := by
  pair_intro
  · run_from Cert.KernelOutIdeal.Gen.run_main m g
  · refine (θ_run _ _ _).mono (fun r h c => ⟨(h c).1.trans ?_, (h c).2⟩) (Cert.ReferenceOutIdeal.Value.run m' g')
    obtain ⟨h0, h1, h2, h3, h4, h5, h6⟩ := hagree c
    rw [Cert.ReferenceOutIdeal.Read.val_main_v18_eq, h0, h1, h2, h3, h4, h5, h6]
    exact (Cert.OutProj.final m c).symm

/-- Its reference runs on the host alone: the arguments end unchanged and there is no counter to move. -/
theorem quiescentOut : Cert.quiescent_ReferenceOutIdeal := fun m g _ =>
  (θ_run Cert.ReferenceOutIdeal.defs _ _).mono
    (fun r h => ⟨fun c => (h c).2, sem_eq_zero_of_no_sems (by decide) r.2⟩)
    (Cert.ReferenceOutIdeal.Value.run (F := Ideal) m g)

end Cert.Proof
-- ==== Proof.SwaBody.lean ====
/-
  Sliding-window attention over a cache: the kernel body's triple and the frame of the whole program, for the idealized kernel.
  The body copies the caches' block into its results, then runs sixteen trips, one per sequence. A trip lays out the
  keys and values of its sequence in scratch, attends, and shifts the caches' rows. `outY`, `outK`, `outV` say what a
  point leaves in its three result buffers, as functions of its input blocks alone: the scratch never matters, since a
  trip writes it before reading it.
-/
module

public import proofs.«01_k».proof.Proof.Gen.KernelIdeal.Frame
public import proofs.«01_k».proof.Proof.Gen.KernelIdeal.Loops
public import Idealize.ShloMosaic.Lib.Claim
public import Idealize.ShloMosaic.Lib.WritesUnit
public import Idealize.ShloMosaic.Lib.VecWindow
public import Idealize.ShloMosaic.Lib.Pipeline.ValueKit.Basic
public import Idealize.ShloMosaic.Lib.ValueIdxCore

@[expose] public section

set_option maxRecDepth 8192

noncomputable section

namespace Cert.KernelIdeal.Swa

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The rows of a cache block that belong to sequence `k`. -/
abbrev rowC (k : Fin k0_t1_loop.trips) : Rect S16x128x128 :=
  Rect.unit (s := S16x128x128) (k0_off1 k) S1x128x128.size (k0_off1_inb k)

/-- The eight token rows of sequence `k`. -/
abbrev rowT (k : Fin k0_t1_loop.trips) : Rect S128x256 :=
  Rect.unit (s := S128x256) (k0_off2 k) S8x256.size (k0_off2_inb k)

/-- The key matrix of one sequence: 128 cached rows, then the eight new ones. -/
def keys (u : Vec F S1x128x128 .f32) (w : Vec F S8x256 .f32) : Vec F S136x128 .f32 :=
  View.canon [⟨Rect.unit (s := S136x128) ![128, 0] S8x128.size inb_S136x128_S8x128_128_0, k0_pay11 w⟩,
    ⟨Rect.unit (s := S136x128) ![0, 0] S128x128.size inb_S136x128_S128x128_0_0, k0_pay9 (k0_pay8 u)⟩]

/-- The value matrix of one sequence, laid out the same way. -/
def vals (u : Vec F S1x128x128 .f32) (w : Vec F S8x256 .f32) : Vec F S136x128 .f32 :=
  View.canon [⟨Rect.unit (s := S136x128) ![128, 0] S8x128.size inb_S136x128_S8x128_128_0, k0_pay12 w⟩,
    ⟨Rect.unit (s := S136x128) ![0, 0] S128x128.size inb_S136x128_S128x128_0_0, k0_pay10 u⟩]

/-- The last 128 of the first 132 rows: what the cache of one sequence becomes. -/
def tail (x : Vec F S136x128 .f32) : Vec F S128x128 .f32 :=
  View.ld x (Rect.unit (s := S136x128) ![4, 0] S128x128.size inb_S136x128_S128x128_4_0)

/-- The attention output of one sequence, from its queries `q`, its keys and values, the distance bias and the sinks. -/
def attn (q : Vec F S8x256 .f32) (ks vs : Vec F S136x128 .f32) (b : Vec F S32x136 .f32) (s : Vec F S32x1 .f32) : Vec F S8x256 .f32 :=
  k0_pay14 (k0_pay1 (F := F)) (k0_pay2 (F := F)) (trip_k0_t1.sl.v53 0#32)
    (k0_pay13 (k0_pay1 (F := F)) (k0_pay2 (F := F)) q ks) b s vs

/-- One trip's block of the first result. -/
def tripY (x2 x3 : Vec F S128x256 .f32) (x4 x5 : Vec F S16x128x128 .f32) (x6 : Vec F S32x136 .f32) (x7 : Vec F S32x1 .f32)
    (k : Fin k0_t1_loop.trips) : Vec F S8x256 .f32 :=
  attn (View.ld x2 (rowT k)) (keys (View.ld x4 (rowC k)) (View.ld x3 (rowT k))) (vals (View.ld x5 (rowC k)) (View.ld x3 (rowT k)))
    (View.ld x6 (Rect.unit (s := S32x136) ![0, 0] S32x136.size inb_S32x136_S32x136_0_0))
    (View.ld x7 (Rect.unit (s := S32x1) ![0, 0] S32x1.size inb_S32x1_S32x1_0_0))

/-- One trip's block of the new key cache. -/
def tripK (x3 : Vec F S128x256 .f32) (x4 : Vec F S16x128x128 .f32) (k : Fin k0_t1_loop.trips) : Vec F S1x128x128 .f32 :=
  k0_pay5 (tail (keys (View.ld x4 (rowC k)) (View.ld x3 (rowT k))))

/-- One trip's block of the new value cache. -/
def tripV (x3 : Vec F S128x256 .f32) (x5 : Vec F S16x128x128 .f32) (k : Fin k0_t1_loop.trips) : Vec F S1x128x128 .f32 :=
  k0_pay6 (tail (vals (View.ld x5 (rowC k)) (View.ld x3 (rowT k))))

/-- The loop makes sixteen trips. -/
theorem trips_eq : k0_t1_loop.trips = 16 := by decide

/-- Every index of sequence `k`'s cache rows lies in row `k`. -/
theorem rowC_row (k : Fin k0_t1_loop.trips) (z : (rowC k).shape.Idx) : ((rowC k).idx z 0).val = k.val := by
  have hz : (z 0).val < 1 := (z 0).isLt
  have h0 : (k0_off1 k) 0 = k.val := by rw [k0_off1_eq]; rfl
  show (k0_off1 k) 0 + 1 * (z 0).val = k.val
  omega

/-- The output block: row `r` comes from sequence `r / 8`. -/
def outY (x2 x3 : Vec F S128x256 .f32) (x4 x5 : Vec F S16x128x128 .f32) (x6 : Vec F S32x136 .f32) (x7 : Vec F S32x1 .f32) :
    Vec F S128x256 .f32 := fun y =>
  tripY x2 x3 x4 x5 x6 x7 ⟨(y 0).val / 8, by have h : (y 0).val < 128 := (y 0).isLt; rw [trips_eq]; omega⟩
    (ix2 ⟨(y 0).val % 8, Nat.mod_lt _ (by decide)⟩ (y 1))

/-- The new key cache block, sequence by sequence. -/
def outK (x3 : Vec F S128x256 .f32) (x4 : Vec F S16x128x128 .f32) : Vec F S16x128x128 .f32 := fun y =>
  tripK x3 x4 ⟨(y 0).val, by have h : (y 0).val < 16 := (y 0).isLt; rw [trips_eq]; omega⟩ (ix3 0 (y 1) (y 2))

/-- The new value cache block, sequence by sequence. -/
def outV (x3 : Vec F S128x256 .f32) (x5 : Vec F S16x128x128 .f32) : Vec F S16x128x128 .f32 := fun y =>
  tripV x3 x5 ⟨(y 0).val, by have h : (y 0).val < 16 := (y 0).isLt; rw [trips_eq]; omega⟩ (ix3 0 (y 1) (y 2))

/-- The two stores that lay out a matrix of 136 rows cover it. -/
theorem cover_rows (p0 : Vec F S8x128 .f32) (p1 : Vec F S128x128 .f32) (y : S136x128.Idx) :
    ∃ pc ∈ ([⟨Rect.unit (s := S136x128) ![128, 0] S8x128.size inb_S136x128_S8x128_128_0, p0⟩,
      ⟨Rect.unit (s := S136x128) ![0, 0] S128x128.size inb_S136x128_S128x128_0_0, p1⟩] :
        List (View.Piece (Elt F) S136x128 .f32)), y ∈ pc.1.set := by
  by_cases h : (y 0).val < 128
  · refine ⟨_, List.mem_cons_of_mem _ (List.mem_cons_self ..), ?_⟩
    rw [Rect.mem_set_unit]
    intro a
    match a with
    | ⟨0, _⟩ => exact ⟨Nat.zero_le _, by simpa using h⟩
    | ⟨1, _⟩ => exact ⟨Nat.zero_le _, by have := (y 1).isLt; simpa using this⟩
  · refine ⟨_, List.mem_cons_self .., ?_⟩
    rw [Rect.mem_set_unit]
    intro a
    match a with
    | ⟨0, _⟩ => exact ⟨by simpa using h, by have := (y 0).isLt; simpa using this⟩
    | ⟨1, _⟩ => exact ⟨Nat.zero_le _, by have := (y 1).isLt; simpa using this⟩

section trip

variable (𝒱 : Variants) (c : Dev nD) (bd : Option 𝒱.V) (i : grid0.Coords) (arg2 : Memref sig .tc .vmem S128x256 .f32) (harg2 : arg2.IsWhole) (arg3 : Memref sig .tc .vmem S128x256 .f32) (harg3 : arg3.IsWhole) (arg4 : Memref sig .tc .vmem S16x128x128 .f32) (harg4 : arg4.IsWhole) (arg5 : Memref sig .tc .vmem S16x128x128 .f32) (harg5 : arg5.IsWhole) (arg6 : Memref sig .tc .vmem S32x136 .f32) (harg6 : arg6.IsWhole) (arg7 : Memref sig .tc .vmem S32x1 .f32) (harg7 : arg7.IsWhole) (arg8 : Memref sig .tc .vmem S128x256 .f32) (harg8 : arg8.IsWhole) (arg9 : Memref sig .tc .vmem S16x128x128 .f32) (harg9 : arg9.IsWhole) (arg10 : Memref sig .tc .vmem S16x128x128 .f32) (harg10 : arg10.IsWhole) (arg11 : Memref sig .tc .vmem S136x128 .f32) (harg11 : arg11.IsWhole) (arg12 : Memref sig .tc .vmem S136x128 .f32) (harg12 : arg12.IsWhole)
  (g2 : BufTy.Contents (Elt F) arg2.view.ty) (g3 : BufTy.Contents (Elt F) arg3.view.ty)
  (g6 : BufTy.Contents (Elt F) arg6.view.ty) (g7 : BufTy.Contents (Elt F) arg7.view.ty)

variable (k : Fin k0_t1_loop.trips)
  (f8 : BufTy.Contents (Elt F) arg8.view.ty) (f9 : BufTy.Contents (Elt F) arg9.view.ty)
  (f10 : BufTy.Contents (Elt F) arg10.view.ty) (f11 : BufTy.Contents (Elt F) arg11.view.ty) (f12 : BufTy.Contents (Elt F) arg12.view.ty)

/-- Trip `k` stores one block of the output, computed from what it reads. -/
theorem trip_y : (trip_k0_t1 (F := F) 𝒱 c bd i arg2 harg2 arg3 harg3 arg4 harg4 arg5 harg5 arg6 harg6 arg7 harg7 arg8 harg8 arg9 harg9 arg10 harg10 arg11 harg11 arg12 harg12 0#32 g2 g3 g6 g7 k).1 f8 f9 f10 f11 f12
    = [⟨rowT k, tripY (View.read (Elt F) arg2.view g2) (View.read (Elt F) arg3.view g3) (View.read (Elt F) arg9.view f9)
        (View.read (Elt F) arg10.view f10) (View.read (Elt F) arg6.view g6) (View.read (Elt F) arg7.view g7) k⟩] := by
  have hk : trip_k0_t1.sl.v91 arg3 arg9 arg11 g3 k f9
      = keys (View.ld (View.read (Elt F) arg9.view f9) (rowC k)) (View.ld (View.read (Elt F) arg3.view g3) (rowT k)) :=
    (View.readCov_eq_canon_ld _ _ _ (cover_rows _ _)).trans (View.ld_unit_lit _ _ (by decide))
  have hv : trip_k0_t1.sl.v114 arg3 arg10 arg12 g3 k f10
      = vals (View.ld (View.read (Elt F) arg10.view f10) (rowC k)) (View.ld (View.read (Elt F) arg3.view g3) (rowT k)) :=
    (View.readCov_eq_canon_ld _ _ _ (cover_rows _ _)).trans (View.ld_unit_lit _ _ (by decide))
  unfold trip_k0_t1
  dsimp only
  unfold tripY attn
  rw [← hk, ← hv]
  rfl

/-- Trip `k` stores one row of the key cache. -/
theorem trip_k : (trip_k0_t1 (F := F) 𝒱 c bd i arg2 harg2 arg3 harg3 arg4 harg4 arg5 harg5 arg6 harg6 arg7 harg7 arg8 harg8 arg9 harg9 arg10 harg10 arg11 harg11 arg12 harg12 0#32 g2 g3 g6 g7 k).2.1 f8 f9 f10 f11 f12
    = [⟨rowC k, tripK (View.read (Elt F) arg3.view g3) (View.read (Elt F) arg9.view f9) k⟩] := by
  unfold trip_k0_t1
  dsimp only
  unfold tripK
  congr 3
  unfold trip_k0_t1.sl.v139
  exact View.readCov_eq_canon_ld _ _ _ (cover_rows _ _)

/-- Trip `k` stores one row of the value cache. -/
theorem trip_v : (trip_k0_t1 (F := F) 𝒱 c bd i arg2 harg2 arg3 harg3 arg4 harg4 arg5 harg5 arg6 harg6 arg7 harg7 arg8 harg8 arg9 harg9 arg10 harg10 arg11 harg11 arg12 harg12 0#32 g2 g3 g6 g7 k).2.2.1 f8 f9 f10 f11 f12
    = [⟨rowC k, tripV (View.read (Elt F) arg3.view g3) (View.read (Elt F) arg10.view f10) k⟩] := by
  unfold trip_k0_t1
  dsimp only
  unfold tripV
  congr 3
  unfold trip_k0_t1.sl.v144
  exact View.readCov_eq_canon_ld _ _ _ (cover_rows _ _)

variable (x4 x5 : Vec F S16x128x128 .f32)
  (G8 : BufTy.Contents (Elt F) arg8.view.ty) (G9 : BufTy.Contents (Elt F) arg9.view.ty)
  (G10 : BufTy.Contents (Elt F) arg10.view.ty) (G11 : BufTy.Contents (Elt F) arg11.view.ty) (G12 : BufTy.Contents (Elt F) arg12.view.ty)

/-- After `n` trips the first `n` sequences' rows are final, and the caches' other rows are as the loop found them. -/
theorem loop_holds (h4 : View.read (Elt F) arg9.view G9 = x4) (h5 : View.read (Elt F) arg10.view G10 = x5) :
    ∀ n, n ≤ 16 →
      (∀ y : S128x256.Idx, (y 0).val < 8 * n → View.read (Elt F) arg8.view (arg8.view.writes (Elt F) G8 (pb_k0_t1 (F := F) 𝒱 c bd i arg2 harg2 arg3 harg3 arg4 harg4 arg5 harg5 arg6 harg6 arg7 harg7 arg8 harg8 arg9 harg9 arg10 harg10 arg11 harg11 arg12 harg12 0#32 g2 g3 g6 g7 G8 G9 G10 G11 G12 n).1) y
        = outY (View.read (Elt F) arg2.view g2) (View.read (Elt F) arg3.view g3) x4 x5 (View.read (Elt F) arg6.view g6)
            (View.read (Elt F) arg7.view g7) y)
      ∧ (∀ y : S16x128x128.Idx, View.read (Elt F) arg9.view (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 0#32 g2 g3 g6 g7 G8 G9 G10 G11 G12 n).2.1) y
        = if (y 0).val < n then outK (View.read (Elt F) arg3.view g3) x4 y else x4 y)
      ∧ (∀ y : S16x128x128.Idx, View.read (Elt F) arg10.view (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 0#32 g2 g3 g6 g7 G8 G9 G10 G11 G12 n).2.2.1) y
        = if (y 0).val < n then outV (View.read (Elt F) arg3.view g3) x5 y else x5 y)
  | 0, _ => by
    refine ⟨fun y hy => absurd hy (by omega), fun y => ?_, fun y => ?_⟩
    · rw [if_neg (Nat.not_lt_zero _)]; exact congrFun h4 y
    · rw [if_neg (Nat.not_lt_zero _)]; exact congrFun h5 y
  | n + 1, hn => by
    obtain ⟨ih8, ih9, ih10⟩ := loop_holds h4 h5 n (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 0#32 g2 g3 g6 g7 G8 G9 G10 G11 G12 (⟨n, by rw [trips_eq]; omega⟩)
    rw [hs]
    clear hs
    dsimp only at ih8 ih9 ih10 ⊢
    generalize pb_k0_t1 (F := F) 𝒱 c bd i arg2 harg2 arg3 harg3 arg4 harg4 arg5 harg5 arg6 harg6 arg7 harg7 arg8 harg8 arg9 harg9 arg10 harg10 arg11 harg11 arg12 harg12 0#32 g2 g3 g6 g7 G8 G9 G10 G11 G12 n = P at ih8 ih9 ih10 ⊢
    have hn' : n < k0_t1_loop.trips := by rw [trips_eq]; omega
    have l9 : View.ld (View.read (Elt F) arg9.view (arg9.view.writes (Elt F) G9 P.2.1)) (rowC ⟨n, hn'⟩) = View.ld x4 (rowC ⟨n, hn'⟩) := by
      funext z
      exact (ih9 _).trans (if_neg (by rw [rowC_row]; exact Nat.lt_irrefl _))
    have l10 : View.ld (View.read (Elt F) arg10.view (arg10.view.writes (Elt F) G10 P.2.2.1)) (rowC ⟨n, hn'⟩) = View.ld x5 (rowC ⟨n, hn'⟩) := by
      funext z
      exact (ih10 _).trans (if_neg (by rw [rowC_row]; exact Nat.lt_irrefl _))
    refine ⟨fun y hy => ?_, fun y => ?_, fun y => ?_⟩
    · rw [trip_y, List.singleton_append]
      by_cases hlo : 8 * n ≤ (y 0).val
      · have hq : (y 0).val / 8 = n := by omega
        refine (View.read_writes_cons_unit_of_mem _ _ _ _ _ y (ix2 ⟨(y 0).val % 8, Nat.mod_lt _ (by decide)⟩ (y 1)) (k0_off2_eq _) ?_).trans ?_
        · intro a
          match a with
          | ⟨0, _⟩ => show (y 0).val = 8 * n + (y 0).val % 8; omega
          | ⟨1, _⟩ => exact (Nat.zero_add _).symm
        · unfold outY tripY
          rw [l9, l10]
          subst hq
          rfl
      · refine (View.read_writes_cons_unit_of_not_mem _ _ _ _ _ y (k0_off2_eq _) 0 (Or.inl ?_)).trans (ih8 y (by omega))
        show (y 0).val < 8 * n
        omega
    · rw [trip_k, List.singleton_append]
      by_cases hq : (y 0).val = n
      · refine (View.read_writes_cons_unit_of_mem _ _ _ _ _ y (ix3 0 (y 1) (y 2)) (k0_off1_eq _) ?_).trans ?_
        · intro a
          match a with
          | ⟨0, _⟩ => exact hq
          | ⟨1, _⟩ => exact (Nat.zero_add _).symm
          | ⟨2, _⟩ => exact (Nat.zero_add _).symm
        · rw [if_pos (by omega)]
          unfold outK tripK
          rw [l9]
          subst hq
          rfl
      · refine (View.read_writes_cons_unit_of_not_mem _ _ _ _ _ y (k0_off1_eq _) 0 ?_).trans ((ih9 y).trans ?_)
        · show (y 0).val < n ∨ n + 1 ≤ (y 0).val
          omega
        · by_cases h : (y 0).val < n
          · rw [if_pos h, if_pos (by omega)]
          · rw [if_neg h, if_neg (by omega)]
    · rw [trip_v, List.singleton_append]
      by_cases hq : (y 0).val = n
      · refine (View.read_writes_cons_unit_of_mem _ _ _ _ _ y (ix3 0 (y 1) (y 2)) (k0_off1_eq _) ?_).trans ?_
        · intro a
          match a with
          | ⟨0, _⟩ => exact hq
          | ⟨1, _⟩ => exact (Nat.zero_add _).symm
          | ⟨2, _⟩ => exact (Nat.zero_add _).symm
        · rw [if_pos (by omega)]
          unfold outV tripV
          rw [l10]
          subst hq
          rfl
      · refine (View.read_writes_cons_unit_of_not_mem _ _ _ _ _ y (k0_off1_eq _) 0 ?_).trans ((ih10 y).trans ?_)
        · show (y 0).val < n ∨ n + 1 ≤ (y 0).val
          omega
        · by_cases h : (y 0).val < n
          · rw [if_pos h, if_pos (by omega)]
          · rw [if_neg h, if_neg (by omega)]

end trip

set_option maxHeartbeats 1000000 in
/-- The kernel body: from the input blocks and anything in the outputs and the scratch, to the outputs at `outY`, `outK`
    and `outV` of the inputs and anything in the scratch. -/
theorem sound_kernel (c : Dev nD) (E : Set ℕ) (i : grid0.Coords) (arg2 : Memref sig .tc .vmem S128x256 .f32) (harg2 : arg2.IsWhole) (arg3 : Memref sig .tc .vmem S128x256 .f32) (harg3 : arg3.IsWhole) (arg4 : Memref sig .tc .vmem S16x128x128 .f32) (harg4 : arg4.IsWhole) (arg5 : Memref sig .tc .vmem S16x128x128 .f32) (harg5 : arg5.IsWhole) (arg6 : Memref sig .tc .vmem S32x136 .f32) (harg6 : arg6.IsWhole) (arg7 : Memref sig .tc .vmem S32x1 .f32) (harg7 : arg7.IsWhole) (arg8 : Memref sig .tc .vmem S128x256 .f32) (harg8 : arg8.IsWhole) (arg9 : Memref sig .tc .vmem S16x128x128 .f32) (harg9 : arg9.IsWhole) (arg10 : Memref sig .tc .vmem S16x128x128 .f32) (harg10 : arg10.IsWhole) (arg11 : Memref sig .tc .vmem S136x128 .f32) (harg11 : arg11.IsWhole) (arg12 : Memref sig .tc .vmem S136x128 .f32) (harg12 : arg12.IsWhole)
    (x2 x3 : Vec F S128x256 .f32) (x4 x5 : Vec F S16x128x128 .f32) (x6 : Vec F S32x136 .f32) (x7 : Vec F S32x1 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (outY x2 x3 x4 x5 x6 x7) ∗ owns (c : Thread nD τ) arg9 fullShare (outK x3 x4)
            ∗ owns (c : Thread nD τ) arg10 fullShare (outV x3 x5)
            ∗ (∃ d, owns (c : Thread nD τ) arg11 fullShare d) ∗ (∃ d, owns (c : Thread nD τ) arg12 fullShare d)) -∗ K ⟨⟩))
      ⊢ wp frame (wpE (defs₀ (F := F)) Variants.none c none) E (cc0_swa i arg2 harg2 arg3 harg3 arg4 harg4 arg5 harg5 arg6 harg6 arg7 harg7 arg8 harg8 arg9 harg9 arg10 harg10 arg11 harg11 arg12 harg12) K := by
  have e : (BitVec.ofNat 32 (i 1).val) = 0#32 := by
    have h : (i 1).val < 1 := (i 1).isLt
    have h' : (i 1).val = 0 := by omega
    rw [h']
  simp only [cc0_swa_eq_skeleton]; unfold cc0_swa_skel
  simp only [e]
  rw [dif_pos (by decide)]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, ⟨%d11, %f11, -, H11⟩, ⟨%d12, %f12, -, H12⟩, Hk⟩
  subst hf2 hf3 hf4 hf5 hf6 hf7
  sl_exec
  sl_step
  iapply Hk
  have r9 : View.read (Elt F) arg9.view (arg9.view.writes (Elt F) arg9.view.junk (sound_kernel.sl.H9_1 c arg4 f4))
      = View.read (Elt F) arg4.view f4 :=
    (View.read_writes_full _ _ _ _ _).trans ((shapeCast_self _ _).trans (View.readAt_full _ _ _))
  have r10 : View.read (Elt F) arg10.view (arg10.view.writes (Elt F) arg10.view.junk (sound_kernel.sl.H10_1 c arg5 f5))
      = View.read (Elt F) arg5.view f5 :=
    (View.read_writes_full _ _ _ _ _).trans ((shapeCast_self _ _).trans (View.readAt_full _ _ _))
  have hl := loop_holds Variants.none c none i arg2 harg2 arg3 harg3 arg4 harg4 arg5 harg5 arg6 harg6 arg7 harg7 arg8 harg8 arg9 harg9 arg10 harg10 arg11 harg11 arg12 harg12 f2 f3 f6 f7 _ _ f8 _ _ f11 f12 r9 r10 16 le_rfl
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    funext y
    exact hl.1 y (y 0).isLt
  isplitl [H9]
  · iexists _; isplitr
    swap; · iexact H9
    ipureintro
    funext y
    rw [View.writes_append]
    exact (hl.2.1 y).trans (if_pos (y 0).isLt)
  isplitl [H10]
  · iexists _; isplitr
    swap; · iexact H10
    ipureintro
    funext y
    rw [View.writes_append]
    exact (hl.2.2 y).trans (if_pos (y 0).isLt)
  isplitl [H11]
  · iexists _; iexists _; isplitr
    swap; · iexact H11
    ipureintro; rfl
  iexists _; iexists _; isplitr
  swap; · iexact H12
  ipureintro; rfl

variable (m : (ℓ : Loc nD τ sig) → Buf (Elt F) ℓ) (ρ : Dev nD → PrngReg)

/-! ## The pipeline's proof data -/

/-- The proof data: the arrays as the region finds them, after each point the inputs' buffers at their blocks and the
    outputs' at the body's functions of them; the scratch is held at anything. Two windows read one array, so
    each input holds its share of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outY (iblk m c 0 t) (iblk m c 1 t) (iblk m c 2 t) (iblk m c 3 t) (iblk m c 4 t) (iblk m c 5 t)
    | ⟨7, _⟩ => outK (iblk m c 1 t) (iblk m c 2 t)
    | ⟨8, _⟩ => outV (iblk m c 1 t) (iblk m c 3 t)
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outY (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outK (iblk m c 1 t) (iblk m c 2 t) := by dsimp only [dats]
theorem after0_8 (c : Dev nD) (t : Fin cfg0.N) : (dats m 0 c).after 8 t = outV (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`: the scratch, the generator register, the nine staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The scratch opened: the two scratch buffers at anything, and the generator register. -/
theorem scratch_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)) ∗ ∃ r, prngReg c r) := by
  unfold Pipeline.ΦA
  rw [scopedRest0_eq]
  simp only [owns_whole]
  try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, scratch_eq]
  iintro ⟨⟨⟨HA, HB⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HA]; · iexact HA
  isplitl [HB]; · iexact HB
  iintro ⟨H0, H1, H2, H3, H4, H5, H6, H7, H8, HA, HB⟩
  isplitl [HA HB Hr]
  · isplitl [HA HB]
    · isplitl [HA]; · iexact HA
      iexact HB
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the program terminates with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the program terminates, its arguments end unchanged, and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Swa
-- ==== Proof.SwaMath.lean ====
/- Softmax with a sink over the extended reals: the weights, when they are a division by something positive, and what a
   masked key weighs. -/
module

public import Idealize.ShloMosaic.Lib.Pointwise
public import Idealize.ShloMosaic.Lib.Claim

@[expose] public section

noncomputable section

open Idealize.ShloMosaic

namespace Cert.Swa

/-- The weight of key `j` among scores `s` when a sink of score `k` takes part in the normalization. -/
def weight {n : ℕ} (s : Fin n → EReal) (k : EReal) (j : Fin n) : EReal :=
  Ideal.div (Ideal.exp (s j - max (Finset.univ.fold max (Ideal.ofBits .f32 0xFF800000#32) s) k))
    (∑ i, Ideal.exp (s i - max (Finset.univ.fold max (Ideal.ofBits .f32 0xFF800000#32) s) k)
      + Ideal.exp (k - max (Finset.univ.fold max (Ideal.ofBits .f32 0xFF800000#32) s) k))

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

theorem exp_nonneg (x : EReal) : 0 ≤ Ideal.exp x := by
  induction x using EReal.rec with
  | bot => exact le_refl _
  | top => exact le_top
  | coe r => exact EReal.coe_nonneg.2 (Real.exp_pos r).le

theorem exp_bot : Ideal.exp ⊥ = 0 := rfl

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_of_ne {x : EReal} (h1 : x ≠ ⊤) (h2 : x ≠ ⊥) : IsReal x := ⟨x.toReal, (EReal.coe_toReal h1 h2).symm⟩

theorem isReal_sum {n : ℕ} (f : Fin n → EReal) (h : ∀ i, IsReal (f i)) : IsReal (∑ i, f i) :=
  Finset.sum_induction f IsReal (fun _ _ => IsReal.add) ⟨0, rfl⟩ fun i _ => h i

/-- A running maximum from −∞ is the supremum. -/
theorem fold_eq_sup {n : ℕ} (s : Fin n → EReal) : Finset.univ.fold max (Ideal.ofBits .f32 0xFF800000#32) s = Finset.univ.sup s := by
  rw [neg_inf]; rfl

/-- With no score at +∞ and a real sink, the normalization is not by zero. -/
theorem norm_ne_zero {n : ℕ} (s : Fin n → EReal) (k : EReal) (hs : ∀ j, s j ≠ ⊤) (hk : IsReal k) :
    ∑ i, Ideal.exp (s i - max (Finset.univ.fold max (Ideal.ofBits .f32 0xFF800000#32) s) k)
      + Ideal.exp (k - max (Finset.univ.fold max (Ideal.ofBits .f32 0xFF800000#32) s) k) ≠ 0 := by
  rw [fold_eq_sup]
  have ht : Finset.univ.sup s < ⊤ := (Finset.sup_lt_iff bot_lt_top).2 fun j _ => lt_top_iff_ne_top.2 (hs j)
  have hm : IsReal (max (Finset.univ.sup s) k) :=
    isReal_of_ne (max_lt ht (lt_top_iff_ne_top.2 hk.ne_top)).ne
      (lt_of_lt_of_le (bot_lt_iff_ne_bot.2 hk.ne_bot) (le_max_right _ _)).ne'
  obtain ⟨r, hr⟩ := hk.sub hm
  rw [hr]
  have hp : (0 : EReal) < Ideal.exp (r : EReal) := EReal.coe_pos.2 (Real.exp_pos r)
  exact (lt_of_lt_of_le hp (le_add_of_nonneg_left (Finset.sum_nonneg fun i _ => exp_nonneg _))).ne'

/-- A key of score −∞ weighs nothing. -/
theorem weight_bot {n : ℕ} (s : Fin n → EReal) (k : EReal) (hs : ∀ j, s j ≠ ⊤) (hk : IsReal k) (j : Fin n) (hj : s j = ⊥) :
    weight s k j = 0 := by
  unfold weight
  rw [hj, EReal.bot_sub, exp_bot]
  unfold Ideal.div
  rw [if_neg (norm_ne_zero s k hs hk), zero_mul]

/-- Four more keys of score −∞ change neither the other keys' weights nor the result. -/
theorem mix_pad (s : Fin 136 → EReal) (k : EReal) (v : Fin 136 → EReal) (hs : ∀ j, s j ≠ ⊤) (hk : IsReal k)
    (hb : ∀ j : Fin 136, 132 ≤ j.val → s j = ⊥) :
    ∑ j, weight s k j * v j
      = ∑ j : Fin 132, weight (fun j : Fin 132 => s ⟨j.val, by omega⟩) k j * v ⟨j.val, by omega⟩ := by
  have split : ∀ f : Fin 136 → EReal, ∑ j, f j = ∑ j : Fin 132, f ⟨j.val, by omega⟩ + ∑ j : Fin 4, f ⟨132 + j.val, by omega⟩ :=
    fun f => Fin.sum_univ_add (a := 132) (b := 4) f
  have hmax : Finset.univ.fold max (Ideal.ofBits .f32 0xFF800000#32) s
      = Finset.univ.fold max (Ideal.ofBits .f32 0xFF800000#32) (fun j : Fin 132 => s ⟨j.val, by omega⟩) := by
    rw [fold_eq_sup, fold_eq_sup]
    refine le_antisymm (Finset.sup_le fun j _ => ?_) (Finset.sup_le fun j _ => Finset.le_sup (f := s) (Finset.mem_univ _))
    by_cases h : j.val < 132
    · exact Finset.le_sup (f := fun j : Fin 132 => s ⟨j.val, by omega⟩) (Finset.mem_univ (⟨j.val, h⟩ : Fin 132))
    · rw [hb j (by omega)]; exact bot_le
  have hw : ∀ j : Fin 132, weight s k ⟨j.val, by omega⟩ = weight (fun j : Fin 132 => s ⟨j.val, by omega⟩) k j := by
    intro j
    unfold weight
    rw [hmax, split (fun i => Ideal.exp (s i - _)), Finset.sum_eq_zero (s := (Finset.univ : Finset (Fin 4)))
      (fun i _ => by rw [hb _ (by dsimp only; omega), EReal.bot_sub, exp_bot]), add_zero]
  rw [split, Finset.sum_eq_zero (s := (Finset.univ : Finset (Fin 4)))
    (fun i _ => by rw [weight_bot s k hs hk _ (hb _ (by dsimp only; omega)), zero_mul]), add_zero]
  exact Finset.sum_congr rfl fun j _ => by rw [hw j]

/-- A query masked to the lower lanes meets the lower lanes only. -/
theorem sum_lower (q u : Fin 128 → EReal) :
    ∑ l, q l * (if l.val < 64 then 1 else 0) * u l = ∑ e : Fin 64, q ⟨e.val, by omega⟩ * u ⟨e.val, by omega⟩ := by
  refine (Fin.sum_univ_add (a := 64) (b := 64) _).trans ?_
  rw [Finset.sum_eq_zero (s := (Finset.univ : Finset (Fin 64))) (f := fun i => q (Fin.natAdd 64 i) * _ * u (Fin.natAdd 64 i))
    (fun i _ => by rw [if_neg (by show ¬(64 + i.val < 64); omega), mul_zero, zero_mul]), add_zero]
  refine Finset.sum_congr rfl fun e _ => ?_
  rw [if_pos (show (Fin.castAdd 64 e).val < 64 from e.isLt), mul_one]
  rfl

/-- A query masked to the upper lanes meets the upper lanes only. -/
theorem sum_upper (q u : Fin 128 → EReal) :
    ∑ l, q l * (if l.val < 64 then 0 else 1) * u l = ∑ e : Fin 64, q ⟨64 + e.val, by omega⟩ * u ⟨64 + e.val, by omega⟩ := by
  refine (Fin.sum_univ_add (a := 64) (b := 64) _).trans ?_
  rw [Finset.sum_eq_zero (s := (Finset.univ : Finset (Fin 64))) (f := fun i => q (Fin.castAdd 64 i) * _ * u (Fin.castAdd 64 i))
    (fun i _ => by rw [if_pos (show (Fin.castAdd 64 i).val < 64 from i.isLt), mul_zero, zero_mul]), zero_add]
  refine Finset.sum_congr rfl fun e _ => ?_
  rw [if_neg (by show ¬(64 + e.val < 64); omega), mul_one]
  rfl

/-- What the distance from key `j` to row `r` takes off a score, with slope `2 ^ -k`; outside the window, all of it. -/
def tilt (k r j : ℕ) : EReal :=
  if r ≤ j ∧ j ≤ 128 + r then ((-((128 + r - j : ℝ) * ((2 : ℝ) ^ k)⁻¹) : ℝ) : EReal) else ⊥

theorem tilt_or (k r j : ℕ) : IsReal (tilt k r j) ∨ tilt k r j = ⊥ := by
  unfold tilt; split_ifs
  · exact .inl ⟨_, rfl⟩
  · exact .inr rfl

/-- A real score less a tilt is no +∞. -/
theorem tilted_ne_top {x : EReal} (hx : IsReal x) (k r j : ℕ) : x + tilt k r j ≠ ⊤ := by
  rcases tilt_or k r j with h | h
  · exact (hx.add h).ne_top
  · rw [h, EReal.add_bot]; exact bot_ne_top

end Cert.Swa
end
-- ==== Proof.SwaPay.lean ====
/- Sliding-window attention: what one trip of the kernel computes for its sequence, read entry by entry. -/
module

public import proofs.«01_k».proof.Proof.SwaBody
public import proofs.«01_k».proof.Proof.SwaMath
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Swa
open Cert.KernelIdeal Cert.KernelIdeal.Gen Cert.KernelIdeal.Swa

/-! ## The lane masks, the row mask, and the laid-out keys and values -/

theorem lane_lower : ∀ l : Fin 128, (BitVec.setWidth 32 (IntOp.cmpi CmpIPredicate.eq (IntOp.shrsi ArithUnit.vector (BitVec.ofNat 32 l.val) 6#32) 0#32)).toInt
    = if l.val < 64 then 1 else 0 := by decide +kernel
theorem lane_upper : ∀ l : Fin 128, (BitVec.setWidth 32 (IntOp.cmpi CmpIPredicate.eq (IntOp.shrsi ArithUnit.vector (BitVec.ofNat 32 l.val) 6#32) 1#32)).toInt
    = if l.val < 64 then 0 else 1 := by decide +kernel

theorem mask_lower (l : Fin 128) : k0_pay1 (F := Ideal) (ix2 0 l) = if l.val < 64 then (1 : EReal) else 0 := by
  pointwise [k0_pay1]
  refine (congrArg (fun n : ℤ => ((n : ℝ) : EReal)) (lane_lower l)).trans ?_
  split_ifs <;> simp
theorem mask_upper (l : Fin 128) : k0_pay2 (F := Ideal) (ix2 0 l) = if l.val < 64 then (0 : EReal) else 1 := by
  pointwise [k0_pay2]
  refine (congrArg (fun n : ℤ => ((n : ℝ) : EReal)) (lane_upper l)).trans ?_
  split_ifs <;> simp

/-- Four of a sequence's eight rows are positions. -/
theorem live_at : ∀ r : Fin 8, trip_k0_t1.sl.v53 0#32 (ix2 r 0) = if r.val < 4 then 1#1 else 0#1 := by decide +kernel

theorem keys_new (u : Vec Ideal S1x128x128 .f32) (w : Vec Ideal S8x256 .f32) (j : Fin 8) (l : Fin 128) (i : Fin 136) (hi : i.val = 128 + j.val) :
    keys u w (ix2 i l) = w (ix2 j ⟨l.val, by omega⟩) := by
  have h : (Rect.unit (s := S136x128) ![128, 0] S8x128.size inb_S136x128_S8x128_128_0).emb (ix2 j l) = ix2 ⟨128 + j.val, by omega⟩ l := by
    idx_ext
  obtain ⟨i, hi'⟩ := i
  obtain rfl : i = 128 + j.val := hi
  unfold keys
  rw [← h, View.canon_cons_emb]
  pointwise [k0_pay11]

theorem vals_new (u : Vec Ideal S1x128x128 .f32) (w : Vec Ideal S8x256 .f32) (j : Fin 8) (l : Fin 128) (i : Fin 136) (hi : i.val = 128 + j.val) :
    vals u w (ix2 i l) = w (ix2 j ⟨128 + l.val, by omega⟩) := by
  have h : (Rect.unit (s := S136x128) ![128, 0] S8x128.size inb_S136x128_S8x128_128_0).emb (ix2 j l) = ix2 ⟨128 + j.val, by omega⟩ l := by
    idx_ext
  obtain ⟨i, hi'⟩ := i
  obtain rfl : i = 128 + j.val := hi
  unfold vals
  rw [← h, View.canon_cons_emb]
  pointwise [k0_pay12]

/-- A cached row lies off the rectangle of the new rows. -/
theorem off_new (j : Fin 128) (l : Fin 128) :
    (ix2 (⟨j.val, by omega⟩ : Fin 136) l : S136x128.Idx) ∉ (Rect.unit (s := S136x128) ![128, 0] S8x128.size inb_S136x128_S8x128_128_0).set := by
  rw [Rect.mem_set_unit]
  intro h
  have h0 : 128 ≤ j.val := (h 0).1
  omega

theorem keys_cached (u : Vec Ideal S1x128x128 .f32) (j : Fin 128) (l : Fin 128) :
    (View.canon [⟨Rect.unit (s := S136x128) ![0, 0] S128x128.size inb_S136x128_S128x128_0_0, k0_pay9 (k0_pay8 u)⟩] : Vec Ideal S136x128 .f32) (ix2 ⟨j.val, by omega⟩ l)
      = u (ix3 0 j l) := by
  have h : (Rect.unit (s := S136x128) ![0, 0] S128x128.size inb_S136x128_S128x128_0_0).emb (ix2 j l) = ix2 ⟨j.val, by omega⟩ l := by
    idx_ext
  rw [← h, View.canon_cons_emb]
  pointwise [k0_pay9, k0_pay8]

theorem keys_old (u : Vec Ideal S1x128x128 .f32) (w : Vec Ideal S8x256 .f32) (j : Fin 128) (l : Fin 128) (i : Fin 136) (hi : i.val = j.val) :
    keys u w (ix2 i l) = u (ix3 0 j l) := by
  have e : i = ⟨j.val, by omega⟩ := Fin.ext hi
  rw [e]
  exact (View.canon_cons_of_not_mem (⟨Rect.unit (s := S136x128) ![128, 0] S8x128.size inb_S136x128_S8x128_128_0, k0_pay11 w⟩ : View.Piece (Elt Ideal) S136x128 .f32)
    _ (off_new j l)).trans (keys_cached u j l)

theorem vals_cached (u : Vec Ideal S1x128x128 .f32) (j : Fin 128) (l : Fin 128) :
    (View.canon [⟨Rect.unit (s := S136x128) ![0, 0] S128x128.size inb_S136x128_S128x128_0_0, k0_pay10 u⟩] : Vec Ideal S136x128 .f32) (ix2 ⟨j.val, by omega⟩ l)
      = u (ix3 0 j l) := by
  have h : (Rect.unit (s := S136x128) ![0, 0] S128x128.size inb_S136x128_S128x128_0_0).emb (ix2 j l) = ix2 ⟨j.val, by omega⟩ l := by
    idx_ext
  rw [← h, View.canon_cons_emb]
  pointwise [k0_pay10]

theorem vals_old (u : Vec Ideal S1x128x128 .f32) (w : Vec Ideal S8x256 .f32) (j : Fin 128) (l : Fin 128) (i : Fin 136) (hi : i.val = j.val) :
    vals u w (ix2 i l) = u (ix3 0 j l) := by
  have e : i = ⟨j.val, by omega⟩ := Fin.ext hi
  rw [e]
  exact (View.canon_cons_of_not_mem (⟨Rect.unit (s := S136x128) ![128, 0] S8x128.size inb_S136x128_S8x128_128_0, k0_pay12 w⟩ : View.Piece (Elt Ideal) S136x128 .f32)
    _ (off_new j l)).trans (vals_cached u j l)

/-! ## Scores -/

section scores
variable (q : FVec Ideal S8x256 .f32) (ks : FVec Ideal S136x128 .f32) (r : Fin 8) (j : Fin 136)

/-- The score of head block `B` (two blocks of 128 lanes, two key heads each) before the bias. -/
def dot (B : Fin 4) : EReal :=
  (∑ e : Fin 64, q (ix2 r ⟨B.val * 64 + e.val, by omega⟩) * ks (ix2 j ⟨B.val % 2 * 64 + e.val, by omega⟩)) * Ideal.ofBits .f32 0x3E000000#32

theorem score0 (i : Fin 32) (hi : i.val = r.val) : k0_pay13 (k0_pay1 (F := Ideal)) (k0_pay2 (F := Ideal)) q ks (ix2 i j) = dot q ks r j 0 := by
  pointwise [k0_pay13]
  simp only [dif_pos (show i.val < 8 by omega), mask_lower]
  refine congrArg (· * _) ((sum_lower (fun l => q (ix2 ⟨i.val, by omega⟩ ⟨l.val, by omega⟩)) fun l => ks (ix2 j l)).trans ?_)
  refine Finset.sum_congr rfl fun e _ => congrArg₂ (· * ·) (congrArg q ?_) (congrArg ks ?_)
  · exact (ix2_inj ..).2 ⟨Fin.ext hi, Fin.ext (by show e.val = 0 * 64 + e.val; omega)⟩
  · exact (ix2_inj ..).2 ⟨rfl, Fin.ext (by show e.val = 0 % 2 * 64 + e.val; omega)⟩

theorem score1 (i : Fin 32) (hi : i.val = 8 + r.val) : k0_pay13 (k0_pay1 (F := Ideal)) (k0_pay2 (F := Ideal)) q ks (ix2 i j) = dot q ks r j 1 := by
  pointwise [k0_pay13]
  simp only [dif_neg (show ¬i.val < 8 by omega), dif_pos (show i.val - 8 < 8 by omega), mask_upper]
  refine congrArg (· * _) ((sum_upper (fun l => q (ix2 ⟨i.val - 8, by omega⟩ ⟨l.val, by omega⟩)) fun l => ks (ix2 j l)).trans ?_)
  refine Finset.sum_congr rfl fun e _ => congrArg₂ (· * ·) (congrArg q ?_) (congrArg ks ?_)
  · exact (ix2_inj ..).2 ⟨Fin.ext (by show i.val - 8 = r.val; omega), Fin.ext (by show 64 + e.val = 1 * 64 + e.val; omega)⟩
  · exact (ix2_inj ..).2 ⟨rfl, Fin.ext (by show 64 + e.val = 1 % 2 * 64 + e.val; omega)⟩

theorem score2 (i : Fin 32) (hi : i.val = 16 + r.val) : k0_pay13 (k0_pay1 (F := Ideal)) (k0_pay2 (F := Ideal)) q ks (ix2 i j) = dot q ks r j 2 := by
  pointwise [k0_pay13]
  simp only [dif_neg (show ¬i.val < 8 by omega), dif_neg (show ¬i.val - 8 < 8 by omega), dif_pos (show i.val - 8 - 8 < 8 by omega), mask_lower]
  refine congrArg (· * _) ((sum_lower (fun l => q (ix2 ⟨i.val - 8 - 8, by omega⟩ ⟨128 + l.val, by omega⟩)) fun l => ks (ix2 j l)).trans ?_)
  refine Finset.sum_congr rfl fun e _ => congrArg₂ (· * ·) (congrArg q ?_) (congrArg ks ?_)
  · exact (ix2_inj ..).2 ⟨Fin.ext (by show i.val - 8 - 8 = r.val; omega), Fin.ext (by show 128 + e.val = 2 * 64 + e.val; omega)⟩
  · exact (ix2_inj ..).2 ⟨rfl, Fin.ext (by show e.val = 2 % 2 * 64 + e.val; omega)⟩

theorem score3 (i : Fin 32) (hi : i.val = 24 + r.val) : k0_pay13 (k0_pay1 (F := Ideal)) (k0_pay2 (F := Ideal)) q ks (ix2 i j) = dot q ks r j 3 := by
  pointwise [k0_pay13]
  simp only [dif_neg (show ¬i.val < 8 by omega), dif_neg (show ¬i.val - 8 < 8 by omega), dif_neg (show ¬i.val - 8 - 8 < 8 by omega), mask_upper]
  refine congrArg (· * _) ((sum_upper (fun l => q (ix2 ⟨i.val - 8 - 8 - 8, by omega⟩ ⟨128 + l.val, by omega⟩)) fun l => ks (ix2 j l)).trans ?_)
  refine Finset.sum_congr rfl fun e _ => congrArg₂ (· * ·) (congrArg q ?_) (congrArg ks ?_)
  · exact (ix2_inj ..).2 ⟨Fin.ext (by show i.val - 8 - 8 - 8 = r.val; omega), Fin.ext (by show 128 + (64 + e.val) = 3 * 64 + e.val; omega)⟩
  · exact (ix2_inj ..).2 ⟨rfl, Fin.ext (by show 64 + e.val = 3 % 2 * 64 + e.val; omega)⟩

/-- The score of row `r` in head block `B` at key `j`. -/
theorem score_at (B : Fin 4) (i : Fin 32) (hi : i.val = B.val * 8 + r.val) :
    k0_pay13 (k0_pay1 (F := Ideal)) (k0_pay2 (F := Ideal)) q ks (ix2 i j) = dot q ks r j B := by
  have hB : B = 0 ∨ B = 1 ∨ B = 2 ∨ B = 3 := (by decide : ∀ B : Fin 4, B = 0 ∨ B = 1 ∨ B = 2 ∨ B = 3) B
  rcases hB with rfl | rfl | rfl | rfl
  · exact score0 q ks r j i (by rw [hi]; show 0 * 8 + r.val = _; omega)
  · exact score1 q ks r j i (by rw [hi]; show 1 * 8 + r.val = _; omega)
  · exact score2 q ks r j i (by rw [hi]; show 2 * 8 + r.val = _; omega)
  · exact score3 q ks r j i (by rw [hi]; show 3 * 8 + r.val = _; omega)

end scores

/-! ## Weights and output -/

/-- The weights of every head row, from its biased scores and its sink. -/
def weights (v98 : FVec Ideal S32x136 .f32) (v99 : FVec Ideal S32x1 .f32) : FVec Ideal S32x136 .f32 :=
  have v100 : FVec Ideal S32x1 .f32 := shapeCast S32x1 v99 shapeCasts_S32x1_S32x1
  have v103 : FVec Ideal S32x1 .f32 := maximumf (shapeCast S32x1 (multiReduction .maximumf [1] S32 v98 0xFF800000#32 reduces_S32x136_S32 (.inl rfl) rfl) shapeCasts_S32_S32x1) v100
  have v106 : FVec Ideal S32x136 .f32 := exp (subf v98 (broadcastTo S32x136 v103 broadcasts_S32x1_S32x136))
  have v111 : FVec Ideal S32x1 .f32 := addf (shapeCast S32x1 (multiReduction .add [1] S32 v106 0x00000000#32 reduces_S32x136_S32 (.inl rfl) rfl) shapeCasts_S32_S32x1) (exp (subf v100 v103))
  divf v106 (broadcastTo S32x136 v111 broadcasts_S32x1_S32x136)

theorem weights_at (s : FVec Ideal S32x136 .f32) (k : FVec Ideal S32x1 .f32) (i : Fin 32) (j : Fin 136) :
    weights s k (ix2 i j) = weight (fun j => s (ix2 i j)) (k (ix2 i 0)) j := by
  pointwise [weights]
  rfl

/-- The output rows, from the weights and the values: each head block keeps the lanes of its key head. -/
def gathered (v6 v12 : FVec Ideal S1x128 .f32) (v53 : IVec S8x1 1) (v113 : FVec Ideal S32x136 .f32) (v114 : FVec Ideal S136x128 .f32) : FVec Ideal S8x256 .f32 :=
  have v117 : FVec Ideal S32x128 .f32 := matmul dot_S32x136_S136x128_S32x128_1_0_0_1_n_n none (truncf .bf16 v113 bitsLt_bf16_f32) (truncf .bf16 v114 bitsLt_bf16_f32) (constant S32x128 .f32 0x00000000#32)
  have v124 : FVec Ideal S8x128 .f32 := addf (mulf (extractStridedSlice S8x128 ![0, 0] v117 slices_S32x128_o0_0_S8x128) (broadcastTo S8x128 v6 broadcasts_S1x128_S8x128))
    (mulf (extractStridedSlice S8x128 ![8, 0] v117 slices_S32x128_o8_0_S8x128) (broadcastTo S8x128 v12 broadcasts_S1x128_S8x128))
  have v131 : FVec Ideal S8x128 .f32 := addf (mulf (extractStridedSlice S8x128 ![16, 0] v117 slices_S32x128_o16_0_S8x128) (broadcastTo S8x128 v6 broadcasts_S1x128_S8x128))
    (mulf (extractStridedSlice S8x128 ![24, 0] v117 slices_S32x128_o24_0_S8x128) (broadcastTo S8x128 v12 broadcasts_S1x128_S8x128))
  select (broadcastTo S8x256 (shapeCast S8x1 v53 shapeCasts_S8x1_S8x1) broadcasts_S8x1_S8x256)
    (concatenate S8x256 1 [⟨S8x128, v124⟩, ⟨S8x128, v131⟩] concatenates_S8x128_S8x128_S8x256_d1) (broadcast S8x256 (Scalar.ofBits .f32 0x00000000#32))

/-- The kernel's payload is the two steps. -/
theorem attn_eq (q : FVec Ideal S8x256 .f32) (ks vs : FVec Ideal S136x128 .f32) (b : FVec Ideal S32x136 .f32) (s : FVec Ideal S32x1 .f32) :
    attn (F := Ideal) q ks vs b s = gathered (k0_pay1 (F := Ideal)) (k0_pay2 (F := Ideal)) (trip_k0_t1.sl.v53 0#32)
      (weights (addf (k0_pay13 (k0_pay1 (F := Ideal)) (k0_pay2 (F := Ideal)) q ks) b) s) vs := rfl

section gathered
variable (P : FVec Ideal S32x136 .f32) (vs : FVec Ideal S136x128 .f32) (r : Fin 8)

/-- One head row's weights against one lane of the values. -/
def mixed (i : Fin 32) (l : Fin 128) : EReal := ∑ j, P (ix2 i j) * vs (ix2 j l)

theorem gathered_dead (hr : ¬r.val < 4) (x : Fin 256) :
    gathered (k0_pay1 (F := Ideal)) (k0_pay2 (F := Ideal)) (trip_k0_t1.sl.v53 0#32) P vs (ix2 r x) = 0 := by
  pointwise [gathered]
  rw [live_at, if_neg hr]
  rfl

theorem gathered_lo (hr : r.val < 4) (x : Fin 256) (l : Fin 128) (hx : x.val = l.val) :
    gathered (k0_pay1 (F := Ideal)) (k0_pay2 (F := Ideal)) (trip_k0_t1.sl.v53 0#32) P vs (ix2 r x)
      = mixed P vs ⟨r.val, by omega⟩ l * k0_pay1 (F := Ideal) (ix2 0 l) + mixed P vs ⟨8 + r.val, by omega⟩ l * k0_pay2 (F := Ideal) (ix2 0 l) := by
  obtain ⟨x, hx'⟩ := x
  obtain rfl : x = l.val := hx
  pointwise [gathered]
  rw [live_at, if_pos hr]
  refine Eq.trans (show Scalar.select 1#1 _ _ = _ from rfl) ?_
  rfl

theorem gathered_hi (hr : r.val < 4) (x : Fin 256) (l : Fin 128) (hx : x.val = 128 + l.val) :
    gathered (k0_pay1 (F := Ideal)) (k0_pay2 (F := Ideal)) (trip_k0_t1.sl.v53 0#32) P vs (ix2 r x)
      = mixed P vs ⟨16 + r.val, by omega⟩ l * k0_pay1 (F := Ideal) (ix2 0 l) + mixed P vs ⟨24 + r.val, by omega⟩ l * k0_pay2 (F := Ideal) (ix2 0 l) := by
  pointwise [gathered]
  rw [live_at, if_pos hr, dif_neg (by omega)]
  have hl : (⟨x.val - 128, by omega⟩ : Fin 128) = l := Fin.ext (by show x.val - 128 = l.val; omega)
  rw [hl]
  rfl

/-- Lane `d` of head block `B`. -/
theorem gathered_at (hr : r.val < 4) (B : Fin 4) (d : Fin 64) (x : Fin 256) (hx : x.val = B.val * 64 + d.val) :
    gathered (k0_pay1 (F := Ideal)) (k0_pay2 (F := Ideal)) (trip_k0_t1.sl.v53 0#32) P vs (ix2 r x)
      = mixed P vs ⟨B.val * 8 + r.val, by omega⟩ ⟨B.val % 2 * 64 + d.val, by omega⟩ := by
  have hB : B = 0 ∨ B = 1 ∨ B = 2 ∨ B = 3 := (by decide : ∀ B : Fin 4, B = 0 ∨ B = 1 ∨ B = 2 ∨ B = 3) B
  rcases hB with rfl | rfl | rfl | rfl
  · replace hx : x.val = 0 * 64 + d.val := hx
    rw [gathered_lo P vs r hr x ⟨d.val, by omega⟩ (by dsimp only; omega), mask_lower, mask_upper, if_pos (by exact d.isLt), if_pos (by exact d.isLt), mul_one, mul_zero, add_zero]
    exact congrArg₂ (mixed P vs) (Fin.ext (by show r.val = 0 * 8 + r.val; omega)) (Fin.ext (by show d.val = 0 % 2 * 64 + d.val; omega))
  · replace hx : x.val = 1 * 64 + d.val := hx
    rw [gathered_lo P vs r hr x ⟨64 + d.val, by omega⟩ (by dsimp only; omega), mask_lower, mask_upper, if_neg (by dsimp only; omega), if_neg (by dsimp only; omega), mul_one, mul_zero, zero_add]
    exact congrArg₂ (mixed P vs) (Fin.ext (by show 8 + r.val = 1 * 8 + r.val; omega)) (Fin.ext (by show 64 + d.val = 1 % 2 * 64 + d.val; omega))
  · replace hx : x.val = 2 * 64 + d.val := hx
    rw [gathered_hi P vs r hr x ⟨d.val, by omega⟩ (by dsimp only; omega), mask_lower, mask_upper, if_pos (by exact d.isLt), if_pos (by exact d.isLt), mul_one, mul_zero, add_zero]
    exact congrArg₂ (mixed P vs) (Fin.ext (by show 16 + r.val = 2 * 8 + r.val; omega)) (Fin.ext (by show d.val = 2 % 2 * 64 + d.val; omega))
  · replace hx : x.val = 3 * 64 + d.val := hx
    rw [gathered_hi P vs r hr x ⟨64 + d.val, by omega⟩ (by dsimp only; omega), mask_lower, mask_upper, if_neg (by dsimp only; omega), if_neg (by dsimp only; omega), mul_one, mul_zero, zero_add]
    exact congrArg₂ (mixed P vs) (Fin.ext (by show 24 + r.val = 3 * 8 + r.val; omega)) (Fin.ext (by show 64 + d.val = 3 % 2 * 64 + d.val; omega))
end gathered

/-- A row that is no position stays zero. -/
theorem attn_dead (q : FVec Ideal S8x256 .f32) (ks vs : FVec Ideal S136x128 .f32) (b : FVec Ideal S32x136 .f32) (s : FVec Ideal S32x1 .f32)
    (r : Fin 8) (hr : ¬r.val < 4) (x : Fin 256) : attn (F := Ideal) q ks vs b s (ix2 r x) = 0 := by
  rw [attn_eq]; exact gathered_dead _ _ _ hr _

/-- A position's output in head block `B` at lane `d`: the values weighed by the softmax of its biased scores. -/
theorem attn_at (q : FVec Ideal S8x256 .f32) (ks vs : FVec Ideal S136x128 .f32) (b : FVec Ideal S32x136 .f32) (s : FVec Ideal S32x1 .f32)
    (r : Fin 8) (hr : r.val < 4) (B : Fin 4) (d : Fin 64) (x : Fin 256) (hx : x.val = B.val * 64 + d.val) :
    attn (F := Ideal) q ks vs b s (ix2 r x)
      = ∑ j, weight (fun j => dot q ks r j B + b (ix2 ⟨B.val * 8 + r.val, by omega⟩ j)) (s (ix2 ⟨B.val * 8 + r.val, by omega⟩ 0)) j
          * vs (ix2 j ⟨B.val % 2 * 64 + d.val, by omega⟩) := by
  rw [attn_eq, gathered_at _ _ r hr B d x hx]
  unfold mixed
  refine Finset.sum_congr rfl fun j _ => congrArg (· * _) ((weights_at _ _ _ _).trans ?_)
  refine congrArg (weight · _ j) (funext fun j => ?_)
  exact congrArg (· + _) (score_at q ks r j B _ rfl)

end Cert.Swa
end
-- ==== Proof.SwaBias.lean ====
/- Sliding-window attention: the kernel's table of distance biases, entry by entry. -/
module

public import proofs.«01_k».proof.Proof.SwaPay

@[expose] public section

set_option maxRecDepth 16384

noncomputable section

open Idealize.ShloMosaic Idealize.ShloMosaic.TcCoe Idealize.SL.Sem

namespace Cert.Swa
open Cert.KernelIdeal Cert.KernelIdeal.Gen Cert.KernelIdeal.Swa

/-- The word `w` is the single-precision number `-(n * 2 ^ -k)`. -/
def encodes (w : BitVec 32) (k n : ℕ) : Bool :=
  (w == 0x80000000#32 && n == 0) ||
  (w.extractLsb' 31 1 == 1#1 && (w.extractLsb' 23 8).toNat != 255 && (w.extractLsb' 23 8).toNat != 0 &&
    (2 ^ 23 + (w.extractLsb' 0 23).toNat) * 2 ^ (w.extractLsb' 23 8).toNat * 2 ^ k == n * 2 ^ 150)

theorem zero_word : Ideal.ofBits .f32 0x80000000#32 = 0 := by simp [Ideal.ofBits, Ideal.ieee]

theorem ofBits_encodes (w : BitVec 32) (k n : ℕ) (h : encodes w k n = true) :
    Ideal.ofBits .f32 w = ((-((n : ℝ) * ((2 : ℝ) ^ k)⁻¹) : ℝ) : EReal) := by
  unfold encodes at h
  rw [Bool.or_eq_true] at h
  rcases h with h | h
  · simp only [Bool.and_eq_true, beq_iff_eq] at h
    obtain ⟨rfl, rfl⟩ := h
    rw [zero_word]
    simp
  · simp only [Bool.and_eq_true, beq_iff_eq, bne_iff_ne, ne_eq] at h
    obtain ⟨⟨⟨h1, h2⟩, h3⟩, h4⟩ := h
    unfold Ideal.ofBits Ideal.ieee
    dsimp only
    rw [if_neg (by exact h2), if_neg h3]
    refine congrArg _ ?_
    have h1' : (w.extractLsb' (8 + 23) 1 == 1#1) = true := by rw [beq_iff_eq]; exact h1
    rw [if_pos h1']
    generalize (w.extractLsb' 23 8).toNat = ex at h4 ⊢
    generalize (w.extractLsb' 0 23).toNat = fr at h4 ⊢
    have h5 : ((2 ^ 23 + fr : ℕ) : ℝ) * 2 ^ ex * 2 ^ k = (n : ℝ) * 2 ^ 150 := by exact_mod_cast h4
    have e : ((ex : ℤ) - ((2 : ℤ) ^ (8 - 1) - 1) - (23 : ℕ)) = (ex : ℤ) - (150 : ℕ) := by norm_num; ring
    rw [e, zpow_sub₀ (by norm_num), zpow_natCast, zpow_natCast]
    have hk : ((2 : ℝ) ^ k) ≠ 0 := by positivity
    field_simp
    linarith

/-- The table's word at row `r` of head block `B`, key `j`. -/
theorem words : ∀ (B r : Fin 4) (j : Fin 136),
    if r.val ≤ j.val ∧ j.val ≤ 128 + r.val
      then encodes (lit1t ((B.val * 8 + r.val) * 136 + j.val)) (2 * (2 * (B.val % 2) + B.val / 2) + 2) (128 + r.val - j.val) = true
      else lit1t ((B.val * 8 + r.val) * 136 + j.val) = 0xFF800000#32 := by
  decide +kernel

theorem rowMajor_at (i : Fin 32) (j : Fin 136) : (S32x136.rowMajor (ix2 i j)).val = i.val * 136 + j.val := Shape.rowMajor_val_two ..

theorem bias_at (B : Fin 4) (r : Fin 8) (hr : r.val < 4) (j : Fin 136) (i : Fin 32) (hi : i.val = B.val * 8 + r.val) :
    Ideal.ofBits .f32 (lit1 (S32x136.rowMajor (ix2 i j))) = tilt (2 * (2 * (B.val % 2) + B.val / 2) + 2) r.val j.val := by
  have e : lit1 (S32x136.rowMajor (ix2 i j)) = lit1t ((B.val * 8 + r.val) * 136 + j.val) := by
    refine (show lit1 (S32x136.rowMajor (ix2 i j)) = lit1t (S32x136.rowMajor (ix2 i j)).val from rfl).trans ?_
    rw [rowMajor_at, hi]
  rw [e]
  have h := words B ⟨r.val, hr⟩ j
  dsimp only at h
  unfold tilt
  split_ifs at h ⊢ with hv
  · rw [ofBits_encodes _ _ _ h]
    refine congrArg _ ?_
    rw [Nat.cast_sub hv.2]
    push_cast
    rfl
  · rw [h, neg_inf]

end Cert.Swa
end
-- ==== Proof.SwaRef.lean ====
/- Sliding-window attention: the reference, read entry by entry. -/
module

public import proofs.«01_k».proof.Proof.Gen.ReferenceIdeal.Run
public import proofs.«01_k».proof.Proof.Gen.ReferenceIdeal.Read
public import proofs.«01_k».proof.Proof.SwaMath
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Swa.Ref
open Cert.ReferenceIdeal Cert.ReferenceIdeal.Gen Cert.ReferenceIdeal.Read

variable (x0 : FVec Ideal S1024x3072 .f32) (x1 x2 : FVec Ideal S128x128x2x64 .f32) (x3 : FVec Ideal S4 .f32)

/-! ## Keys, values, queries -/

/-- The keys of sequence `n`: 128 cached rows, then the four new ones. -/
theorem keys_at (n : Fin 128) (s : Fin 132) (h : Fin 2) (d : Fin 64) :
    val_main_v9 (F := Ideal) x0 x1 (ix4 n s h d)
      = if hs : s.val < 128 then x1 (ix4 n ⟨s.val, hs⟩ h d)
        else x0 (ix2 ⟨n.val * 8 + (s.val - 128), by omega⟩ ⟨2560 + (h.val * 64 + d.val), by omega⟩) := by
  pointwise [val_main_v9, val_main_v6, val_main_v5, val_main_v1, val_main_v0]

theorem vals_at (n : Fin 128) (s : Fin 132) (h : Fin 2) (d : Fin 64) :
    val_main_v10 (F := Ideal) x0 x2 (ix4 n s h d)
      = if hs : s.val < 128 then x2 (ix4 n ⟨s.val, hs⟩ h d)
        else x0 (ix2 ⟨n.val * 8 + (s.val - 128), by omega⟩ ⟨2688 + (h.val * 64 + d.val), by omega⟩) := by
  pointwise [val_main_v10, val_main_v8, val_main_v7, val_main_v1, val_main_v0]

theorem queries_at (n : Fin 128) (i : Fin 4) (h g : Fin 2) (d : Fin 64) :
    val_main_v4 (F := Ideal) x0 (ix5 n i h g d)
      = x0 (ix2 ⟨n.val * 8 + i.val, by omega⟩ ⟨2304 + (g.val * 128 + h.val * 64 + d.val), by omega⟩) := by
  pointwise [val_main_v4, val_main_v3, val_main_v2, val_main_v1, val_main_v0]

/-! ## The caches after the step -/

theorem cacheK_at (n s l : Fin 128) :
    val_main_v74 (F := Ideal) x0 x1 (ix3 n s l)
      = val_main_v9 (F := Ideal) x0 x1 (ix4 n ⟨4 + s.val, by omega⟩ ⟨l.val / 64, by omega⟩ ⟨l.val % 64, by omega⟩) := by
  pointwise [val_main_v74, val_main_v73]

theorem cacheV_at (n s l : Fin 128) :
    val_main_v76 (F := Ideal) x0 x2 (ix3 n s l)
      = val_main_v10 (F := Ideal) x0 x2 (ix4 n ⟨4 + s.val, by omega⟩ ⟨l.val / 64, by omega⟩ ⟨l.val % 64, by omega⟩) := by
  pointwise [val_main_v76, val_main_v75]

/-! ## Scores -/

theorem dist_at : ∀ (i : Fin 4) (s : Fin 132), (val_main_v19 (F := Ideal) (ix2 i s)).toInt = (128 + i.val : ℤ) - s.val := by
  decide +kernel

theorem valid_at : ∀ (i : Fin 4) (s : Fin 132),
    val_main_v24 (F := Ideal) (ix2 i s) = if i.val ≤ s.val ∧ s.val ≤ 128 + i.val then 1#1 else 0#1 := by
  decide +kernel

theorem slope_at (h g : Fin 2) : val_main_v35 (F := Ideal) (ix2 h g) = ((((2 : ℝ) ^ (2 * (2 * h.val + g.val) + 2))⁻¹ : ℝ) : EReal) := by
  pointwise [val_main_v35, val_main_v34, val_main_v33, val_main_v32, val_main_v31, val_main_v30, val_main_v29, val_main_v28, val_main_v27,
    val_main_v26, val_main_v25, val_main_c_2, val_main_c_3, val_main_c_4, val_main_cst, val_main_cst_5, val_main_cst_6, val_main_cst_7,
    val_main_call0_v0, val_main_call0_v1, val_main_call1_v0, val_main_call2_v0]
  have h0 : h = 0 ∨ h = 1 := (by decide : ∀ h : Fin 2, h = 0 ∨ h = 1) h
  have g0 : g = 0 ∨ g = 1 := (by decide : ∀ h : Fin 2, h = 0 ∨ h = 1) g
  rcases h0 with rfl | rfl <;> rcases g0 with rfl | rfl
  · refine Eq.trans (show _ = Ideal.ofBits .f32 1048576000#32 from rfl) ?_
    simp [Ideal.ofBits, Ideal.ieee, -EReal.coe_mul]; norm_num
  · refine Eq.trans (show _ = Ideal.ofBits .f32 1031798784#32 from rfl) ?_
    simp [Ideal.ofBits, Ideal.ieee, -EReal.coe_mul]; norm_num
  · refine Eq.trans (show _ = Ideal.ofBits .f32 1015021568#32 from rfl) ?_
    simp [Ideal.ofBits, Ideal.ieee, -EReal.coe_mul]; norm_num
  · refine Eq.trans (show _ = Ideal.ofBits .f32 998244352#32 from rfl) ?_
    simp [Ideal.ofBits, Ideal.ieee, -EReal.coe_mul]; norm_num

theorem slope4_at (h g : Fin 2) : val_main_v43 (F := Ideal) (ix4 h g 0 0) = val_main_v35 (F := Ideal) (ix2 h g) := by
  refine Eq.trans (show _ = val_main_v41 (F := Ideal) (ix4 h g 0 0) from rfl) ?_
  pointwise [val_main_v41]

theorem dot_at (n : Fin 128) (h g : Fin 2) (i : Fin 4) (s : Fin 132) :
    val_main_v38 (F := Ideal) x0 x1 (ix5 n h g i s)
      = ∑ e, val_main_v9 (F := Ideal) x0 x1 (ix4 n s h e) * val_main_v4 (F := Ideal) x0 (ix5 n i h g e) := by
  pointwise [val_main_v38, val_main_v37]

theorem score_at (n : Fin 128) (h g : Fin 2) (i : Fin 4) (s : Fin 132) :
    val_main_v51 (F := Ideal) x0 x1 (ix5 n h g i s)
      = (∑ e, val_main_v9 (F := Ideal) x0 x1 (ix4 n s h e) * val_main_v4 (F := Ideal) x0 (ix5 n i h g e)) * Ideal.ofBits .f32 0x3E000000#32
        + tilt (2 * (2 * h.val + g.val) + 2) i.val s.val := by
  pointwise [val_main_v51, val_main_v50, val_main_v49, val_main_v48, val_main_v47, val_main_v46, val_main_v45, val_main_v44, val_main_v42,
    val_main_v40, val_main_v39, val_main_cst_8, val_main_call3_v2, val_main_call3_v1]
  rw [valid_at]
  unfold tilt
  split_ifs with hv
  · refine Eq.trans (show Scalar.select 1#1 _ _ = _ from rfl) ?_
    rw [sub_eq_add_neg]
    refine congrArg₂ (· + ·) (congrArg (· * _) (dot_at x0 x1 n h g i s)) ?_
    rw [slope4_at, slope_at]
    refine Eq.trans (b := -(((((2 : ℝ) ^ (2 * (2 * h.val + g.val) + 2))⁻¹ : ℝ) : EReal) * ((((val_main_v19 (F := Ideal) (ix2 i s)).toInt : ℤ) : ℝ) : EReal))) rfl ?_
    rw [dist_at, ← EReal.coe_mul, ← EReal.coe_neg]
    refine congrArg _ ?_
    push_cast
    ring
  · refine Eq.trans (show Scalar.select 0#1 _ _ = _ from rfl) ?_
    rw [EReal.add_bot]
    exact neg_inf

/-! ## Weights and output -/

theorem sink_at (h g : Fin 2) : val_main_v36 (F := Ideal) x3 (ix2 h g) = x3 (ix1 ⟨h.val * 2 + g.val, by omega⟩) := by
  pointwise [val_main_v36]

theorem weight_at (n : Fin 128) (h g : Fin 2) (i : Fin 4) (s : Fin 132) :
    val_main_v66 (F := Ideal) x0 x1 x3 (ix5 n h g i s)
      = weight (fun s => val_main_v51 (F := Ideal) x0 x1 (ix5 n h g i s)) (val_main_v36 (F := Ideal) x3 (ix2 h g)) s := by
  pointwise [val_main_v66, val_main_v65, val_main_v64, val_main_v63, val_main_v62, val_main_v61, val_main_v60, val_main_v59, val_main_v58,
    val_main_v57, val_main_v56, val_main_v55, val_main_v54, val_main_v53, val_main_v52, val_main_cst_11, val_main_cst_10]
  rfl

theorem out_live (y : Fin 1024) (x : Fin 256) (hy : y.val % 8 < 4) :
    val_main_v72 (F := Ideal) x0 x1 x2 x3 (ix2 y x)
      = ∑ s, val_main_v10 (F := Ideal) x0 x2 (ix4 ⟨y.val / 8, by omega⟩ s ⟨x.val / 64 % 2, by omega⟩ ⟨x.val % 64, by omega⟩)
          * val_main_v66 (F := Ideal) x0 x1 x3 (ix5 ⟨y.val / 8, by omega⟩ ⟨x.val / 64 % 2, by omega⟩ ⟨x.val / 128, by omega⟩ ⟨y.val % 8, hy⟩ s) := by
  pointwise [val_main_v72, val_main_v71, val_main_v70, val_main_v69, val_main_v68, val_main_v67]
  rw [dif_pos (show y.val / 8 < 128 ∧ y.val % 8 < 4 from ⟨by omega, hy⟩)]

theorem out_dead (y : Fin 1024) (x : Fin 256) (hy : ¬y.val % 8 < 4) : val_main_v72 (F := Ideal) x0 x1 x2 x3 (ix2 y x) = 0 := by
  pointwise [val_main_v72, val_main_v71, val_main_call4_v0, val_main_c_12]
  rw [dif_neg (show ¬(y.val / 8 < 128 ∧ y.val % 8 < 4) from fun h => hy h.2)]
  simp [FloatOps.sitofp]

/-- Row `r` of sequence `n`, key head `h`, group `g`, lane `d`: the values weighed by the softmax of the tilted scores. -/
theorem out_at (n : Fin 128) (r : Fin 4) (h g : Fin 2) (d : Fin 64) (y : Fin 1024) (x : Fin 256) (hy : y.val = n.val * 8 + r.val)
    (hx : x.val = g.val * 128 + h.val * 64 + d.val) :
    val_main_v72 (F := Ideal) x0 x1 x2 x3 (ix2 y x)
      = ∑ s, weight (fun s => (∑ e, val_main_v9 (F := Ideal) x0 x1 (ix4 n s h e) * val_main_v4 (F := Ideal) x0 (ix5 n r h g e))
            * Ideal.ofBits .f32 0x3E000000#32 + tilt (2 * (2 * h.val + g.val) + 2) r.val s.val) (x3 (ix1 ⟨h.val * 2 + g.val, by omega⟩)) s
          * val_main_v10 (F := Ideal) x0 x2 (ix4 n s h d) := by
  have hr : y.val % 8 < 4 := by omega
  have en : (⟨y.val / 8, by omega⟩ : Fin 128) = n := Fin.ext (by dsimp only; omega)
  have er : (⟨y.val % 8, hr⟩ : Fin 4) = r := Fin.ext (by dsimp only; omega)
  have eh : (⟨x.val / 64 % 2, by omega⟩ : Fin 2) = h := Fin.ext (by dsimp only; omega)
  have eg : (⟨x.val / 128, by omega⟩ : Fin 2) = g := Fin.ext (by dsimp only; omega)
  have ed : (⟨x.val % 64, by omega⟩ : Fin 64) = d := Fin.ext (by dsimp only; omega)
  rw [out_live x0 x1 x2 x3 y x hr, en, er, eh, eg, ed]
  refine Finset.sum_congr rfl fun s _ => ?_
  rw [mul_comm, weight_at, sink_at]
  simp only [score_at]

end Cert.Swa.Ref
end
-- ==== Proof.Swa.lean ====
/- Sliding-window attention: the three arrays the kernel leaves are the reference's. -/
module

public import proofs.«01_k».proof.Proof.SwaBias
public import proofs.«01_k».proof.Proof.SwaRef

@[expose] public section

set_option maxRecDepth 16384

noncomputable section

open Idealize.ShloMosaic Idealize.ShloMosaic.TcCoe Idealize.SL.Sem

namespace Cert.Swa
open Cert.KernelIdeal Cert.KernelIdeal.Gen Cert.KernelIdeal.Swa

theorem ld_row (x : Vec Ideal S16x128x128 .f32) (k : Fin k0_t1_loop.trips) (hk : k.val < 16) (j l : Fin 128) :
    (View.ld x (rowC k) : Vec Ideal S1x128x128 .f32) (ix3 0 j l) = x (ix3 ⟨k.val, hk⟩ j l) := by
  have h : (rowC k).emb (ix3 0 j l) = ix3 ⟨k.val, hk⟩ j l := funext fun a => Fin.ext <| by
    show (k0_off1 k) a + 1 * (ix3 (0 : Fin 1) j l a).val = _
    rw [k0_off1_eq]
    match a with
    | ⟨0, _⟩ => show k.val + 1 * 0 = k.val; omega
    | ⟨1, _⟩ => show 0 + 1 * j.val = j.val; omega
    | ⟨2, _⟩ => show 0 + 1 * l.val = l.val; omega
  exact congrArg x h

theorem ld_tok (x : Vec Ideal S128x256 .f32) (k : Fin k0_t1_loop.trips) (hk : k.val < 16) (r : Fin 8) (l : Fin 256) :
    (View.ld x (rowT k) : Vec Ideal S8x256 .f32) (ix2 r l) = x (ix2 ⟨k.val * 8 + r.val, by omega⟩ l) := by
  have h : (rowT k).emb (ix2 r l) = ix2 ⟨k.val * 8 + r.val, by omega⟩ l := funext fun a => Fin.ext <| by
    show (k0_off2 k) a + 1 * (ix2 r l a).val = _
    rw [k0_off2_eq]
    match a with
    | ⟨0, _⟩ => show 8 * k.val + 1 * r.val = k.val * 8 + r.val; omega
    | ⟨1, _⟩ => show 0 + 1 * l.val = l.val; omega
  exact congrArg x h

theorem idx : ∀ t : Fin cfg0.N, win0_0.index t = ![t.val, 9] ∧ win0_1.index t = ![t.val, 10] ∧ win0_2.index t = ![t.val, 0, 0]
    ∧ win0_3.index t = ![t.val, 0, 0] ∧ win0_4.index t = ![0, 0] ∧ win0_5.index t = ![0, 0] ∧ win0_6.index t = ![t.val, 0]
    ∧ win0_7.index t = ![t.val, 0, 0] ∧ win0_8.index t = ![t.val, 0, 0] :=
  (by decide +kernel : ∀ t : Fin grid0.N, _)

theorem take_at {α : Type} (x : S4.Idx → α) (idx : IVec S4x1 32) (h : Fin 4) :
    Host.gather gather_S4_S4x1_S4_n_0_n_n_0_1_1 x idx (ix1 h) = x (ix1 ⟨min (idx (ix2 h 0)).toInt.toNat 3, by omega⟩) := by
  refine congrArg x (funext fun b => Fin.ext ?_)
  show GatherDims.start _ _ idx b + GatherDims.batchCoord _ _ b + GatherDims.offCoord _ _ b = _
  rw [GatherDims.batchCoord_eq_zero _ _ _ List.not_mem_nil, Nat.add_zero]
  unfold GatherDims.start GatherDims.offCoord
  have hb : b = (0 : Fin 1) := (by decide : ∀ b : Fin 1, b = 0) b
  rcases hb with rfl
  rw [dif_pos (by decide), dif_neg (by decide)]
  refine congrArg (fun i => min (idx i).toInt.toNat 3) (funext fun d => Fin.ext ?_)
  match d with
  | ⟨0, _⟩ => rfl
  | ⟨1, _⟩ => rfl

theorem head_at : ∀ h : Fin 4, min (lit0 (S4.rowMajor (ix1 h))).toInt.toNat 3 = h.val % 2 * 2 + h.val / 2 := by decide +kernel

variable (m : (ℓ : Loc nD τ sig) → Buf (Elt Ideal) ℓ)

theorem qblk (c : Dev nD) (t : Fin cfg0.N) (r : Fin 128) (k : Fin 256) (h : t.val * 128 + r.val < 1024) :
    (iblk m c 0 t : FVec Ideal S128x256 .f32) (ix2 r k) = (m ((c : Thread nD τ).loc main_arg0) : FVec Ideal S1024x3072 .f32) (ix2 ⟨t.val * 128 + r.val, h⟩ ⟨2304 + k.val, by omega⟩) := by
  blk_ext [iblk, V, idx t]
theorem kvblk (c : Dev nD) (t : Fin cfg0.N) (r : Fin 128) (k : Fin 256) (h : t.val * 128 + r.val < 1024) :
    (iblk m c 1 t : FVec Ideal S128x256 .f32) (ix2 r k) = (m ((c : Thread nD τ).loc main_arg0) : FVec Ideal S1024x3072 .f32) (ix2 ⟨t.val * 128 + r.val, h⟩ ⟨2560 + k.val, by omega⟩) := by
  blk_ext [iblk, V, idx t]
theorem ckblk (c : Dev nD) (t : Fin cfg0.N) (a : Fin 16) (j l : Fin 128) (h : t.val * 16 + a.val < 128) :
    (iblk m c 2 t : FVec Ideal S16x128x128 .f32) (ix3 a j l) = (V m c main_v8 : FVec Ideal S128x128x128 .f32) (ix3 ⟨t.val * 16 + a.val, h⟩ j l) := by
  blk_ext [iblk, idx t]
theorem cvblk (c : Dev nD) (t : Fin cfg0.N) (a : Fin 16) (j l : Fin 128) (h : t.val * 16 + a.val < 128) :
    (iblk m c 3 t : FVec Ideal S16x128x128 .f32) (ix3 a j l) = (V m c main_v9 : FVec Ideal S128x128x128 .f32) (ix3 ⟨t.val * 16 + a.val, h⟩ j l) := by
  blk_ext [iblk, idx t]
theorem biasblk (c : Dev nD) (t : Fin cfg0.N) (i : Fin 32) (j : Fin 136) :
    (iblk m c 4 t : FVec Ideal S32x136 .f32) (ix2 i j) = (V m c main_cst : FVec Ideal S32x136 .f32) (ix2 i j) := by
  blk_ext [iblk, idx t]
theorem sinkblk (c : Dev nD) (t : Fin cfg0.N) (i : Fin 32) :
    (iblk m c 5 t : FVec Ideal S32x1 .f32) (ix2 i 0) = (V m c main_v7 : FVec Ideal S32x1 .f32) (ix2 i 0) := by
  blk_ext [iblk, idx t]

theorem v8_at (c : Dev nD) (w : FVec Ideal S128x128x2x64 .f32) (hw : m ((c : Thread nD τ).loc main_arg1) = w) (n j l : Fin 128) :
    (V m c main_v8 : FVec Ideal S128x128x128 .f32) (ix3 n j l) = w (ix4 n j ⟨l.val / 64, by omega⟩ ⟨l.val % 64, by omega⟩) := by
  have hw' : m (c, Proc.tc.devRef main_arg1) = w := hw
  unfold V
  simp only [hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  rw [hw']
  pointwise
theorem v9_at (c : Dev nD) (w : FVec Ideal S128x128x2x64 .f32) (hw : m ((c : Thread nD τ).loc main_arg2) = w) (n j l : Fin 128) :
    (V m c main_v9 : FVec Ideal S128x128x128 .f32) (ix3 n j l) = w (ix4 n j ⟨l.val / 64, by omega⟩ ⟨l.val % 64, by omega⟩) := by
  have hw' : m (c, Proc.tc.devRef main_arg2) = w := hw
  unfold V
  simp only [hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  rw [hw']
  pointwise
theorem cst_at (c : Dev nD) (i : Fin 32) (j : Fin 136) :
    (V m c main_cst : FVec Ideal S32x136 .f32) (ix2 i j) = Ideal.ofBits .f32 (lit1 (S32x136.rowMajor (ix2 i j))) := by
  unfold V
  simp only [hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  rfl
theorem v7_at (c : Dev nD) (w : FVec Ideal S4 .f32) (hw : m ((c : Thread nD τ).loc main_arg3) = w) (i : Fin 32) :
    (V m c main_v7 : FVec Ideal S32x1 .f32) (ix2 i 0) = w (ix1 ⟨i.val / 8 % 2 * 2 + i.val / 8 / 2, by omega⟩) := by
  have hw' : m (c, Proc.tc.devRef main_arg3) = w := hw
  unfold V
  simp only [hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [take_at]
  refine (congrFun hw' _).trans (congrArg (fun j => w (ix1 j)) (Fin.ext ?_))
  show min (lit0 (S4.rowMajor (ix1 _))).toInt.toNat 3 = _
  rw [head_at]

/-! ## One sequence -/

section sequence
variable (q : FVec Ideal S8x256 .f32) (ks vs : FVec Ideal S136x128 .f32) (b : FVec Ideal S32x136 .f32) (s : FVec Ideal S32x1 .f32)
  (x0 : FVec Ideal S1024x3072 .f32) (x1 x2 : FVec Ideal S128x128x2x64 .f32) (x3 : FVec Ideal S4 .f32) (n : Fin 128)

open Cert.ReferenceIdeal.Read

/-- The projected queries and keys of the four positions of a sequence, its cached keys and the sinks are real numbers. -/
structure Finite : Prop where
  proj : ∀ (r : Fin 4) (l : Fin 384), IsReal (x0 (ix2 ⟨n.val * 8 + r.val, by omega⟩ ⟨2304 + l.val, by omega⟩))
  cache : ∀ (j : Fin 128) (h : Fin 2) (d : Fin 64), IsReal (x1 (ix4 n j h d))
  sink : ∀ h : Fin 4, IsReal (x3 (ix1 h))

/-- Rows `j` of the kernel's keys and values of a sequence are the reference's. -/
structure Rows : Prop where
  query : ∀ (r : Fin 8) (l : Fin 256), q (ix2 r l) = x0 (ix2 ⟨n.val * 8 + r.val, by omega⟩ ⟨2304 + l.val, by omega⟩)
  key : ∀ (j : Fin 132) (l : Fin 128), ks (ix2 ⟨j.val, by omega⟩ l)
    = val_main_v9 (F := Ideal) x0 x1 (ix4 n j ⟨l.val / 64, by omega⟩ ⟨l.val % 64, by omega⟩)
  value : ∀ (j : Fin 132) (l : Fin 128), vs (ix2 ⟨j.val, by omega⟩ l)
    = val_main_v10 (F := Ideal) x0 x2 (ix4 n j ⟨l.val / 64, by omega⟩ ⟨l.val % 64, by omega⟩)
  bias : ∀ (i : Fin 32) (j : Fin 136), b (ix2 i j) = Ideal.ofBits .f32 (lit1 (S32x136.rowMajor (ix2 i j)))
  sinks : ∀ i : Fin 32, s (ix2 i 0) = x3 (ix1 ⟨i.val / 8 % 2 * 2 + i.val / 8 / 2, by omega⟩)

variable {q ks vs b s x0 x1 x2 x3 n}

theorem Finite.key (hf : Finite x0 x1 x3 n) (j : Fin 132) (h : Fin 2) (d : Fin 64) : IsReal (val_main_v9 (F := Ideal) x0 x1 (ix4 n j h d)) := by
  rw [Ref.keys_at]
  split_ifs with hj
  · exact hf.cache _ _ _
  · have e := hf.proj ⟨j.val - 128, by omega⟩ ⟨256 + (h.val * 64 + d.val), by omega⟩
    have e2 : (⟨2304 + (256 + (h.val * 64 + d.val)), by omega⟩ : Fin 3072) = ⟨2560 + (h.val * 64 + d.val), by omega⟩ := Fin.ext (by dsimp only; omega)
    rw [← e2]
    exact e

theorem eighth : IsReal (Ideal.ofBits .f32 0x3E000000#32) := by
  refine ⟨1 / 8, ?_⟩
  simp [Ideal.ofBits, Ideal.ieee, -EReal.coe_mul]; norm_num

/-- A score of the kernel is the reference's before the distance. -/
theorem dot_eq (hr : Rows q ks vs b s x0 x1 x2 x3 n) (r : Fin 8) (r' : Fin 4) (e : r.val = r'.val) (B : Fin 4) (h g : Fin 2) (hB : B.val = 2 * g.val + h.val)
    (j : Fin 136) (j' : Fin 132) (ej : j.val = j'.val) :
    dot q ks r j B = (∑ e, val_main_v9 (F := Ideal) x0 x1 (ix4 n j' h e) * val_main_v4 (F := Ideal) x0 (ix5 n r' h g e)) * Ideal.ofBits .f32 0x3E000000#32 := by
  unfold dot
  refine congrArg (· * _) (Finset.sum_congr rfl fun d _ => ?_)
  rw [mul_comm, hr.query, Ref.queries_at]
  have hj : j = ⟨j'.val, by omega⟩ := Fin.ext ej
  rw [hj, hr.key]
  refine congrArg₂ (· * ·) (congrArg _ ((ix4_inj ..).2 ⟨rfl, rfl, Fin.ext ?_, Fin.ext ?_⟩)) (congrArg _ ((ix2_inj ..).2 ⟨Fin.ext ?_, Fin.ext ?_⟩))
  all_goals dsimp only; omega

theorem dot_real (hf : Finite x0 x1 x3 n) (hr : Rows q ks vs b s x0 x1 x2 x3 n) (r : Fin 8) (r' : Fin 4) (e : r.val = r'.val) (B : Fin 4)
    (j : Fin 136) (j' : Fin 132) (ej : j.val = j'.val) : IsReal (dot q ks r j B) := by
  unfold dot
  refine IsReal.mul (isReal_sum _ fun d => ?_) eighth
  refine IsReal.mul ?_ ?_
  · rw [hr.query]
    have h := hf.proj r' ⟨B.val * 64 + d.val, by omega⟩
    have e' : (⟨n.val * 8 + r.val, by omega⟩ : Fin 1024) = ⟨n.val * 8 + r'.val, by omega⟩ := Fin.ext (by dsimp only; omega)
    rw [e']
    exact h
  · have hj : j = ⟨j'.val, by omega⟩ := Fin.ext ej
    rw [hj, hr.key]
    exact hf.key _ _ _

theorem attn_ref (hf : Finite x0 x1 x3 n) (hr : Rows q ks vs b s x0 x1 x2 x3 n) (r : Fin 8) (r' : Fin 4) (e : r.val = r'.val)
    (B : Fin 4) (h g : Fin 2) (hB : B.val = 2 * g.val + h.val) (d : Fin 64) (x : Fin 256) (hx : x.val = B.val * 64 + d.val)
    (y : Fin 1024) (hy : y.val = n.val * 8 + r.val) :
    attn (F := Ideal) q ks vs b s (ix2 r x) = val_main_v72 (F := Ideal) x0 x1 x2 x3 (ix2 y x) := by
  have hk : 2 * (2 * (B.val % 2) + B.val / 2) + 2 = 2 * (2 * h.val + g.val) + 2 := by omega
  have bias : ∀ j : Fin 136, b (ix2 ⟨B.val * 8 + r.val, by omega⟩ j) = tilt (2 * (2 * h.val + g.val) + 2) r.val j.val := fun j => by
    rw [hr.bias, bias_at B r (by omega) j _ rfl, hk]
  have beyond : ∀ j : Fin 136, 132 ≤ j.val → tilt (2 * (2 * h.val + g.val) + 2) r.val j.val = ⊥ := fun j hj => by
    unfold tilt; rw [if_neg]; omega
  have sink : s (ix2 ⟨B.val * 8 + r.val, by omega⟩ 0) = x3 (ix1 ⟨h.val * 2 + g.val, by omega⟩) := by
    rw [hr.sinks]
    exact congrArg (fun i => x3 (ix1 i)) (Fin.ext (by dsimp only; omega))
  rw [attn_at q ks vs b s r (by omega) B d x hx, sink]
  simp only [bias]
  rw [mix_pad (fun j => dot q ks r j B + tilt (2 * (2 * h.val + g.val) + 2) r.val j.val) _ (fun j => vs (ix2 j ⟨B.val % 2 * 64 + d.val, by omega⟩))
    (fun j => ?_) (hf.sink _) (fun j hj => ?_)]
  · rw [Ref.out_at x0 x1 x2 x3 n r' h g d y x (by omega) (by omega)]
    refine Finset.sum_congr rfl fun j _ => congrArg₂ (· * ·) (congrArg (fun f => weight f _ j) (funext fun j => ?_)) ?_
    · rw [dot_eq hr r r' e B h g hB _ j rfl, e]
    · rw [hr.value]
      exact congrArg _ ((ix4_inj ..).2 ⟨rfl, rfl, Fin.ext (by dsimp only; omega), Fin.ext (by dsimp only; omega)⟩)
  · by_cases hj : j.val < 132
    · exact tilted_ne_top (dot_real hf hr r r' e B j ⟨j.val, hj⟩ rfl) _ _ _
    · rw [beyond j (by omega), EReal.add_bot]; exact bot_ne_top
  · rw [beyond j hj, EReal.add_bot]

end sequence
/-! ## The windows of one grid point, sequence by sequence -/

section point
variable (m : (ℓ : Loc nD τ sig) → Buf (Elt Ideal) ℓ)

open Cert.ReferenceIdeal.Read

abbrev X0 (c : Dev nD) : FVec Ideal S1024x3072 .f32 := m ((c : Thread nD τ).loc main_arg0)
abbrev X1 (c : Dev nD) : FVec Ideal S128x128x2x64 .f32 := m ((c : Thread nD τ).loc main_arg1)
abbrev X2 (c : Dev nD) : FVec Ideal S128x128x2x64 .f32 := m ((c : Thread nD τ).loc main_arg2)
abbrev X3 (c : Dev nD) : FVec Ideal S4 .f32 := m ((c : Thread nD τ).loc main_arg3)

theorem key_row (c : Dev nD) (t : Fin cfg0.N) (k : Fin k0_t1_loop.trips) (hk : k.val < 16) (n : Fin 128) (hn : n.val = t.val * 16 + k.val)
    (j : Fin 132) (l : Fin 128) :
    keys (F := Ideal) (View.ld (iblk m c 2 t) (rowC k)) (View.ld (iblk m c 1 t) (rowT k)) (ix2 ⟨j.val, by omega⟩ l)
      = val_main_v9 (F := Ideal) (X0 m c) (X1 m c) (ix4 n j ⟨l.val / 64, by omega⟩ ⟨l.val % 64, by omega⟩) := by
  rw [Ref.keys_at]
  split_ifs with hj
  · refine (keys_old _ _ ⟨j.val, hj⟩ l _ rfl).trans ?_
    refine (ld_row (iblk m c 2 t) k hk _ _).trans ?_
    refine (ckblk m c t ⟨k.val, hk⟩ _ _ (by dsimp only; omega)).trans ?_
    refine (v8_at m c _ rfl _ _ _).trans ?_
    exact congrArg (X1 m c) ((ix4_inj ..).2 ⟨Fin.ext (by dsimp only; omega), rfl, rfl, rfl⟩)
  · refine (keys_new _ _ ⟨j.val - 128, by omega⟩ l _ (by dsimp only; omega)).trans ?_
    refine (ld_tok (iblk m c 1 t) k hk _ _).trans ?_
    refine (kvblk m c t _ _ (by dsimp only; omega)).trans ?_
    exact congrArg (X0 m c) ((ix2_inj ..).2 ⟨Fin.ext (by dsimp only; omega), Fin.ext (by dsimp only; omega)⟩)

theorem value_row (c : Dev nD) (t : Fin cfg0.N) (k : Fin k0_t1_loop.trips) (hk : k.val < 16) (n : Fin 128) (hn : n.val = t.val * 16 + k.val)
    (j : Fin 132) (l : Fin 128) :
    vals (F := Ideal) (View.ld (iblk m c 3 t) (rowC k)) (View.ld (iblk m c 1 t) (rowT k)) (ix2 ⟨j.val, by omega⟩ l)
      = val_main_v10 (F := Ideal) (X0 m c) (X2 m c) (ix4 n j ⟨l.val / 64, by omega⟩ ⟨l.val % 64, by omega⟩) := by
  rw [Ref.vals_at]
  split_ifs with hj
  · refine (vals_old _ _ ⟨j.val, hj⟩ l _ rfl).trans ?_
    refine (ld_row (iblk m c 3 t) k hk _ _).trans ?_
    refine (cvblk m c t ⟨k.val, hk⟩ _ _ (by dsimp only; omega)).trans ?_
    refine (v9_at m c _ rfl _ _ _).trans ?_
    exact congrArg (X2 m c) ((ix4_inj ..).2 ⟨Fin.ext (by dsimp only; omega), rfl, rfl, rfl⟩)
  · refine (vals_new _ _ ⟨j.val - 128, by omega⟩ l _ (by dsimp only; omega)).trans ?_
    refine (ld_tok (iblk m c 1 t) k hk _ _).trans ?_
    refine (kvblk m c t _ _ (by dsimp only; omega)).trans ?_
    exact congrArg (X0 m c) ((ix2_inj ..).2 ⟨Fin.ext (by dsimp only; omega), Fin.ext (by dsimp only; omega)⟩)

theorem ld_bias (x : Vec Ideal S32x136 .f32) (i : Fin 32) (j : Fin 136) :
    (View.ld x (Rect.unit (s := S32x136) ![0, 0] S32x136.size inb_S32x136_S32x136_0_0) : Vec Ideal S32x136 .f32) (ix2 i j) = x (ix2 i j) := by
  have h : (Rect.unit (s := S32x136) ![0, 0] S32x136.size inb_S32x136_S32x136_0_0).emb (ix2 i j) = ix2 i j := by idx_ext
  exact congrArg x h

theorem ld_sink (x : Vec Ideal S32x1 .f32) (i : Fin 32) :
    (View.ld x (Rect.unit (s := S32x1) ![0, 0] S32x1.size inb_S32x1_S32x1_0_0) : Vec Ideal S32x1 .f32) (ix2 i 0) = x (ix2 i 0) := by
  have h : (Rect.unit (s := S32x1) ![0, 0] S32x1.size inb_S32x1_S32x1_0_0).emb (ix2 i (0 : Fin 1)) = ix2 i (0 : Fin 1) := by idx_ext
  exact congrArg x h

/-- Trip `k` of point `t` works on sequence `16 t + k`. -/
theorem rows (c : Dev nD) (t : Fin cfg0.N) (k : Fin k0_t1_loop.trips) (hk : k.val < 16) (n : Fin 128) (hn : n.val = t.val * 16 + k.val) :
    Rows (View.ld (iblk m c 0 t) (rowT k)) (keys (F := Ideal) (View.ld (iblk m c 2 t) (rowC k)) (View.ld (iblk m c 1 t) (rowT k)))
      (vals (F := Ideal) (View.ld (iblk m c 3 t) (rowC k)) (View.ld (iblk m c 1 t) (rowT k)))
      (View.ld (iblk m c 4 t) (Rect.unit (s := S32x136) ![0, 0] S32x136.size inb_S32x136_S32x136_0_0))
      (View.ld (iblk m c 5 t) (Rect.unit (s := S32x1) ![0, 0] S32x1.size inb_S32x1_S32x1_0_0))
      (X0 m c) (X1 m c) (X2 m c) (X3 m c) n where
  query r l := by
    refine (ld_tok (iblk m c 0 t) k hk _ _).trans ?_
    refine (qblk m c t _ _ (by dsimp only; omega)).trans ?_
    exact congrArg (X0 m c) ((ix2_inj ..).2 ⟨Fin.ext (by dsimp only; omega), rfl⟩)
  key := key_row m c t k hk n hn
  value := value_row m c t k hk n hn
  bias i j := (ld_bias _ i j).trans ((biasblk m c t i j).trans (cst_at m c i j))
  sinks i := (ld_sink _ i).trans ((sinkblk m c t i).trans (v7_at m c _ rfl i))

theorem pointY (hf : ∀ (c : Dev nD) (n : Fin 128), Finite (X0 m c) (X1 m c) (X3 m c) n) (c : Dev nD) (t : Fin cfg0.N) (y : S128x256.Idx) :
    outY (F := Ideal) (iblk m c 0 t) (iblk m c 1 t) (iblk m c 2 t) (iblk m c 3 t) (iblk m c 4 t) (iblk m c 5 t) y
      = val_main_v72 (F := Ideal) (X0 m c) (X1 m c) (X2 m c) (X3 m c) (((cfg0.win 6).blk t).view.emb y) := by
  idx_vars y
  have ht : t.val < 8 := t.isLt
  have he : (((cfg0.win 6).blk t).view.emb (ix2 y0 y1)) = (ix2 (⟨t.val * 128 + y0.val, by omega⟩ : Fin 1024) y1) := by
    blk_ext [idx t]
  rw [he]
  unfold outY tripY
  by_cases hr : y0.val % 8 < 4
  · exact attn_ref (hf c ⟨t.val * 16 + y0.val / 8, by omega⟩) (rows m c t ⟨y0.val / 8, by rw [trips_eq]; omega⟩ (by dsimp only; omega) _ rfl)
      ⟨y0.val % 8, by omega⟩ ⟨y0.val % 8, hr⟩ rfl ⟨y1.val / 64, by omega⟩ ⟨y1.val / 64 % 2, by omega⟩ ⟨y1.val / 128, by omega⟩ (by dsimp only; omega)
      ⟨y1.val % 64, by omega⟩ y1 (by dsimp only; omega) _ (by dsimp only; omega)
  · refine (attn_dead _ _ _ _ _ ⟨y0.val % 8, by omega⟩ hr y1).trans (Ref.out_dead _ _ _ _ _ _ ?_).symm
    dsimp only; omega

theorem tail_at (x : Vec Ideal S136x128 .f32) (j l : Fin 128) : tail (F := Ideal) x (ix2 j l) = x (ix2 ⟨4 + j.val, by omega⟩ l) := by
  have h : (Rect.unit (s := S136x128) ![4, 0] S128x128.size inb_S136x128_S128x128_4_0).emb (ix2 j l) = ix2 ⟨4 + j.val, by omega⟩ l := by idx_ext
  exact congrArg x h

theorem pointK (c : Dev nD) (t : Fin cfg0.N) (y : S16x128x128.Idx) :
    outK (F := Ideal) (iblk m c 1 t) (iblk m c 2 t) y = val_main_v74 (F := Ideal) (X0 m c) (X1 m c) (((cfg0.win 7).blk t).view.emb y) := by
  idx_vars y
  have ht : t.val < 8 := t.isLt
  have he : (((cfg0.win 7).blk t).view.emb (ix3 y0 y1 y2)) = (ix3 (⟨t.val * 16 + y0.val, by omega⟩ : Fin 128) y1 y2) := by
    blk_ext [idx t]
  rw [he, Ref.cacheK_at]
  unfold outK tripK
  refine Eq.trans (b := tail (F := Ideal) (keys (F := Ideal) (View.ld (iblk m c 2 t) (rowC ⟨y0.val, by rw [trips_eq]; omega⟩))
    (View.ld (iblk m c 1 t) (rowT ⟨y0.val, by rw [trips_eq]; omega⟩))) (ix2 y1 y2)) ?_ ?_
  · pointwise [k0_pay5]
    rfl
  · rw [tail_at]
    exact key_row m c t ⟨y0.val, by rw [trips_eq]; omega⟩ y0.isLt _ rfl ⟨4 + y1.val, by omega⟩ y2

theorem pointV (c : Dev nD) (t : Fin cfg0.N) (y : S16x128x128.Idx) :
    outV (F := Ideal) (iblk m c 1 t) (iblk m c 3 t) y = val_main_v76 (F := Ideal) (X0 m c) (X2 m c) (((cfg0.win 8).blk t).view.emb y) := by
  idx_vars y
  have ht : t.val < 8 := t.isLt
  have he : (((cfg0.win 8).blk t).view.emb (ix3 y0 y1 y2)) = (ix3 (⟨t.val * 16 + y0.val, by omega⟩ : Fin 128) y1 y2) := by
    blk_ext [idx t]
  rw [he, Ref.cacheV_at]
  unfold outV tripV
  refine Eq.trans (b := tail (F := Ideal) (vals (F := Ideal) (View.ld (iblk m c 3 t) (rowC ⟨y0.val, by rw [trips_eq]; omega⟩))
    (View.ld (iblk m c 1 t) (rowT ⟨y0.val, by rw [trips_eq]; omega⟩))) (ix2 y1 y2)) ?_ ?_
  · pointwise [k0_pay6]
    rfl
  · rw [tail_at]
    exact value_row m c t ⟨y0.val, by rw [trips_eq]; omega⟩ y0.isLt _ rfl ⟨4 + y1.val, by omega⟩ y2

/-! ## The three arrays at the end -/

theorem finalY (hf : ∀ (c : Dev nD) (n : Fin 128), Finite (X0 m c) (X1 m c) (X3 m c) n) (c : Dev nD) :
    (dats m 0 c).arrAt 6 (cfgs 0).N = val_main_v72 (F := Ideal) (X0 m c) (X1 m c) (X2 m c) (X3 m c) := by
  refine (dats m 0 c).arrAt_eq_of_covers 6 _ (by decide +kernel) fun t _ y => ?_
  blk_simp
  rw [after0_6]
  exact pointY m hf c t y

theorem finalK (c : Dev nD) : (dats m 0 c).arrAt 7 (cfgs 0).N = val_main_v74 (F := Ideal) (X0 m c) (X1 m c) := by
  refine (dats m 0 c).arrAt_eq_of_covers 7 _ (by decide +kernel) fun t _ y => ?_
  blk_simp
  rw [after0_7]
  exact pointK m c t y

theorem finalV (c : Dev nD) : (dats m 0 c).arrAt 8 (cfgs 0).N = val_main_v76 (F := Ideal) (X0 m c) (X2 m c) := by
  refine (dats m 0 c).arrAt_eq_of_covers 8 _ (by decide +kernel) fun t _ y => ?_
  blk_simp
  rw [after0_8]
  exact pointV m c t y

end point

end Cert.Swa
end
-- ==== Proof.SwaClaims.lean ====
/- The claims of the sliding-window attention call. -/
module

public import proofs.«01_k».proof.Defs
public import proofs.«01_k».proof.Proof.Swa
public import proofs.«01_k».proof.Proof.SwaWord
public import Idealize.ShloMosaic.Lib.Claim
public import Idealize.ShloMosaic.Adequacy
public import Idealize.ShloMosaic.Init

@[expose] public section

set_option maxRecDepth 16384

noncomputable section

namespace Cert.Swa

open Idealize.ShloMosaic Idealize.ShloMosaic.TcCoe Idealize.SL.Sem

/-- The precondition's shape relations hold. -/
instance factsPre : Cert.Pre_scores_finite.Facts where
  shapeCasts_S1024x3072_S128x8x3072 := by decide
  slices_S128x8x3072_S128x4x3072_0_0_0 := by decide
  slices_S128x4x3072_S128x4x384_0_0_2304 := by decide
  bcast_S_S128x4x384 := by decide
  bcast_S_S128x128x2x64 := by decide
  bcast_S_S4 := by decide

/-- A number strictly between the two infinities is a real one. -/
theorem isReal_of_between (x : EReal)
    (h : IntOp.andi (BitVec.ofBool (decide (Ideal.ofBits .f32 4286578688#32 < x)))
      (BitVec.ofBool (decide (x < Ideal.ofBits .f32 2139095040#32))) = 1#1) : IsReal x := by
  rw [neg_inf, pos_inf] at h
  by_cases h1 : ⊥ < x
  · by_cases h2 : x < ⊤
    · exact isReal_of_ne h2.ne h1.ne'
    · rw [decide_eq_true h1, decide_eq_false h2] at h
      exact absurd h (by decide)
  · rw [decide_eq_false h1] at h
    by_cases h2 : x < ⊤
    · rw [decide_eq_true h2] at h
      exact absurd h (by decide)
    · rw [decide_eq_false h2] at h
      exact absurd h (by decide)

section decode
variable (x0 : FVec Ideal Cert.Pre_scores_finite.S1024x3072 .f32) (x1 x2 : FVec Ideal Cert.Pre_scores_finite.S128x128x2x64 .f32)
  (x3 : FVec Ideal Cert.Pre_scores_finite.S4 .f32)

theorem proj_of (n : Fin 128) (r : Fin 4) (l : Fin 384) (h : (Cert.Pre_scores_finite.fn (F := Ideal) x0 x1 x2 x3).1 (ix3 n r l) = 1#1) :
    IsReal (x0 (ix2 ⟨n.val * 8 + r.val, by omega⟩ ⟨2304 + l.val, by omega⟩)) := by
  refine isReal_of_between _ (Eq.trans (Eq.symm ?_) h)
  pointwise [Cert.Pre_scores_finite.fn]

theorem cache_of (n j : Fin 128) (g : Fin 2) (d : Fin 64)
    (h : (Cert.Pre_scores_finite.fn (F := Ideal) x0 x1 x2 x3).2.1 (ix4 n j g d) = 1#1) : IsReal (x1 (ix4 n j g d)) := by
  refine isReal_of_between _ (Eq.trans (Eq.symm ?_) h)
  pointwise [Cert.Pre_scores_finite.fn]

theorem sink_of (i : Fin 4) (h : (Cert.Pre_scores_finite.fn (F := Ideal) x0 x1 x2 x3).2.2 (ix1 i) = 1#1) : IsReal (x3 (ix1 i)) := by
  refine isReal_of_between _ (Eq.trans (Eq.symm ?_) h)
  pointwise [Cert.Pre_scores_finite.fn]

end decode

/-- What the precondition says of the arguments of one sequence. -/
theorem finite_of (m : (ℓ : Loc Cert.KernelIdeal.nD Cert.KernelIdeal.τ Cert.KernelIdeal.sig) → Buf (Elt Ideal) ℓ)
    (h : Cert.Pre_KernelIdeal_scores_finite m) (c : Dev Cert.KernelIdeal.nD) (n : Fin 128) :
    Finite (X0 m c) (X1 m c) (X3 m c) n where
  proj r l := proj_of _ _ _ _ n r l (congrFun (h c).1 _)
  cache j g d := cache_of _ _ _ _ n j g d (congrFun (h c).2.1 _)
  sink i := sink_of _ _ _ _ i (congrFun (h c).2.2 _)

end Cert.Swa

namespace Cert.Proof

open Idealize.ShloMosaic Idealize.SL.Sem

/-- The sliding-window attention call: where the scores are finite, the idealized kernel's three results are the
    reference's. -/
theorem algebraicSwa : Cert.algebraic_KernelIdeal_ReferenceIdeal_pre_scores_finite := by
  pair_intro
  · run_from Cert.KernelIdeal.Swa.run_main m g
    all_goals
      simp only [KernelIdeal.Gen.hostOps0, List.flatten_cons, List.flatten_nil,
        List.append_nil, List.cons_append, List.nil_append, StableHlo.TRef.binary, StableHlo.TRef.nullary, StableHlo.TRef.unary,
        StableHlo.TRef.toBuf, StableHlo.TRef.ofBuf, cast_eq]
      after_results_simp
  · refine (θ_run _ _ _).mono (fun r h c => ⟨(h c).1.trans ?_, (h c).2.1.trans ?_, (h c).2.2.1.trans ?_, (h c).2.2.2⟩)
      (Cert.ReferenceIdeal.Value.run m' g')
    all_goals obtain ⟨h0, h1, h2, h3⟩ := hagree c
    · rw [Cert.ReferenceIdeal.Read.val_main_v72_eq, h0, h1, h2, h3]
      exact (Cert.Swa.finalY m (Cert.Swa.finite_of m hpre) c).symm
    · rw [Cert.ReferenceIdeal.Read.val_main_v74_eq, h0, h1]
      exact (Cert.Swa.finalK m c).symm
    · rw [Cert.ReferenceIdeal.Read.val_main_v76_eq, h0, h2]
      exact (Cert.Swa.finalV m c).symm

/-- Its reference runs on the host alone: the arguments end unchanged and there is no counter to move. -/
theorem quiescentSwa : Cert.quiescent_ReferenceIdeal := fun m g _ =>
  (θ_run Cert.ReferenceIdeal.defs _ _).mono
    (fun r h => ⟨fun c => (h c).2.2.2, sem_eq_zero_of_no_sems (by decide) r.2⟩)
    (Cert.ReferenceIdeal.Value.run (F := Ideal) m g)

end Cert.Proof
-- ==== Proof.ScanBody.lean ====
/-
  The state-space scan over one short group per sequence: the kernel body's triple and the frame of the whole program, for the idealized kernel.
  The body multiplies the inputs into the state space, then runs sixteen trips, one per sequence. A trip combines the eight
  rows of its sequence in three doubling steps and adds the state the sequence came with. `outY` and `outH` say what a point
  leaves in its two result buffers, as functions of its input blocks alone.
-/
module

public import proofs.«01_k».proof.Proof.Gen.KernelScanIdeal.Frame
public import proofs.«01_k».proof.Proof.Gen.KernelScanIdeal.Loops
public import Idealize.ShloMosaic.Lib.Claim
public import Idealize.ShloMosaic.Lib.WritesUnit
public import Idealize.ShloMosaic.Lib.VecWindow
public import Idealize.ShloMosaic.Lib.Pipeline.ValueKit.Basic
public import Idealize.ShloMosaic.Lib.ValueIdxCore

@[expose] public section

set_option maxRecDepth 8192

noncomputable section

namespace Cert.KernelScanIdeal.Scan

open Cert.KernelScanIdeal Cert.KernelScanIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The real half of the eight rows of sequence `k`. -/
abbrev rowA (k : Fin k0_t1_loop.trips) : Rect S128x2048 :=
  Rect.unit (s := S128x2048) (k0_off1 k) S8x1024.size (k0_off1_inb k)

/-- The imaginary half of the eight rows of sequence `k`. -/
abbrev rowB (k : Fin k0_t1_loop.trips) : Rect S128x2048 :=
  Rect.unit (s := S128x2048) (k0_off2 k) S8x1024.size (k0_off2_inb k)

/-- The state row of sequence `k`. -/
abbrev rowS (k : Fin k0_t1_loop.trips) : Rect S16x1x2048 :=
  Rect.unit (s := S16x1x2048) (k0_off3 k) S1x1x2048.size (k0_off3_inb k)

/-- One of the six factor slabs of the doubling steps. -/
abbrev hs0 (x : Vec F S6x8x1024 .f32) : Vec F S1x8x1024 .f32 := View.ld x (Rect.unit (s := S6x8x1024) ![0, 0, 0] S1x8x1024.size inb_S6x8x1024_S1x8x1024_0_0_0)
abbrev hs1 (x : Vec F S6x8x1024 .f32) : Vec F S1x8x1024 .f32 := View.ld x (Rect.unit (s := S6x8x1024) ![1, 0, 0] S1x8x1024.size inb_S6x8x1024_S1x8x1024_1_0_0)
abbrev hs2 (x : Vec F S6x8x1024 .f32) : Vec F S1x8x1024 .f32 := View.ld x (Rect.unit (s := S6x8x1024) ![2, 0, 0] S1x8x1024.size inb_S6x8x1024_S1x8x1024_2_0_0)
abbrev hs3 (x : Vec F S6x8x1024 .f32) : Vec F S1x8x1024 .f32 := View.ld x (Rect.unit (s := S6x8x1024) ![3, 0, 0] S1x8x1024.size inb_S6x8x1024_S1x8x1024_3_0_0)
abbrev hs4 (x : Vec F S6x8x1024 .f32) : Vec F S1x8x1024 .f32 := View.ld x (Rect.unit (s := S6x8x1024) ![4, 0, 0] S1x8x1024.size inb_S6x8x1024_S1x8x1024_4_0_0)
abbrev hs5 (x : Vec F S6x8x1024 .f32) : Vec F S1x8x1024 .f32 := View.ld x (Rect.unit (s := S6x8x1024) ![5, 0, 0] S1x8x1024.size inb_S6x8x1024_S1x8x1024_5_0_0)
/-- The two slabs of powers that the incoming state is multiplied by. -/
abbrev cp0 (x : Vec F S2x8x1024 .f32) : Vec F S1x8x1024 .f32 := View.ld x (Rect.unit (s := S2x8x1024) ![0, 0, 0] S1x8x1024.size inb_S2x8x1024_S1x8x1024_0_0_0)
abbrev cp1 (x : Vec F S2x8x1024 .f32) : Vec F S1x8x1024 .f32 := View.ld x (Rect.unit (s := S2x8x1024) ![1, 0, 0] S1x8x1024.size inb_S2x8x1024_S1x8x1024_1_0_0)

/-- The real part after the first doubling step. -/
abbrev lev1r (a b : Vec F S8x1024 .f32) (x9 : Vec F S6x8x1024 .f32) : FVec F S8x1024 .f32 := k0_pay6 a b (hs0 x9) (hs1 x9)
/-- The imaginary part after the first doubling step. -/
abbrev lev1i (a b : Vec F S8x1024 .f32) (x9 : Vec F S6x8x1024 .f32) : FVec F S8x1024 .f32 := k0_pay7 a b (hs0 x9) (hs1 x9)
/-- The real part after all three doubling steps, with the first half of the incoming state's share. -/
abbrev lev3r (a b : Vec F S8x1024 .f32) (x9 : Vec F S6x8x1024 .f32) (x10 : Vec F S2x8x1024 .f32) (w : Vec F S1x1x2048 .f32) : FVec F S8x1024 .f32 :=
  k0_pay24 (lev1r a b x9) (lev1i a b x9) (hs2 x9) (hs3 x9) (hs4 x9) (hs5 x9) w (cp0 x10)
/-- The imaginary part after all three doubling steps. -/
abbrev lev3i (a b : Vec F S8x1024 .f32) (x9 : Vec F S6x8x1024 .f32) : FVec F S8x1024 .f32 :=
  k0_pay18 (lev1r a b x9) (lev1i a b x9) (hs2 x9) (hs3 x9) (hs4 x9) (hs5 x9)

/-- The real half of one sequence's states. -/
def newA (a b : Vec F S8x1024 .f32) (x9 : Vec F S6x8x1024 .f32) (x10 : Vec F S2x8x1024 .f32) (w : Vec F S1x1x2048 .f32) : Vec F S8x1024 .f32 :=
  k0_pay29 (k0_pay21 w) (k0_pay23 (cp1 x10)) (lev3r a b x9 x10 w)

/-- The imaginary half of one sequence's states. -/
def newB (a b : Vec F S8x1024 .f32) (x9 : Vec F S6x8x1024 .f32) (x10 : Vec F S2x8x1024 .f32) (w : Vec F S1x1x2048 .f32) : Vec F S8x1024 .f32 :=
  k0_pay30 (lev3i a b x9) (k0_pay20 w) (k0_pay21 w) (k0_pay22 (cp0 x10)) (k0_pay23 (cp1 x10))

/-- The state carried past the eighth row. -/
def newS (a b : Vec F S8x1024 .f32) (x9 : Vec F S6x8x1024 .f32) (x10 : Vec F S2x8x1024 .f32) (w : Vec F S1x1x2048 .f32) : Vec F S1x1x2048 .f32 :=
  k0_pay31 (lev3i a b x9) (k0_pay20 w) (k0_pay21 w) (k0_pay22 (cp0 x10)) (k0_pay23 (cp1 x10)) (lev3r a b x9 x10 w)

/-- The state after the fourth row, which is the result. -/
def newF (a b : Vec F S8x1024 .f32) (x9 : Vec F S6x8x1024 .f32) (x10 : Vec F S2x8x1024 .f32) (w : Vec F S1x1x2048 .f32) : Vec F S1x1x2048 .f32 :=
  k0_pay32 (lev3i a b x9) (k0_pay20 w) (k0_pay21 w) (k0_pay22 (cp0 x10)) (k0_pay23 (cp1 x10)) (lev3r a b x9 x10 w)

/-- The loop makes sixteen trips. -/
theorem trips_eq : k0_t1_loop.trips = 16 := by decide

/-- Every index of sequence `k`'s state row lies in row `k`. -/
theorem rowS_row (k : Fin k0_t1_loop.trips) (z : (rowS k).shape.Idx) : ((rowS k).idx z 0).val = k.val := by
  have hz : (z 0).val < 1 := (z 0).isLt
  have h0 : (k0_off3 k) 0 = k.val := by rw [k0_off3_eq]; rfl
  show (k0_off3 k) 0 + 1 * (z 0).val = k.val
  omega

/-- Every index of sequence `k`'s rows lies in rows `8 k` and after (real half). -/
theorem rowA_row (k : Fin k0_t1_loop.trips) (z : (rowA k).shape.Idx) : 8 * k.val ≤ ((rowA k).idx z 0).val := by
  have h0 : (k0_off1 k) 0 = 8 * k.val := by rw [k0_off1_eq]; rfl
  show 8 * k.val ≤ (k0_off1 k) 0 + 1 * (z 0).val
  omega

/-- Every index of sequence `k`'s rows lies in rows `8 k` and after (imaginary half). -/
theorem rowB_row (k : Fin k0_t1_loop.trips) (z : (rowB k).shape.Idx) : 8 * k.val ≤ ((rowB k).idx z 0).val := by
  have h0 : (k0_off2 k) 0 = 8 * k.val := by rw [k0_off2_eq]; rfl
  show 8 * k.val ≤ (k0_off2 k) 0 + 1 * (z 0).val
  omega

/-- All sequences' states, real half then imaginary half, from the inputs `s` in the state space and the incoming states `h`. -/
def states (s : Vec F S128x2048 .f32) (h : Vec F S16x1x2048 .f32) (x9 : Vec F S6x8x1024 .f32) (x10 : Vec F S2x8x1024 .f32) :
    Vec F S128x2048 .f32 := fun y =>
  have hk : (y 0).val / 8 < k0_t1_loop.trips := by have h : (y 0).val < 128 := (y 0).isLt; rw [trips_eq]; omega
  if hy : (y 1).val < 1024 then
    newA (View.ld s (rowA ⟨_, hk⟩)) (View.ld s (rowB ⟨_, hk⟩)) x9 x10 (View.ld h (rowS ⟨_, hk⟩))
      (ix2 ⟨(y 0).val % 8, Nat.mod_lt _ (by decide)⟩ ⟨(y 1).val, hy⟩)
  else
    newB (View.ld s (rowA ⟨_, hk⟩)) (View.ld s (rowB ⟨_, hk⟩)) x9 x10 (View.ld h (rowS ⟨_, hk⟩))
      (ix2 ⟨(y 0).val % 8, Nat.mod_lt _ (by decide)⟩ ⟨(y 1).val - 1024, by have h : (y 1).val < 2048 := (y 1).isLt; omega⟩)

/-- All sequences' states after the fourth row. -/
def finals (s : Vec F S128x2048 .f32) (h : Vec F S16x1x2048 .f32) (x9 : Vec F S6x8x1024 .f32) (x10 : Vec F S2x8x1024 .f32) :
    Vec F S16x1x2048 .f32 := fun y =>
  have hk : (y 0).val < k0_t1_loop.trips := by have h : (y 0).val < 16 := (y 0).isLt; rw [trips_eq]; omega
  newF (View.ld s (rowA ⟨_, hk⟩)) (View.ld s (rowB ⟨_, hk⟩)) x9 x10 (View.ld h (rowS ⟨_, hk⟩)) (ix3 0 (y 1) (y 2))

/-- The state result of a point. -/
def outH (x2 : Vec F S128x256 .f32) (x3 : Vec F S16x1x2048 .f32) (x4 : Vec F S256x2048 .bf16) (x9 : Vec F S6x8x1024 .f32) (x10 : Vec F S2x8x1024 .f32) :
    Vec F S16x1x2048 .f32 := finals (k0_pay26 x2 x4) x3 x9 x10

/-- The output of a point. -/
def outY (x2 : Vec F S128x256 .f32) (x3 : Vec F S16x1x2048 .f32) (x4 : Vec F S256x2048 .bf16) (x5 : Vec F S2048x256 .bf16)
    (x6 : Vec F S1x256 .f32) (x7 x8 : Vec F S256x256 .bf16) (x9 : Vec F S6x8x1024 .f32) (x10 : Vec F S2x8x1024 .f32) : Vec F S128x256 .f32 :=
  k0_pay1 0#32 (k0_pay33 x2 (states (k0_pay26 x2 x4) x3 x9 x10) x5 x6) (k0_pay34 x2 (states (k0_pay26 x2 x4) x3 x9 x10) x5 x6) x7 x8

/-- The output's last steps agree on equal inputs. -/
theorem y_congr {x2 y2 : Vec F S128x256 .f32} {s s' : Vec F S128x2048 .f32} {x5 y5 : Vec F S2048x256 .bf16} {x6 y6 : Vec F S1x256 .f32}
    {x7 y7 x8 y8 : Vec F S256x256 .bf16} (h2 : x2 = y2) (hs : s = s') (h5 : x5 = y5) (h6 : x6 = y6) (h7 : x7 = y7) (h8 : x8 = y8) :
    k0_pay1 0#32 (k0_pay33 x2 s x5 x6) (k0_pay34 x2 s x5 x6) x7 x8 = k0_pay1 0#32 (k0_pay33 y2 s' y5 y6) (k0_pay34 y2 s' y5 y6) y7 y8 := by
  rw [h2, hs, h5, h6, h7, h8]

section trip

variable (𝒱 : Variants) (c : Dev nD) (bd : Option 𝒱.V) (i : grid0.Coords) (arg2 : Memref sig .tc .vmem S128x256 .f32) (harg2 : arg2.IsWhole) (arg3 : Memref sig .tc .vmem S16x1x2048 .f32) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S6x8x1024 .f32) (harg9 : arg9.IsWhole) (arg10 : Memref sig .tc .vmem S2x8x1024 .f32) (harg10 : arg10.IsWhole) (arg11 : Memref sig .tc .vmem S128x256 .f32) (harg11 : arg11.IsWhole) (arg12 : Memref sig .tc .vmem S16x1x2048 .f32) (harg12 : arg12.IsWhole) (arg13 : Memref sig .tc .vmem S128x2048 .f32) (harg13 : arg13.IsWhole) (arg14 : Memref sig .tc .vmem S16x1x2048 .f32) (harg14 : arg14.IsWhole) (arg15 : Memref sig .tc .vmem S16x1x2048 .f32) (harg15 : arg15.IsWhole)
  (g9 : BufTy.Contents (Elt F) arg9.view.ty) (g10 : BufTy.Contents (Elt F) arg10.view.ty)

variable (k : Fin k0_t1_loop.trips)
  (f13 : BufTy.Contents (Elt F) arg13.view.ty) (f14 : BufTy.Contents (Elt F) arg14.view.ty) (f15 : BufTy.Contents (Elt F) arg15.view.ty)

/-- Trip `k` stores the two halves of its sequence's states. -/
theorem trip_s : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 g9 g10 k).1 f13 f14 f15
    = [⟨rowB k, newB (View.ld (View.read (Elt F) arg13.view f13) (rowA k)) (View.ld (View.read (Elt F) arg13.view f13) (rowB k))
          (View.read (Elt F) arg9.view g9) (View.read (Elt F) arg10.view g10) (View.ld (View.read (Elt F) arg14.view f14) (rowS k))⟩,
       ⟨rowA k, newA (View.ld (View.read (Elt F) arg13.view f13) (rowA k)) (View.ld (View.read (Elt F) arg13.view f13) (rowB k))
          (View.read (Elt F) arg9.view g9) (View.read (Elt F) arg10.view g10) (View.ld (View.read (Elt F) arg14.view f14) (rowS k))⟩] := by
  unfold trip_k0_t1
  dsimp only
  rfl

/-- Trip `k` stores the state it carries on. -/
theorem trip_c : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 g9 g10 k).2.1 f13 f14 f15
    = [⟨rowS k, newS (View.ld (View.read (Elt F) arg13.view f13) (rowA k)) (View.ld (View.read (Elt F) arg13.view f13) (rowB k))
          (View.read (Elt F) arg9.view g9) (View.read (Elt F) arg10.view g10) (View.ld (View.read (Elt F) arg14.view f14) (rowS k))⟩] := by
  unfold trip_k0_t1
  dsimp only
  rfl

/-- Trip `k` stores its sequence's state after the fourth row. -/
theorem trip_f : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 g9 g10 k).2.2.1 f13 f14 f15
    = [⟨rowS k, newF (View.ld (View.read (Elt F) arg13.view f13) (rowA k)) (View.ld (View.read (Elt F) arg13.view f13) (rowB k))
          (View.read (Elt F) arg9.view g9) (View.read (Elt F) arg10.view g10) (View.ld (View.read (Elt F) arg14.view f14) (rowS k))⟩] := by
  unfold trip_k0_t1
  dsimp only
  rfl

variable (s : Vec F S128x2048 .f32) (h : Vec F S16x1x2048 .f32)
  (G13 : BufTy.Contents (Elt F) arg13.view.ty) (G14 : BufTy.Contents (Elt F) arg14.view.ty) (G15 : BufTy.Contents (Elt F) arg15.view.ty)

/-- After `n` trips the first `n` sequences' rows are final, and the other rows are as the loop found them. -/
theorem loop_holds (h3 : View.read (Elt F) arg13.view G13 = s) (h4 : View.read (Elt F) arg14.view G14 = h) :
    ∀ n, n ≤ 16 →
      (∀ y : S128x2048.Idx, View.read (Elt F) arg13.view (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 g9 g10 G13 G14 G15 n).1) y
        = if (y 0).val < 8 * n then states s h (View.read (Elt F) arg9.view g9) (View.read (Elt F) arg10.view g10) y else s y)
      ∧ (∀ y : S16x1x2048.Idx, n ≤ (y 0).val → View.read (Elt F) arg14.view (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 g9 g10 G13 G14 G15 n).2.1) y = h y)
      ∧ (∀ y : S16x1x2048.Idx, (y 0).val < n → View.read (Elt F) arg15.view (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 g9 g10 G13 G14 G15 n).2.2) y
        = finals s h (View.read (Elt F) arg9.view g9) (View.read (Elt F) arg10.view g10) y)
  | 0, _ => by
    refine ⟨fun y => ?_, fun y _ => ?_, fun y hy => absurd hy (by omega)⟩
    · rw [if_neg (Nat.not_lt_zero _)]; exact congrFun h3 y
    · exact congrFun h4 y
  | n + 1, hn => by
    obtain ⟨ih13, ih14, ih15⟩ := loop_holds h3 h4 n (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 g9 g10 G13 G14 G15 (⟨n, by rw [trips_eq]; omega⟩)
    rw [hs]
    clear hs
    dsimp only at ih13 ih14 ih15 ⊢
    generalize pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 g9 g10 G13 G14 G15 n = P at ih13 ih14 ih15 ⊢
    have hn' : n < k0_t1_loop.trips := by rw [trips_eq]; omega
    have lA : View.ld (View.read (Elt F) arg13.view (arg13.view.writes (Elt F) G13 P.1)) (rowA ⟨n, hn'⟩) = View.ld s (rowA ⟨n, hn'⟩) := by
      funext z
      exact (ih13 _).trans (if_neg (Nat.not_lt.2 (rowA_row ⟨n, hn'⟩ z)))
    have lB : View.ld (View.read (Elt F) arg13.view (arg13.view.writes (Elt F) G13 P.1)) (rowB ⟨n, hn'⟩) = View.ld s (rowB ⟨n, hn'⟩) := by
      funext z
      exact (ih13 _).trans (if_neg (Nat.not_lt.2 (rowB_row ⟨n, hn'⟩ z)))
    have lS : View.ld (View.read (Elt F) arg14.view (arg14.view.writes (Elt F) G14 P.2.1)) (rowS ⟨n, hn'⟩) = View.ld h (rowS ⟨n, hn'⟩) := by
      funext z
      exact ih14 _ (le_of_eq (rowS_row ⟨n, hn'⟩ z).symm)
    refine ⟨fun y => ?_, fun y hy => ?_, fun y hy => ?_⟩
    · rw [trip_s, lA, lB, lS, List.cons_append, List.singleton_append]
      have hy1 : (y 1).val < 2048 := (y 1).isLt
      by_cases hin : 8 * n ≤ (y 0).val ∧ (y 0).val < 8 * n + 8
      · have hq : (y 0).val / 8 = n := by omega
        rw [if_pos (by omega)]
        by_cases hc : (y 1).val < 1024
        · refine (View.read_writes_cons_unit_of_not_mem _ _ _ _ _ y (k0_off2_eq _) 1 (Or.inl hc)).trans ?_
          refine (View.read_writes_cons_unit_of_mem _ _ _ _ _ y (ix2 ⟨(y 0).val % 8, Nat.mod_lt _ (by decide)⟩ ⟨(y 1).val, hc⟩) (k0_off1_eq _) ?_).trans ?_
          · intro a
            match a with
            | ⟨0, _⟩ => show (y 0).val = 8 * n + (y 0).val % 8; omega
            | ⟨1, _⟩ => exact (Nat.zero_add _).symm
          · unfold states
            dsimp only
            rw [dif_pos hc]
            subst hq
            rfl
        · refine (View.read_writes_cons_unit_of_mem _ _ _ _ _ y (ix2 ⟨(y 0).val % 8, Nat.mod_lt _ (by decide)⟩ ⟨(y 1).val - 1024, by omega⟩) (k0_off2_eq _) ?_).trans ?_
          · intro a
            match a with
            | ⟨0, _⟩ => show (y 0).val = 8 * n + (y 0).val % 8; omega
            | ⟨1, _⟩ => show (y 1).val = 1024 + ((y 1).val - 1024); omega
          · unfold states
            dsimp only
            rw [dif_neg hc]
            subst hq
            rfl
      · have hout : (y 0).val < 8 * n ∨ 8 * n + 8 ≤ (y 0).val := by omega
        refine (View.read_writes_cons_unit_of_not_mem _ _ _ _ _ y (k0_off2_eq _) 0 ?_).trans ?_
        · exact hout
        refine (View.read_writes_cons_unit_of_not_mem _ _ _ _ _ y (k0_off1_eq _) 0 ?_).trans ?_
        · exact hout
        refine (ih13 y).trans ?_
        by_cases hl : (y 0).val < 8 * n
        · rw [if_pos hl, if_pos (by omega)]
        · rw [if_neg hl, if_neg (by omega)]
    · rw [trip_c, List.singleton_append]
      refine (View.read_writes_cons_unit_of_not_mem _ _ _ _ _ y (k0_off3_eq _) 0 (Or.inr ?_)).trans (ih14 y (by omega))
      exact hy
    · rw [trip_f, lA, lB, lS, List.singleton_append]
      by_cases hq : (y 0).val = n
      · refine (View.read_writes_cons_unit_of_mem _ _ _ _ _ y (ix3 0 (y 1) (y 2)) (k0_off3_eq _) ?_).trans ?_
        · intro a
          match a with
          | ⟨0, _⟩ => exact hq
          | ⟨1, _⟩ => exact (Nat.zero_add _).symm
          | ⟨2, _⟩ => exact (Nat.zero_add _).symm
        · unfold finals
          subst hq
          rfl
      · refine (View.read_writes_cons_unit_of_not_mem _ _ _ _ _ y (k0_off3_eq _) 0 ?_).trans (ih15 y (by omega))
        show (y 0).val < n ∨ n + 1 ≤ (y 0).val
        omega

end trip

/-- The second coordinate of a point is always zero, so the state result is stored at every point. -/
theorem cond2_true (i : grid0.Coords) : k0_cond2 i = 1#1 := by
  have e : (BitVec.ofNat 32 (i 1).val) = 0#32 := by
    have h : (i 1).val < 1 := (i 1).isLt
    have h' : (i 1).val = 0 := by omega
    rw [h']
  unfold k0_cond2
  simp only [e]
  decide

set_option maxHeartbeats 1600000 in
/-- The kernel body: from the input blocks and anything in the outputs and the scratch, to the outputs at `outY` and `outH`
    of the inputs and anything in the scratch. -/
theorem sound_kernel (c : Dev nD) (E : Set ℕ) (i : grid0.Coords) (arg2 : Memref sig .tc .vmem S128x256 .f32) (harg2 : arg2.IsWhole) (arg3 : Memref sig .tc .vmem S16x1x2048 .f32) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S6x8x1024 .f32) (harg9 : arg9.IsWhole) (arg10 : Memref sig .tc .vmem S2x8x1024 .f32) (harg10 : arg10.IsWhole) (arg11 : Memref sig .tc .vmem S128x256 .f32) (harg11 : arg11.IsWhole) (arg12 : Memref sig .tc .vmem S16x1x2048 .f32) (harg12 : arg12.IsWhole) (arg13 : Memref sig .tc .vmem S128x2048 .f32) (harg13 : arg13.IsWhole) (arg14 : Memref sig .tc .vmem S16x1x2048 .f32) (harg14 : arg14.IsWhole) (arg15 : Memref sig .tc .vmem S16x1x2048 .f32) (harg15 : arg15.IsWhole)
    (x2 : Vec F S128x256 .f32) (x3 : Vec F S16x1x2048 .f32) (x4 : Vec F S256x2048 .bf16) (x5 : Vec F S2048x256 .bf16)
    (x6 : Vec F S1x256 .f32) (x7 x8 : Vec F S256x256 .bf16) (x9 : Vec F S6x8x1024 .f32) (x10 : Vec F S2x8x1024 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ owns (c : Thread nD τ) arg11 fullShare (outY x2 x3 x4 x5 x6 x7 x8 x9 x10) ∗ owns (c : Thread nD τ) arg12 fullShare (outH x2 x3 x4 x9 x10)
            ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_s5 i arg2 harg2 arg3 harg3 arg4 harg4 arg5 harg5 arg6 harg6 arg7 harg7 arg8 harg8 arg9 harg9 arg10 harg10 arg11 harg11 arg12 harg12 arg13 harg13 arg14 harg14 arg15 harg15) K := by
  have e : (BitVec.ofNat 32 (i 1).val) = 0#32 := by
    have h : (i 1).val < 1 := (i 1).isLt
    have h' : (i 1).val = 0 := by omega
    rw [h']
  have e2 : k0_cond2 i = 1#1 := cond2_true i
  simp only [cc0_s5_eq_skeleton]; unfold cc0_s5_skel
  rw [dif_pos e2]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩,
    ⟨%d11, %f11, -, H11⟩, ⟨%d12, %f12, -, H12⟩, ⟨%d13, %f13, -, H13⟩, ⟨%d14, %f14, -, H14⟩, ⟨%d15, %f15, -, H15⟩, Hk⟩
  subst hf2 hf3 hf4 hf5 hf6 hf7 hf8 hf9 hf10
  sl_exec
  sl_step
  iapply Hk
  have r13 : View.read (Elt F) arg13.view (arg13.view.writes (Elt F) arg13.view.junk (sound_kernel.sl.H13_1 c arg2 arg4 f2 f4))
      = k0_pay26 (View.read (Elt F) arg2.view f2) (View.read (Elt F) arg4.view f4) := by
    unfold sound_kernel.sl.H13_1
    rw [View.read_writes_full, View.readAt_full, View.readAt_full]
  have r14 : View.read (Elt F) arg14.view (arg14.view.writes (Elt F) arg14.view.junk (sound_kernel.sl.H14_1 c arg3 f3))
      = View.read (Elt F) arg3.view f3 :=
    (View.read_writes_full _ _ _ _ _).trans ((shapeCast_self _ _).trans ((shapeCast_self _ _).trans (View.readAt_full _ _ _)))
  have hl := loop_holds Variants.none c none i arg2 harg2 arg3 harg3 arg4 harg4 arg5 harg5 arg6 harg6 arg7 harg7 arg8 harg8 arg9 harg9 arg10 harg10 arg11 harg11 arg12 harg12 arg13 harg13 arg14 harg14 arg15 harg15 f9 f10 _ _ _ _ f15 r13 r14 16 le_rfl
  have hv : sound_kernel.sl.v12 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f9 f10 f15
      = states (k0_pay26 (View.read (Elt F) arg2.view f2) (View.read (Elt F) arg4.view f4)) (View.read (Elt F) arg3.view f3)
          (View.read (Elt F) arg9.view f9) (View.read (Elt F) arg10.view f10) := by
    refine (View.readAt_full _ _ _).trans (funext fun y => ?_)
    rw [View.writes_append]
    exact (hl.1 y).trans (if_pos (y 0).isLt)
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_full _ _ _ _ _).trans ?_
    unfold sound_kernel.sl.r sound_kernel.sl.r_1 outY
    rw [e]
    exact y_congr (View.readAt_full _ _ _) hv (View.readAt_full _ _ _) (View.readAt_full _ _ _) (View.readAt_full _ _ _) (View.readAt_full _ _ _)
  isplitl [H12]
  · iexists _; isplitr
    swap; · iexact H12
    ipureintro
    refine (View.read_writes_full _ _ _ _ _).trans ?_
    refine (View.readAt_full _ _ _).trans (funext fun y => ?_)
    exact hl.2.2 y (y 0).isLt
  isplitl [H13]
  · iexists _; iexists _; isplitr
    swap; · iexact H13
    ipureintro; rfl
  isplitl [H14]
  · iexists _; iexists _; isplitr
    swap; · iexact H14
    ipureintro; rfl
  iexists _; iexists _; isplitr
  swap; · iexact H15
  ipureintro; rfl

variable (m : (ℓ : Loc nD τ sig) → Buf (Elt F) ℓ) (ρ : Dev nD → PrngReg)

/-! ## The pipeline's proof data -/

/-- The proof data: the arrays as the region finds them, after each point the inputs' buffers at their blocks and the
    outputs' at the body's functions of them; the scratch is held at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outY (iblk m c 0 t) (iblk m c 1 t) (iblk m c 2 t) (iblk m c 3 t) (iblk m c 4 t) (iblk m c 5 t) (iblk m c 6 t) (iblk m c 7 t) (iblk m c 8 t)
    | ⟨10, _⟩ => outH (iblk m c 0 t) (iblk m c 1 t) (iblk m c 2 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outY (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = outH (iblk m c 0 t) (iblk m c 1 t) (iblk m c 2 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`: the scratch, the generator register, the eleven staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The scratch opened: the three scratch buffers at anything, and the generator register. -/
theorem scratch_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ ∃ r, prngReg c r) := by
  unfold Pipeline.ΦA
  rw [scopedRest0_eq]
  simp only [owns_whole]
  try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, scratch_eq]
  iintro ⟨⟨⟨HA, HB, HC⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HA]; · iexact HA
  isplitl [HB]; · iexact HB
  isplitl [HC]; · iexact HC
  iintro ⟨H0, H1, H2, H3, H4, H5, H6, H7, H8, H9, H10, HA, HB, HC⟩
  isplitl [HA HB HC Hr]
  · isplitl [HA HB HC]
    · isplitl [HA]; · iexact HA
      isplitl [HB]; · iexact HB
      iexact HC
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  have hi : cfg0.idle 10 (cfg0.grid.coords t) = false := by
    show (!(k0_cond2 (grid0.coords t) == 1#1)) = false
    rw [cond2_true]
    rfl
  rw [bigSep_W0, bigSep_W0, defs₀_row, hi]
  exact triple_restated (sound_body m c t) rfl .rfl fun _ => .rfl

/-! ## The run and the frame -/

set_option backward.isDefEq.respectTransparency.types false in
set_option maxHeartbeats 800000 in
/-- Every execution of the program terminates with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the program terminates, its arguments end unchanged, and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.KernelScanIdeal.Scan
-- ==== Proof.ScanMath.lean ====
/- The arithmetic of the state-space scan: four steps of a complex recurrence in coordinates against three doubling steps and
   powers of the factor, sums over a block of a block-diagonal matrix, and which numbers are real. -/
module

public import proofs.«01_k».proof.Proof.SwaMath
public import Idealize.ShloMosaic.Lib.Pointwise
public import Idealize.ShloMosaic.Lib.Claim

@[expose] public section

noncomputable section

open Idealize.ShloMosaic

namespace Cert.Scan
open Cert.Swa

/-! ## Real numbers -/

theorem real_exp {x : EReal} (hx : IsReal x) : IsReal (Ideal.exp x) := by obtain ⟨a, rfl⟩ := hx; exact ⟨Real.exp a, rfl⟩
theorem real_cos {x : EReal} (hx : IsReal x) : IsReal (Ideal.cos x) := by obtain ⟨a, rfl⟩ := hx; exact ⟨Real.cos a, rfl⟩
theorem real_sin {x : EReal} (hx : IsReal x) : IsReal (Ideal.sin x) := by obtain ⟨a, rfl⟩ := hx; exact ⟨Real.sin a, rfl⟩
theorem real_neg {x : EReal} (hx : IsReal x) : IsReal (-x) := by obtain ⟨a, rfl⟩ := hx; exact ⟨-a, (EReal.coe_neg a).symm⟩
theorem real_zero : IsReal 0 := ⟨0, rfl⟩
theorem real_one : IsReal (Ideal.ofBits .f32 0x3F800000#32) := ⟨1, by simp [Ideal.ofBits, Ideal.ieee, -EReal.coe_mul]; norm_num⟩

/-- A quotient by a real number other than zero. -/
theorem real_div {x y : EReal} (hx : IsReal x) (hy : IsReal y) (h : y ≠ 0) : IsReal (Ideal.div x y) := by
  unfold Ideal.div
  rw [if_neg h]
  obtain ⟨b, rfl⟩ := hy
  exact hx.mul ⟨b⁻¹, (EReal.coe_inv b).symm⟩

/-- The squared length of a number that is not zero is not zero. -/
theorem norm_ne {x y : EReal} (hx : IsReal x) (hy : IsReal y) (h : x ≠ 0 ∨ y ≠ 0) : x * x + y * y ≠ 0 := by
  obtain ⟨a, rfl⟩ := hx; obtain ⟨b, rfl⟩ := hy
  rw [← EReal.coe_mul, ← EReal.coe_mul, ← EReal.coe_add]
  intro e
  have e' : a * a + b * b = 0 := EReal.coe_eq_zero.1 e
  have ha : a = 0 := by nlinarith [mul_self_nonneg a, mul_self_nonneg b]
  have hb : b = 0 := by nlinarith [mul_self_nonneg a, mul_self_nonneg b]
  rcases h with h | h
  · exact h (by rw [ha]; rfl)
  · exact h (by rw [hb]; rfl)

/-! ## The recurrence -/

/-- The state after step `n`, from state `(h, k)`, factor `(a, b)` and inputs `(u, v)`. -/
def state (a b h k : EReal) (u v : ℕ → EReal) : ℕ → EReal × EReal
  | 0 => (a * h - b * k + u 0, a * k + b * h + v 0)
  | n + 1 => (a * (state a b h k u v n).1 - b * (state a b h k u v n).2 + u (n + 1),
      a * (state a b h k u v n).2 + b * (state a b h k u v n).1 + v (n + 1))

/-- Powers of the factor, the first at zero. -/
def power (a b : EReal) : ℕ → EReal × EReal
  | 0 => (a, b)
  | n + 1 => ((power a b n).1 * a - (power a b n).2 * b, (power a b n).1 * b + (power a b n).2 * a)

theorem state_real {a b h k : EReal} {u v : ℕ → EReal} (ha : IsReal a) (hb : IsReal b) (hh : IsReal h) (hk : IsReal k) (n : ℕ)
    (hu : ∀ i, i ≤ n → IsReal (u i)) (hv : ∀ i, i ≤ n → IsReal (v i)) : IsReal (state a b h k u v n).1 ∧ IsReal (state a b h k u v n).2 := by
  induction n with
  | zero => exact ⟨((ha.mul hh).sub (hb.mul hk)).add (hu 0 le_rfl), ((ha.mul hk).add (hb.mul hh)).add (hv 0 le_rfl)⟩
  | succ n ih =>
    obtain ⟨h1, h2⟩ := ih (fun i hi => hu i (by omega)) (fun i hi => hv i (by omega))
    exact ⟨((ha.mul h1).sub (hb.mul h2)).add (hu _ le_rfl), ((ha.mul h2).add (hb.mul h1)).add (hv _ le_rfl)⟩

section steps
variable {a b h k : EReal} {u v : ℕ → EReal}
  (ha : IsReal a) (hb : IsReal b) (hh : IsReal h) (hk : IsReal k) (hu : ∀ i, i < 4 → IsReal (u i)) (hv : ∀ i, i < 4 → IsReal (v i))
include ha hb hh hk hu hv

theorem row0_re : u 0 + (power a b 0).1 * h - (power a b 0).2 * k = (state a b h k u v 0).1 := by
  obtain ⟨a, rfl⟩ := ha; obtain ⟨b, rfl⟩ := hb; obtain ⟨h, rfl⟩ := hh; obtain ⟨k, rfl⟩ := hk
  obtain ⟨u0, e0⟩ := hu 0 (by decide)
  simp only [state, power, e0, ← EReal.coe_mul, ← EReal.coe_add, ← EReal.coe_sub]
  exact congrArg _ (by ring)

theorem row0_im : v 0 + (power a b 0).1 * k + (power a b 0).2 * h = (state a b h k u v 0).2 := by
  obtain ⟨a, rfl⟩ := ha; obtain ⟨b, rfl⟩ := hb; obtain ⟨h, rfl⟩ := hh; obtain ⟨k, rfl⟩ := hk
  obtain ⟨v0, e0⟩ := hv 0 (by decide)
  simp only [state, power, e0, ← EReal.coe_mul, ← EReal.coe_add, ← EReal.coe_sub]
  exact congrArg _ (by ring)

theorem row1_re : u 1 + a * u 0 - b * v 0 + (power a b 1).1 * h - (power a b 1).2 * k = (state a b h k u v 1).1 := by
  obtain ⟨a, rfl⟩ := ha; obtain ⟨b, rfl⟩ := hb; obtain ⟨h, rfl⟩ := hh; obtain ⟨k, rfl⟩ := hk
  obtain ⟨u0, e0⟩ := hu 0 (by decide); obtain ⟨u1, e1⟩ := hu 1 (by decide)
  obtain ⟨v0, f0⟩ := hv 0 (by decide); obtain ⟨v1, f1⟩ := hv 1 (by decide)
  simp only [state, power, zero_add, e0, e1, f0, f1, ← EReal.coe_mul, ← EReal.coe_add, ← EReal.coe_sub]
  exact congrArg _ (by ring)

theorem row1_im : v 1 + a * v 0 + b * u 0 + (power a b 1).1 * k + (power a b 1).2 * h = (state a b h k u v 1).2 := by
  obtain ⟨a, rfl⟩ := ha; obtain ⟨b, rfl⟩ := hb; obtain ⟨h, rfl⟩ := hh; obtain ⟨k, rfl⟩ := hk
  obtain ⟨u0, e0⟩ := hu 0 (by decide); obtain ⟨u1, e1⟩ := hu 1 (by decide)
  obtain ⟨v0, f0⟩ := hv 0 (by decide); obtain ⟨v1, f1⟩ := hv 1 (by decide)
  simp only [state, power, zero_add, e0, e1, f0, f1, ← EReal.coe_mul, ← EReal.coe_add, ← EReal.coe_sub]
  exact congrArg _ (by ring)

theorem row2_re : u 2 + a * u 1 - b * v 1 + (power a b 1).1 * u 0 - (power a b 1).2 * v 0 + (power a b 2).1 * h - (power a b 2).2 * k
    = (state a b h k u v 2).1 := by
  obtain ⟨a, rfl⟩ := ha; obtain ⟨b, rfl⟩ := hb; obtain ⟨h, rfl⟩ := hh; obtain ⟨k, rfl⟩ := hk
  obtain ⟨u0, e0⟩ := hu 0 (by decide); obtain ⟨u1, e1⟩ := hu 1 (by decide); obtain ⟨u2, e2⟩ := hu 2 (by decide)
  obtain ⟨v0, f0⟩ := hv 0 (by decide); obtain ⟨v1, f1⟩ := hv 1 (by decide); obtain ⟨v2, f2⟩ := hv 2 (by decide)
  simp only [state, power, zero_add, Nat.reduceAdd, e0, e1, e2, f0, f1, f2, ← EReal.coe_mul, ← EReal.coe_add, ← EReal.coe_sub]
  exact congrArg _ (by ring)

theorem row2_im : v 2 + a * v 1 + b * u 1 + (power a b 1).1 * v 0 + (power a b 1).2 * u 0 + (power a b 2).1 * k + (power a b 2).2 * h
    = (state a b h k u v 2).2 := by
  obtain ⟨a, rfl⟩ := ha; obtain ⟨b, rfl⟩ := hb; obtain ⟨h, rfl⟩ := hh; obtain ⟨k, rfl⟩ := hk
  obtain ⟨u0, e0⟩ := hu 0 (by decide); obtain ⟨u1, e1⟩ := hu 1 (by decide); obtain ⟨u2, e2⟩ := hu 2 (by decide)
  obtain ⟨v0, f0⟩ := hv 0 (by decide); obtain ⟨v1, f1⟩ := hv 1 (by decide); obtain ⟨v2, f2⟩ := hv 2 (by decide)
  simp only [state, power, zero_add, Nat.reduceAdd, e0, e1, e2, f0, f1, f2, ← EReal.coe_mul, ← EReal.coe_add, ← EReal.coe_sub]
  exact congrArg _ (by ring)

theorem row3_re : u 3 + a * u 2 - b * v 2 + (power a b 1).1 * (u 1 + a * u 0 - b * v 0) - (power a b 1).2 * (v 1 + a * v 0 + b * u 0)
      + (power a b 3).1 * h - (power a b 3).2 * k
    = (state a b h k u v 3).1 := by
  obtain ⟨a, rfl⟩ := ha; obtain ⟨b, rfl⟩ := hb; obtain ⟨h, rfl⟩ := hh; obtain ⟨k, rfl⟩ := hk
  obtain ⟨u0, e0⟩ := hu 0 (by decide); obtain ⟨u1, e1⟩ := hu 1 (by decide); obtain ⟨u2, e2⟩ := hu 2 (by decide); obtain ⟨u3, e3⟩ := hu 3 (by decide)
  obtain ⟨v0, f0⟩ := hv 0 (by decide); obtain ⟨v1, f1⟩ := hv 1 (by decide); obtain ⟨v2, f2⟩ := hv 2 (by decide); obtain ⟨v3, f3⟩ := hv 3 (by decide)
  simp only [state, power, zero_add, Nat.reduceAdd, e0, e1, e2, e3, f0, f1, f2, f3, ← EReal.coe_mul, ← EReal.coe_add, ← EReal.coe_sub]
  exact congrArg _ (by ring)

theorem row3_im : v 3 + a * v 2 + b * u 2 + (power a b 1).1 * (v 1 + a * v 0 + b * u 0) + (power a b 1).2 * (u 1 + a * u 0 - b * v 0)
      + (power a b 3).1 * k + (power a b 3).2 * h
    = (state a b h k u v 3).2 := by
  obtain ⟨a, rfl⟩ := ha; obtain ⟨b, rfl⟩ := hb; obtain ⟨h, rfl⟩ := hh; obtain ⟨k, rfl⟩ := hk
  obtain ⟨u0, e0⟩ := hu 0 (by decide); obtain ⟨u1, e1⟩ := hu 1 (by decide); obtain ⟨u2, e2⟩ := hu 2 (by decide); obtain ⟨u3, e3⟩ := hu 3 (by decide)
  obtain ⟨v0, f0⟩ := hv 0 (by decide); obtain ⟨v1, f1⟩ := hv 1 (by decide); obtain ⟨v2, f2⟩ := hv 2 (by decide); obtain ⟨v3, f3⟩ := hv 3 (by decide)
  simp only [state, power, zero_add, Nat.reduceAdd, e0, e1, e2, e3, f0, f1, f2, f3, ← EReal.coe_mul, ← EReal.coe_add, ← EReal.coe_sub]
  exact congrArg _ (by ring)

end steps

/-! ## Block-diagonal sums -/

/-- A sum whose terms vanish off the image of an injection is the sum over its domain. -/
theorem sum_image {n k : ℕ} (f : Fin n → EReal) (e : Fin k → Fin n) (he : Function.Injective e) (h : ∀ j, (∀ i, e i ≠ j) → f j = 0) :
    ∑ j, f j = ∑ i, f (e i) :=
  (Finset.sum_of_injOn e he.injOn (fun _ _ => Finset.mem_coe.2 (Finset.mem_univ _))
    (fun j _ hj => h j fun i hi => hj ⟨i, Finset.mem_coe.2 (Finset.mem_univ _), hi⟩) fun _ _ => rfl).symm

/-- Row `g` of sixteen blocks of sixteen. -/
theorem sum_block16 (x y : Fin 256 → EReal) (g : Fin 16) :
    ∑ j : Fin 256, x j * (y j * (if j.val / 16 = g.val then 1 else 0))
      = ∑ c : Fin 16, x ⟨g.val * 16 + c.val, by omega⟩ * y ⟨g.val * 16 + c.val, by omega⟩ := by
  refine (sum_image _ (fun c : Fin 16 => (⟨g.val * 16 + c.val, by omega⟩ : Fin 256)) (fun i j hij => Fin.ext ?_) fun j hj => ?_).trans ?_
  · have := congrArg Fin.val hij; dsimp only at this; omega
  · rw [if_neg, mul_zero, mul_zero]
    intro e
    exact hj ⟨j.val % 16, by omega⟩ (Fin.ext (by dsimp only; omega))
  · refine Finset.sum_congr rfl fun c _ => ?_
    rw [if_pos (by dsimp only; omega), mul_one]

/-- Row `g` of sixteen blocks of sixty-four. -/
theorem sum_block64 (x y : Fin 1024 → EReal) (g : Fin 16) :
    ∑ j : Fin 1024, x j * (y j * (if j.val / 64 = g.val then 1 else 0))
      = ∑ c : Fin 64, x ⟨g.val * 64 + c.val, by omega⟩ * y ⟨g.val * 64 + c.val, by omega⟩ := by
  refine (sum_image _ (fun c : Fin 64 => (⟨g.val * 64 + c.val, by omega⟩ : Fin 1024)) (fun i j hij => Fin.ext ?_) fun j hj => ?_).trans ?_
  · have := congrArg Fin.val hij; dsimp only at this; omega
  · rw [if_neg, mul_zero, mul_zero]
    intro e
    exact hj ⟨j.val % 64, by omega⟩ (Fin.ext (by dsimp only; omega))
  · refine Finset.sum_congr rfl fun c _ => ?_
    rw [if_pos (by dsimp only; omega), mul_one]

/-- The negated block: what it sums to is subtracted. -/
theorem sum_block64_neg (x y : Fin 1024 → EReal) (g : Fin 16) (hx : ∀ j, IsReal (x j)) (hy : ∀ j, IsReal (y j)) :
    ∑ j : Fin 1024, x j * -(y j * (if j.val / 64 = g.val then 1 else 0))
      = -∑ c : Fin 64, x ⟨g.val * 64 + c.val, by omega⟩ * y ⟨g.val * 64 + c.val, by omega⟩ := by
  have e1 : ∀ j : Fin 1024, x j * -(y j * (if j.val / 64 = g.val then 1 else 0)) = x j * (-y j * (if j.val / 64 = g.val then 1 else 0)) := fun j => by
    rw [EReal.neg_mul]
  rw [Finset.sum_congr rfl fun j _ => e1 j, sum_block64]
  choose f hf using hx
  choose d hd using hy
  have coe_sum : ∀ r : Fin 64 → ℝ, ∑ c, ((r c : ℝ) : EReal) = ((∑ c, r c : ℝ) : EReal) := fun r => by
    exact (map_sum (⟨⟨fun r : ℝ => (r : EReal), EReal.coe_zero⟩, EReal.coe_add⟩ : ℝ →+ EReal) r Finset.univ).symm
  simp only [hf, hd, ← EReal.coe_neg, ← EReal.coe_mul, coe_sum]
  rw [← Finset.sum_neg_distrib]
  exact congrArg _ (Finset.sum_congr rfl fun c _ => by ring)

end Cert.Scan
end
-- ==== Proof.ScanHost.lean ====
/- The state-space scan: what the host has laid out when the call is entered, entry by entry. -/
module

public import proofs.«01_k».proof.Proof.ScanBody
public import proofs.«01_k».proof.Proof.ScanMath
public import proofs.«01_k».proof.Proof.Gen.ReferenceScanIdeal.Run
public import proofs.«01_k».proof.Proof.Gen.ReferenceScanIdeal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Scan
open Cert.KernelScanIdeal Cert.KernelScanIdeal.Gen Cert.KernelScanIdeal.Scan

open Cert.ReferenceScanIdeal.Read

/-! ## The factor and the input matrix, in coordinates -/

/-- The operations that compute the discretized factor and input matrix, -/
abbrev factorOps : List (HloOp τ sig (Elt Ideal)) := (hostOps0 (F := Ideal)).take 45

/-- and those that lay them out. -/
abbrev laidOps : List (HloOp τ sig (Elt Ideal)) :=
  List.flatten [(hostOps0 (F := Ideal)).drop 45, hostOps0_1, hostOps0_2, hostOps0_3, hostOps0_4, hostOps0_5, hostOps0_6, hostOps0_7, hostOps0_8, hostOps0_9, hostOps0_10, hostOps0_11, hostOps0_12]

theorem after_concat (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

section values
variable (m : (ℓ : Loc nD τ sig) → Buf (Elt Ideal) ℓ) (c : Dev nD)

/-- The contents once the factor and the input matrix are computed. -/
abbrev mid : Valuation τ sig (Elt Ideal) := StableHlo.after factorOps fun b => m (c, b)

theorem V_eq (b : Ref sig .tc) : V m c b = StableHlo.after laidOps (mid m c) (Proc.devRef .tc b) := by
  have h : List.flatten [hostOps0 (F := Ideal), hostOps0_1, hostOps0_2, hostOps0_3, hostOps0_4, hostOps0_5, hostOps0_6, hostOps0_7, hostOps0_8, hostOps0_9, hostOps0_10, hostOps0_11, hostOps0_12] = factorOps ++ laidOps := by
    simp only [factorOps, laidOps, List.flatten_cons, ← List.append_assoc, List.take_append_drop]
  show StableHlo.after (List.flatten [hostOps0 (F := Ideal), hostOps0_1, hostOps0_2, hostOps0_3, hostOps0_4, hostOps0_5, hostOps0_6, hostOps0_7, hostOps0_8, hostOps0_9, hostOps0_10, hostOps0_11, hostOps0_12]) _ _ = _
  rw [h, after_concat]

abbrev A3 : FVec Ideal S16x64 .f32 := m ((c : Thread nD τ).loc main_arg3)
abbrev A4 : FVec Ideal S16x64 .f32 := m ((c : Thread nD τ).loc main_arg4)
abbrev A5 : FVec Ideal S16 .f32 := m ((c : Thread nD τ).loc main_arg5)
abbrev A6 : FVec Ideal S16x64x16 .f32 := m ((c : Thread nD τ).loc main_arg6)
abbrev A7 : FVec Ideal S16x64x16 .f32 := m ((c : Thread nD τ).loc main_arg7)

theorem mid_v11 : (mid m c (Proc.devRef .tc main_v11) : FVec Ideal S16x64 .f32) = val_main_v10 (F := Ideal) (A3 m c) (A4 m c) (A5 m c) := by
  simp only [mid, factorOps, hostOps0, List.take_succ_cons, List.take_zero]
  after_results_simp
  rfl

theorem mid_v13 : (mid m c (Proc.devRef .tc main_v13) : FVec Ideal S16x64 .f32) = val_main_v12 (F := Ideal) (A3 m c) (A4 m c) (A5 m c) := by
  simp only [mid, factorOps, hostOps0, List.take_succ_cons, List.take_zero]
  after_results_simp
  rfl

theorem mid_v35 : (mid m c (Proc.devRef .tc main_v35) : FVec Ideal S16x64x16 .f32) = val_main_v34 (F := Ideal) (A3 m c) (A4 m c) (A5 m c) (A6 m c) (A7 m c) := by
  simp only [mid, factorOps, hostOps0, List.take_succ_cons, List.take_zero]
  after_results_simp
  rfl

theorem mid_v42 : (mid m c (Proc.devRef .tc main_v42) : FVec Ideal S16x64x16 .f32) = val_main_v41 (F := Ideal) (A3 m c) (A4 m c) (A5 m c) (A6 m c) (A7 m c) := by
  simp only [mid, factorOps, hostOps0, List.take_succ_cons, List.take_zero]
  after_results_simp
  rfl

theorem mid_arg1 : mid m c (Proc.devRef .tc main_arg1) = m ((c : Thread nD τ).loc main_arg1) := by
  simp only [mid, factorOps, hostOps0, List.take_succ_cons, List.take_zero]
  after_results_simp

theorem mid_arg2 : mid m c (Proc.devRef .tc main_arg2) = m ((c : Thread nD τ).loc main_arg2) := by
  simp only [mid, factorOps, hostOps0, List.take_succ_cons, List.take_zero]
  after_results_simp

theorem mid_arg8 : mid m c (Proc.devRef .tc main_arg8) = m ((c : Thread nD τ).loc main_arg8) := by
  simp only [mid, factorOps, hostOps0, List.take_succ_cons, List.take_zero]
  after_results_simp

theorem mid_arg9 : mid m c (Proc.devRef .tc main_arg9) = m ((c : Thread nD τ).loc main_arg9) := by
  simp only [mid, factorOps, hostOps0, List.take_succ_cons, List.take_zero]
  after_results_simp

theorem mid_arg10 : mid m c (Proc.devRef .tc main_arg10) = m ((c : Thread nD τ).loc main_arg10) := by
  simp only [mid, factorOps, hostOps0, List.take_succ_cons, List.take_zero]
  after_results_simp

theorem mid_arg11 : mid m c (Proc.devRef .tc main_arg11) = m ((c : Thread nD τ).loc main_arg11) := by
  simp only [mid, factorOps, hostOps0, List.take_succ_cons, List.take_zero]
  after_results_simp

theorem mid_arg12 : mid m c (Proc.devRef .tc main_arg12) = m ((c : Thread nD τ).loc main_arg12) := by
  simp only [mid, factorOps, hostOps0, List.take_succ_cons, List.take_zero]
  after_results_simp

/-- The incoming states, real half then imaginary half (lo). -/
theorem mid_v2_lo (n : Fin 128) (l : Fin 1024) : (mid m c (Proc.devRef .tc main_v2) : FVec Ideal S128x1x2048 .f32) (ix3 n 0 ⟨l.val, by omega⟩)
    = (m ((c : Thread nD τ).loc main_arg1) : FVec Ideal S128x16x64 .f32) (ix3 n ⟨l.val / 64, by omega⟩ ⟨l.val % 64, by omega⟩) := by
  simp only [mid, factorOps, hostOps0, List.take_succ_cons, List.take_zero]
  after_results_simp
  pointwise

/-- The incoming states, real half then imaginary half (hi). -/
theorem mid_v2_hi (n : Fin 128) (l : Fin 1024) : (mid m c (Proc.devRef .tc main_v2) : FVec Ideal S128x1x2048 .f32) (ix3 n 0 ⟨1024 + l.val, by omega⟩)
    = (m ((c : Thread nD τ).loc main_arg2) : FVec Ideal S128x16x64 .f32) (ix3 n ⟨l.val / 64, by omega⟩ ⟨l.val % 64, by omega⟩) := by
  simp only [mid, factorOps, hostOps0, List.take_succ_cons, List.take_zero]
  after_results_simp
  pointwise

end values

/-! ## The laid-out constants -/

section laid
variable (σ : Valuation τ sig (Elt Ideal))

theorem mask_ge1 : ∀ r : Fin 8, IntOp.cmpi CmpIPredicate.sge (BitVec.ofNat 32 r.val) 1#32 = if 1 ≤ r.val then 1#1 else 0#1 := by decide
theorem mask_ge2 : ∀ r : Fin 8, IntOp.cmpi CmpIPredicate.sge (BitVec.ofNat 32 r.val) 2#32 = if 2 ≤ r.val then 1#1 else 0#1 := by decide
theorem mask_ge4 : ∀ r : Fin 8, IntOp.cmpi CmpIPredicate.sge (BitVec.ofNat 32 r.val) 4#32 = if 4 ≤ r.val then 1#1 else 0#1 := by decide

theorem diag_at : ∀ g h : Fin 16, (IntOp.cmpi CmpIPredicate.eq (IntOp.addi (BitVec.ofNat 32 g.val) 0#32) (BitVec.ofNat 32 h.val)).toNat
    = if g.val = h.val then 1 else 0 := by decide +kernel

theorem zero_bits : Ideal.ofBits .f32 0x00000000#32 = 0 := by simp [Ideal.ofBits, Ideal.ieee]

abbrev at11 (l : Fin 1024) : EReal := (σ (Proc.devRef .tc main_v11) : FVec Ideal S16x64 .f32) (ix2 ⟨l.val / 64, by omega⟩ ⟨l.val % 64, by omega⟩)
abbrev at13 (l : Fin 1024) : EReal := (σ (Proc.devRef .tc main_v13) : FVec Ideal S16x64 .f32) (ix2 ⟨l.val / 64, by omega⟩ ⟨l.val % 64, by omega⟩)

abbrev at35 (i : S16x64x16.Idx) : EReal := (σ (Proc.devRef .tc main_v35) : FVec Ideal S16x64x16 .f32) i
abbrev at42 (i : S16x64x16.Idx) : EReal := (σ (Proc.devRef .tc main_v42) : FVec Ideal S16x64x16 .f32) i
abbrev at8 (i : S16x16x64.Idx) : EReal := (σ (Proc.devRef .tc main_arg8) : FVec Ideal S16x16x64 .f32) i
abbrev at9 (i : S16x16x64.Idx) : EReal := (σ (Proc.devRef .tc main_arg9) : FVec Ideal S16x16x64 .f32) i

theorem slab0 (r : Fin 8) (l : Fin 1024) : (StableHlo.after laidOps σ (Proc.devRef .tc main_v157) : FVec Ideal S6x8x1024 .f32) (ix3 0 r l)
    = (if 1 ≤ r.val then at11 σ l else 0 : EReal) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  refine (show _ = Scalar.select (IntOp.cmpi CmpIPredicate.sge (BitVec.ofNat 32 r.val) 1#32) (_ : EReal) (Ideal.ofBits .f32 0x00000000#32) from rfl).trans ?_
  rw [mask_ge1]
  split_ifs with h
  · rfl
  · exact zero_bits

theorem slab1 (r : Fin 8) (l : Fin 1024) : (StableHlo.after laidOps σ (Proc.devRef .tc main_v157) : FVec Ideal S6x8x1024 .f32) (ix3 1 r l)
    = (if 1 ≤ r.val then at13 σ l else 0 : EReal) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  refine (show _ = Scalar.select (IntOp.cmpi CmpIPredicate.sge (BitVec.ofNat 32 r.val) 1#32) (_ : EReal) (Ideal.ofBits .f32 0x00000000#32) from rfl).trans ?_
  rw [mask_ge1]
  split_ifs with h
  · rfl
  · exact zero_bits

theorem slab2 (r : Fin 8) (l : Fin 1024) : (StableHlo.after laidOps σ (Proc.devRef .tc main_v157) : FVec Ideal S6x8x1024 .f32) (ix3 2 r l)
    = (if 2 ≤ r.val then (power (at11 σ l) (at13 σ l) 1).1 else 0 : EReal) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  refine (show _ = Scalar.select (IntOp.cmpi CmpIPredicate.sge (BitVec.ofNat 32 r.val) 2#32) (_ : EReal) (Ideal.ofBits .f32 0x00000000#32) from rfl).trans ?_
  rw [mask_ge2]
  split_ifs with h
  · rfl
  · exact zero_bits

theorem slab3 (r : Fin 8) (l : Fin 1024) : (StableHlo.after laidOps σ (Proc.devRef .tc main_v157) : FVec Ideal S6x8x1024 .f32) (ix3 3 r l)
    = (if 2 ≤ r.val then (power (at11 σ l) (at13 σ l) 1).2 else 0 : EReal) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  refine (show _ = Scalar.select (IntOp.cmpi CmpIPredicate.sge (BitVec.ofNat 32 r.val) 2#32) (_ : EReal) (Ideal.ofBits .f32 0x00000000#32) from rfl).trans ?_
  rw [mask_ge2]
  split_ifs with h
  · rfl
  · exact zero_bits

theorem slab4 (r : Fin 8) (l : Fin 1024) : (StableHlo.after laidOps σ (Proc.devRef .tc main_v157) : FVec Ideal S6x8x1024 .f32) (ix3 4 r l)
    = (if 4 ≤ r.val then (power (at11 σ l) (at13 σ l) 3).1 else 0 : EReal) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  refine (show _ = Scalar.select (IntOp.cmpi CmpIPredicate.sge (BitVec.ofNat 32 r.val) 4#32) (_ : EReal) (Ideal.ofBits .f32 0x00000000#32) from rfl).trans ?_
  rw [mask_ge4]
  split_ifs with h
  · rfl
  · exact zero_bits

theorem slab5 (r : Fin 8) (l : Fin 1024) : (StableHlo.after laidOps σ (Proc.devRef .tc main_v157) : FVec Ideal S6x8x1024 .f32) (ix3 5 r l)
    = (if 4 ≤ r.val then (power (at11 σ l) (at13 σ l) 3).2 else 0 : EReal) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  refine (show _ = Scalar.select (IntOp.cmpi CmpIPredicate.sge (BitVec.ofNat 32 r.val) 4#32) (_ : EReal) (Ideal.ofBits .f32 0x00000000#32) from rfl).trans ?_
  rw [mask_ge4]
  split_ifs with h
  · rfl
  · exact zero_bits

theorem pow0_0 (l : Fin 1024) : (StableHlo.after laidOps σ (Proc.devRef .tc main_v160) : FVec Ideal S2x8x1024 .f32) (ix3 0 0 l)
    = (power (at11 σ l) (at13 σ l) 0).1 := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  rfl

theorem pow0_1 (l : Fin 1024) : (StableHlo.after laidOps σ (Proc.devRef .tc main_v160) : FVec Ideal S2x8x1024 .f32) (ix3 1 0 l)
    = (power (at11 σ l) (at13 σ l) 0).2 := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  rfl

theorem pow1_0 (l : Fin 1024) : (StableHlo.after laidOps σ (Proc.devRef .tc main_v160) : FVec Ideal S2x8x1024 .f32) (ix3 0 1 l)
    = (power (at11 σ l) (at13 σ l) 1).1 := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  rfl

theorem pow1_1 (l : Fin 1024) : (StableHlo.after laidOps σ (Proc.devRef .tc main_v160) : FVec Ideal S2x8x1024 .f32) (ix3 1 1 l)
    = (power (at11 σ l) (at13 σ l) 1).2 := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  rfl

theorem pow2_0 (l : Fin 1024) : (StableHlo.after laidOps σ (Proc.devRef .tc main_v160) : FVec Ideal S2x8x1024 .f32) (ix3 0 2 l)
    = (power (at11 σ l) (at13 σ l) 2).1 := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  rfl

theorem pow2_1 (l : Fin 1024) : (StableHlo.after laidOps σ (Proc.devRef .tc main_v160) : FVec Ideal S2x8x1024 .f32) (ix3 1 2 l)
    = (power (at11 σ l) (at13 σ l) 2).2 := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  rfl

theorem pow3_0 (l : Fin 1024) : (StableHlo.after laidOps σ (Proc.devRef .tc main_v160) : FVec Ideal S2x8x1024 .f32) (ix3 0 3 l)
    = (power (at11 σ l) (at13 σ l) 3).1 := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  rfl

theorem pow3_1 (l : Fin 1024) : (StableHlo.after laidOps σ (Proc.devRef .tc main_v160) : FVec Ideal S2x8x1024 .f32) (ix3 1 3 l)
    = (power (at11 σ l) (at13 σ l) 3).2 := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  rfl

theorem diag_val (g h : Fin 16) : (((IntOp.cmpi CmpIPredicate.eq (IntOp.addi (BitVec.ofNat 32 g.val) 0#32) (BitVec.ofNat 32 h.val)).toNat : ℝ) : EReal)
    = if g.val = h.val then 1 else 0 := by
  rw [diag_at]
  split_ifs <;> simp

theorem bmat_re (j : Fin 256) (l : Fin 1024) : (StableHlo.after laidOps σ (Proc.devRef .tc main_v64) : FVec Ideal S256x2048 .bf16) (ix2 j ⟨l.val, by omega⟩)
    = at35 σ (ix3 ⟨j.val / 16, by omega⟩ ⟨l.val % 64, by omega⟩ ⟨j.val % 16, by omega⟩)
      * (if j.val / 16 = l.val / 64 then (1 : EReal) else 0) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  rw [← diag_val ⟨j.val / 16, by omega⟩ ⟨l.val / 64, by omega⟩]
  rfl

theorem bmat_im (j : Fin 256) (l : Fin 1024) : (StableHlo.after laidOps σ (Proc.devRef .tc main_v64) : FVec Ideal S256x2048 .bf16) (ix2 j ⟨1024 + l.val, by omega⟩)
    = at42 σ (ix3 ⟨j.val / 16, by omega⟩ ⟨l.val % 64, by omega⟩ ⟨j.val % 16, by omega⟩)
      * (if j.val / 16 = l.val / 64 then (1 : EReal) else 0) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  rw [← diag_val ⟨j.val / 16, by omega⟩ ⟨l.val / 64, by omega⟩]
  rfl

theorem cmat_re (l : Fin 1024) (j : Fin 256) : (StableHlo.after laidOps σ (Proc.devRef .tc main_v81) : FVec Ideal S2048x256 .bf16) (ix2 ⟨l.val, by omega⟩ j)
    = (at8 σ (ix3 ⟨l.val / 64, by omega⟩ ⟨j.val % 16, by omega⟩ ⟨l.val % 64, by omega⟩)
      * (if l.val / 64 = j.val / 16 then (1 : EReal) else 0)) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  rw [← diag_val ⟨l.val / 64, by omega⟩ ⟨j.val / 16, by omega⟩]
  rfl

theorem cmat_im (l : Fin 1024) (j : Fin 256) : (StableHlo.after laidOps σ (Proc.devRef .tc main_v81) : FVec Ideal S2048x256 .bf16) (ix2 ⟨1024 + l.val, by omega⟩ j)
    = -(at9 σ (ix3 ⟨l.val / 64, by omega⟩ ⟨j.val % 16, by omega⟩ ⟨l.val % 64, by omega⟩)
      * (if l.val / 64 = j.val / 16 then (1 : EReal) else 0)) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise
  after_results_simp
  pointwise
  exact congrArg (fun x : EReal => -(at9 σ (ix3 ⟨l.val / 64, by omega⟩ ⟨j.val % 16, by omega⟩ ⟨l.val % 64, by omega⟩) * x))
    (diag_val ⟨l.val / 64, by omega⟩ ⟨j.val / 16, by omega⟩)

theorem d_at (j : Fin 256) : (StableHlo.after laidOps σ (Proc.devRef .tc main_v148) : FVec Ideal S1x256 .f32) (ix2 0 j)
    = (σ (Proc.devRef .tc main_arg10) : FVec Ideal S256 .f32) (ix1 j) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise

theorem w1_at (i j : Fin 256) : (StableHlo.after laidOps σ (Proc.devRef .tc main_v149) : FVec Ideal S256x256 .bf16) (ix2 i j)
    = (σ (Proc.devRef .tc main_arg11) : FVec Ideal S256x256 .f32) (ix2 i j) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise

theorem w2_at (i j : Fin 256) : (StableHlo.after laidOps σ (Proc.devRef .tc main_v150) : FVec Ideal S256x256 .bf16) (ix2 i j)
    = (σ (Proc.devRef .tc main_arg12) : FVec Ideal S256x256 .f32) (ix2 i j) := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp
  pointwise

theorem v2_kept (i : S128x1x2048.Idx) : (StableHlo.after laidOps σ (Proc.devRef .tc main_v2) : FVec Ideal S128x1x2048 .f32) i
    = (σ (Proc.devRef .tc main_v2) : FVec Ideal S128x1x2048 .f32) i := by
  simp only [laidOps, hostOps0, hostOps0_1, hostOps0_2, hostOps0_3, hostOps0_4, hostOps0_5, hostOps0_6, hostOps0_7, hostOps0_8, hostOps0_9, hostOps0_10, hostOps0_11, hostOps0_12, List.drop_succ_cons, List.drop_zero, List.flatten_cons, List.flatten_nil,
      List.append_nil, List.cons_append, List.nil_append, StableHlo.TRef.binary, StableHlo.TRef.nullary, StableHlo.TRef.unary, StableHlo.TRef.toBuf,
      StableHlo.TRef.ofBuf, cast_eq]
  after_results_simp

end laid

end Cert.Scan
end
-- ==== Proof.ScanPay.lean ====
/- The state-space scan: what one trip and the steps around the loop compute, entry by entry. -/
module

public import proofs.«01_k».proof.Proof.ScanBody
public import proofs.«01_k».proof.Proof.ScanMath
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Scan
open Cert.KernelScanIdeal Cert.KernelScanIdeal.Gen Cert.KernelScanIdeal.Scan

open Cert.Swa

/-! ## One sequence, one lane -/

theorem first_four : ∀ t : Fin 8, t.val < 4 → t = 0 ∨ t = 1 ∨ t = 2 ∨ t = 3 := by decide

section trip
variable (a b : Vec Ideal S8x1024 .f32) (x9 : Vec Ideal S6x8x1024 .f32) (x10 : Vec Ideal S2x8x1024 .f32) (w : Vec Ideal S1x1x2048 .f32) (l : Fin 1024)

theorem lev1r_at (t : Fin 8) : lev1r (F := Ideal) a b x9 (ix2 t l)
    = a (ix2 t l) + hs0 x9 (ix3 0 t l) * a (ix2 ⟨(t.val + 8 - 1) % 8, by omega⟩ l) - hs1 x9 (ix3 0 t l) * b (ix2 ⟨(t.val + 8 - 1) % 8, by omega⟩ l) := by
  pointwise [k0_pay6, k0_pay4, k0_pay5, k0_pay2, k0_pay3]

theorem lev1i_at (t : Fin 8) : lev1i (F := Ideal) a b x9 (ix2 t l)
    = b (ix2 t l) + hs0 x9 (ix3 0 t l) * b (ix2 ⟨(t.val + 8 - 1) % 8, by omega⟩ l) + hs1 x9 (ix3 0 t l) * a (ix2 ⟨(t.val + 8 - 1) % 8, by omega⟩ l) := by
  pointwise [k0_pay7, k0_pay4, k0_pay5, k0_pay2, k0_pay3]

/-- The factor slabs and powers of lane `l`, for the four rows in use. -/
structure Factors (A B : EReal) : Prop where
  h0 : ∀ t : Fin 8, hs0 x9 (ix3 0 t l) = if 1 ≤ t.val then A else 0
  h1 : ∀ t : Fin 8, hs1 x9 (ix3 0 t l) = if 1 ≤ t.val then B else 0
  h2 : ∀ t : Fin 8, hs2 x9 (ix3 0 t l) = if 2 ≤ t.val then (power A B 1).1 else 0
  h3 : ∀ t : Fin 8, hs3 x9 (ix3 0 t l) = if 2 ≤ t.val then (power A B 1).2 else 0
  h4 : ∀ t : Fin 8, t.val < 4 → hs4 x9 (ix3 0 t l) = 0
  h5 : ∀ t : Fin 8, t.val < 4 → hs5 x9 (ix3 0 t l) = 0
  c0 : ∀ t : Fin 8, t.val < 4 → cp0 x10 (ix3 0 t l) = (power A B t.val).1
  c1 : ∀ t : Fin 8, t.val < 4 → cp1 x10 (ix3 0 t l) = (power A B t.val).2

variable {a b x9 x10 w l} {A B : EReal}

/-- A row in use, before the third doubling step is seen to add nothing. -/
theorem newA_open (hf : Factors x9 x10 l A B) (t : Fin 8) (ht : t.val < 4) : newA (F := Ideal) a b x9 x10 w (ix2 t l)
    = lev1r a b x9 (ix2 t l) + (if 2 ≤ t.val then (power A B 1).1 else 0) * lev1r a b x9 (ix2 ⟨(t.val + 8 - 2) % 8, by omega⟩ l)
        - (if 2 ≤ t.val then (power A B 1).2 else 0) * lev1i a b x9 (ix2 ⟨(t.val + 8 - 2) % 8, by omega⟩ l)
        + (power A B t.val).1 * w (ix3 0 0 ⟨l.val, by omega⟩) - (power A B t.val).2 * w (ix3 0 0 ⟨1024 + l.val, by omega⟩) := by
  pointwise [newA, k0_pay29, k0_pay27, k0_pay25, k0_pay21, k0_pay19, k0_pay23, k0_pay24, k0_pay10, k0_pay11, k0_pay12, k0_pay13, k0_pay14, k0_pay15,
    k0_pay8, k0_pay9, k0_pay16, k0_pay17, k0_pay20, k0_pay22]
  rw [hf.h4 t ht, hf.h5 t ht, hf.h2 t, hf.h3 t, hf.c0 t ht, hf.c1 t ht, zero_mul, zero_mul, add_zero, sub_zero]

theorem newB_open (hf : Factors x9 x10 l A B) (t : Fin 8) (ht : t.val < 4) : newB (F := Ideal) a b x9 x10 w (ix2 t l)
    = lev1i a b x9 (ix2 t l) + (if 2 ≤ t.val then (power A B 1).1 else 0) * lev1i a b x9 (ix2 ⟨(t.val + 8 - 2) % 8, by omega⟩ l)
        + (if 2 ≤ t.val then (power A B 1).2 else 0) * lev1r a b x9 (ix2 ⟨(t.val + 8 - 2) % 8, by omega⟩ l)
        + (power A B t.val).1 * w (ix3 0 0 ⟨1024 + l.val, by omega⟩) + (power A B t.val).2 * w (ix3 0 0 ⟨l.val, by omega⟩) := by
  pointwise [newB, lev3i, k0_pay18, k0_pay30, k0_pay28, k0_pay25, k0_pay21, k0_pay19, k0_pay23, k0_pay10, k0_pay11, k0_pay12, k0_pay13, k0_pay14, k0_pay15,
    k0_pay8, k0_pay9, k0_pay16, k0_pay17, k0_pay20, k0_pay22]
  rw [hf.h4 t ht, hf.h5 t ht, hf.h2 t, hf.h3 t, hf.c0 t ht, hf.c1 t ht, zero_mul, zero_mul, add_zero, add_zero]

section rows
variable {h k : EReal} {u v : ℕ → EReal} (hf : Factors x9 x10 l A B)
include hf

theorem lev1r_0 : lev1r (F := Ideal) a b x9 (ix2 0 l) = a (ix2 0 l) := by
  rw [lev1r_at, hf.h0, hf.h1]
  simp
theorem lev1i_0 : lev1i (F := Ideal) a b x9 (ix2 0 l) = b (ix2 0 l) := by
  rw [lev1i_at, hf.h0, hf.h1]
  simp
theorem lev1r_1 : lev1r (F := Ideal) a b x9 (ix2 1 l) = a (ix2 1 l) + A * a (ix2 0 l) - B * b (ix2 0 l) := by
  rw [lev1r_at, hf.h0, hf.h1]
  rfl
theorem lev1i_1 : lev1i (F := Ideal) a b x9 (ix2 1 l) = b (ix2 1 l) + A * b (ix2 0 l) + B * a (ix2 0 l) := by
  rw [lev1i_at, hf.h0, hf.h1]
  rfl
theorem lev1r_2 : lev1r (F := Ideal) a b x9 (ix2 2 l) = a (ix2 2 l) + A * a (ix2 1 l) - B * b (ix2 1 l) := by
  rw [lev1r_at, hf.h0, hf.h1]
  rfl
theorem lev1i_2 : lev1i (F := Ideal) a b x9 (ix2 2 l) = b (ix2 2 l) + A * b (ix2 1 l) + B * a (ix2 1 l) := by
  rw [lev1i_at, hf.h0, hf.h1]
  rfl
theorem lev1r_3 : lev1r (F := Ideal) a b x9 (ix2 3 l) = a (ix2 3 l) + A * a (ix2 2 l) - B * b (ix2 2 l) := by
  rw [lev1r_at, hf.h0, hf.h1]
  rfl
theorem lev1i_3 : lev1i (F := Ideal) a b x9 (ix2 3 l) = b (ix2 3 l) + A * b (ix2 2 l) + B * a (ix2 2 l) := by
  rw [lev1i_at, hf.h0, hf.h1]
  rfl

variable (hA : IsReal A) (hB : IsReal B) (hh : IsReal h) (hk : IsReal k)
  (hu : ∀ i, i < 4 → IsReal (u i)) (hv : ∀ i, i < 4 → IsReal (v i))
  (ha : ∀ t : Fin 8, t.val < 4 → a (ix2 t l) = u t.val) (hb : ∀ t : Fin 8, t.val < 4 → b (ix2 t l) = v t.val)
  (hwh : ∀ j : Fin 2048, j.val = l.val → w (ix3 0 0 j) = h) (hwk : ∀ j : Fin 2048, j.val = 1024 + l.val → w (ix3 0 0 j) = k)
include hA hB hh hk hu hv ha hb hwh hwk

/-- The real half of a row in use is the recurrence's state there. -/
theorem newA_at (t : Fin 8) (ht : t.val < 4) : newA (F := Ideal) a b x9 x10 w (ix2 t l) = (state A B h k u v t.val).1 := by
  have a0 : a (ix2 0 l) = u 0 := ha 0 (by decide)
  have a1 : a (ix2 1 l) = u 1 := ha 1 (by decide)
  have a2 : a (ix2 2 l) = u 2 := ha 2 (by decide)
  have a3 : a (ix2 3 l) = u 3 := ha 3 (by decide)
  have b0 : b (ix2 0 l) = v 0 := hb 0 (by decide)
  have b1 : b (ix2 1 l) = v 1 := hb 1 (by decide)
  have b2 : b (ix2 2 l) = v 2 := hb 2 (by decide)
  have b3 : b (ix2 3 l) = v 3 := hb 3 (by decide)
  rw [newA_open hf t ht, hwh ⟨l.val, by omega⟩ rfl, hwk ⟨1024 + l.val, by omega⟩ rfl]
  rcases first_four t ht with rfl | rfl | rfl | rfl
  · rw [if_neg (by decide), if_neg (by decide), zero_mul, zero_mul, add_zero, sub_zero, lev1r_0 hf, a0]
    exact row0_re hA hB hh hk hu hv
  · rw [if_neg (by decide), if_neg (by decide), zero_mul, zero_mul, add_zero, sub_zero, lev1r_1 hf, a1, a0, b0]
    exact row1_re hA hB hh hk hu hv
  · rw [if_pos (by decide), if_pos (by decide), lev1r_2 hf, show (⟨((2 : Fin 8).val + 8 - 2) % 8, by omega⟩ : Fin 8) = 0 from rfl, lev1r_0 hf, lev1i_0 hf]
    simp only [a0, a1, a2, a3, b0, b1, b2, b3]
    exact row2_re hA hB hh hk hu hv
  · rw [if_pos (by decide), if_pos (by decide), lev1r_3 hf, show (⟨((3 : Fin 8).val + 8 - 2) % 8, by omega⟩ : Fin 8) = 1 from rfl, lev1r_1 hf, lev1i_1 hf]
    simp only [a0, a1, a2, a3, b0, b1, b2, b3]
    exact row3_re hA hB hh hk hu hv

/-- And the imaginary half. -/
theorem newB_at (t : Fin 8) (ht : t.val < 4) : newB (F := Ideal) a b x9 x10 w (ix2 t l) = (state A B h k u v t.val).2 := by
  have a0 : a (ix2 0 l) = u 0 := ha 0 (by decide)
  have a1 : a (ix2 1 l) = u 1 := ha 1 (by decide)
  have a2 : a (ix2 2 l) = u 2 := ha 2 (by decide)
  have a3 : a (ix2 3 l) = u 3 := ha 3 (by decide)
  have b0 : b (ix2 0 l) = v 0 := hb 0 (by decide)
  have b1 : b (ix2 1 l) = v 1 := hb 1 (by decide)
  have b2 : b (ix2 2 l) = v 2 := hb 2 (by decide)
  have b3 : b (ix2 3 l) = v 3 := hb 3 (by decide)
  rw [newB_open hf t ht, hwh ⟨l.val, by omega⟩ rfl, hwk ⟨1024 + l.val, by omega⟩ rfl]
  rcases first_four t ht with rfl | rfl | rfl | rfl
  · rw [if_neg (by decide), if_neg (by decide), zero_mul, zero_mul, add_zero, add_zero, lev1i_0 hf, b0]
    exact row0_im hA hB hh hk hu hv
  · rw [if_neg (by decide), if_neg (by decide), zero_mul, zero_mul, add_zero, add_zero, lev1i_1 hf, b1, b0, a0]
    exact row1_im hA hB hh hk hu hv
  · rw [if_pos (by decide), if_pos (by decide), lev1i_2 hf, show (⟨((2 : Fin 8).val + 8 - 2) % 8, by omega⟩ : Fin 8) = 0 from rfl, lev1r_0 hf, lev1i_0 hf]
    simp only [a0, a1, a2, a3, b0, b1, b2, b3]
    exact row2_im hA hB hh hk hu hv
  · rw [if_pos (by decide), if_pos (by decide), lev1i_3 hf, show (⟨((3 : Fin 8).val + 8 - 2) % 8, by omega⟩ : Fin 8) = 1 from rfl, lev1r_1 hf, lev1i_1 hf]
    simp only [a0, a1, a2, a3, b0, b1, b2, b3]
    exact row3_im hA hB hh hk hu hv

end rows

/-- The state result is the fourth row, real half first. -/
theorem newF_re (j : Fin 2048) (hj : j.val = l.val) : newF (F := Ideal) a b x9 x10 w (ix3 0 0 j) = newA (F := Ideal) a b x9 x10 w (ix2 3 l) := by
  have e : j = ⟨l.val, by omega⟩ := Fin.ext hj
  rw [e]
  pointwise [newF, newA, k0_pay32, k0_pay29]
theorem newF_im (j : Fin 2048) (hj : j.val = 1024 + l.val) : newF (F := Ideal) a b x9 x10 w (ix3 0 0 j) = newB (F := Ideal) a b x9 x10 w (ix2 3 l) := by
  have e : j = ⟨1024 + l.val, by omega⟩ := Fin.ext hj
  rw [e]
  pointwise [newF, newB, k0_pay32, k0_pay30]

end trip

/-! ## The steps around the loop -/

theorem input_at (u : Vec Ideal S128x256 .f32) (bm : Vec Ideal S256x2048 .bf16) (r : Fin 128) (j : Fin 2048) :
    k0_pay26 (F := Ideal) u bm (ix2 r j) = ∑ i : Fin 256, (u (ix2 r i) : EReal) * bm (ix2 i j) := by
  pointwise [k0_pay26]

theorem readout_at (u : Vec Ideal S128x256 .f32) (s : Vec Ideal S128x2048 .f32) (cm : Vec Ideal S2048x256 .bf16) (d : Vec Ideal S1x256 .f32)
    (r : Fin 128) (j : Fin 256) :
    k0_pay33 (F := Ideal) u s cm d (ix2 r j) = (∑ i : Fin 2048, (s (ix2 r i) : EReal) * cm (ix2 i j)) + (d (ix2 0 j) : EReal) * u (ix2 r j) := by
  pointwise [k0_pay33]

/-- The tanh form of the Gaussian error unit. -/
def gelu (y : EReal) : EReal :=
  y * (Ideal.ofBits .f32 0x3F000000#32 * (1
    + Ideal.tanh (Ideal.ofBits .f32 0x3F4C422A#32 * (y + Ideal.ofBits .f32 0x3D372713#32 * (y * (y * y))))))

/-- A gated row: the first product times the logistic of the second. -/
def gated (x : Fin 256 → EReal) (w1 w2 : Fin 256 → EReal) : EReal :=
  (∑ i, x i * w1 i) * Ideal.logistic (∑ i, x i * w2 i)

theorem live_at : ∀ r : Fin 128, IntOp.cmpi CmpIPredicate.slt (IntOp.addi (IntOp.muli 0#32 8#32) (IntOp.andi (BitVec.ofNat 32 r.val) 7#32)) 4#32
    = if r.val % 8 < 4 then 1#1 else 0#1 := by decide +kernel

theorem out_at (u : Vec Ideal S128x256 .f32) (s : Vec Ideal S128x2048 .f32) (cm : Vec Ideal S2048x256 .bf16) (d : Vec Ideal S1x256 .f32)
    (w1 w2 : Vec Ideal S256x256 .bf16) (r : Fin 128) (j : Fin 256) :
    k0_pay1 (F := Ideal) 0#32 (k0_pay33 u s cm d) (k0_pay34 u s cm d) w1 w2 (ix2 r j)
      = if r.val % 8 < 4 then gated (fun i => gelu (k0_pay33 (F := Ideal) u s cm d (ix2 r i))) (fun i => w1 (ix2 i j)) (fun i => w2 (ix2 i j)) else 0 := by
  pointwise [k0_pay1, k0_pay34]
  refine Eq.trans (congrArg (fun b => Scalar.select b _ _) (live_at r)) ?_
  split_ifs with h
  · rfl
  · rfl

end Cert.Scan
end
-- ==== Proof.ScanRef.lean ====
/- The state-space scan: the reference, read entry by entry. -/
module

public import proofs.«01_k».proof.Proof.Gen.ReferenceScanIdeal.Run
public import proofs.«01_k».proof.Proof.Gen.ReferenceScanIdeal.Read
public import proofs.«01_k».proof.Proof.ScanPay
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Scan.Ref
open Cert.ReferenceScanIdeal Cert.ReferenceScanIdeal.Gen Cert.ReferenceScanIdeal.Read Cert.Scan

variable (x0 : FVec Ideal S1024x3072 .f32) (x1 x2 : FVec Ideal S128x16x64 .f32) (x3 x4 : FVec Ideal S16x64 .f32) (x5 : FVec Ideal S16 .f32)
  (x6 x7 : FVec Ideal S16x64x16 .f32) (x8 x9 : FVec Ideal S16x16x64 .f32) (x10 : FVec Ideal S256 .f32) (x11 x12 : FVec Ideal S256x256 .f32)

/-! ## Inputs in the state space -/

/-- What step `i` adds to the real part of state `(n, g, p)`, -/
def inRe (n : Fin 128) (g : Fin 16) (p : Fin 64) (i : ℕ) : EReal :=
  if h : i < 4 then ∑ c : Fin 16, val_main_v34 (F := Ideal) x3 x4 x5 x6 x7 (ix3 g p c) * x0 (ix2 ⟨n.val * 8 + i, by omega⟩ ⟨g.val * 16 + c.val, by omega⟩) else 0

/-- and to the imaginary part. -/
def inIm (n : Fin 128) (g : Fin 16) (p : Fin 64) (i : ℕ) : EReal :=
  if h : i < 4 then ∑ c : Fin 16, val_main_v41 (F := Ideal) x3 x4 x5 x6 x7 (ix3 g p c) * x0 (ix2 ⟨n.val * 8 + i, by omega⟩ ⟨g.val * 16 + c.val, by omega⟩) else 0

theorem u_at (n : Fin 128) (t : Fin 4) (g c : Fin 16) : val_main_v42 (F := Ideal) x0 (ix4 n t g c) = x0 (ix2 ⟨n.val * 8 + t.val, by omega⟩ ⟨g.val * 16 + c.val, by omega⟩) := by
  pointwise [val_main_v42, val_main_v1, val_main_v0]

theorem in_re (n : Fin 128) (t : Fin 4) (g : Fin 16) (p : Fin 64) : val_main_v44 (F := Ideal) x0 x3 x4 x5 x6 x7 (ix4 n t g p) = inRe x0 x3 x4 x5 x6 x7 n g p t.val := by
  rw [inRe, dif_pos t.isLt]
  pointwise [val_main_v44, val_main_v43]
  exact Finset.sum_congr rfl fun c _ => congrArg (_ * ·) (u_at x0 n t g c)

theorem in_im (n : Fin 128) (t : Fin 4) (g : Fin 16) (p : Fin 64) : val_main_v46 (F := Ideal) x0 x3 x4 x5 x6 x7 (ix4 n t g p) = inIm x0 x3 x4 x5 x6 x7 n g p t.val := by
  rw [inIm, dif_pos t.isLt]
  pointwise [val_main_v46, val_main_v45]
  exact Finset.sum_congr rfl fun c _ => congrArg (_ * ·) (u_at x0 n t g c)

/-! ## The states -/

/-- State `(n, g, p)` after step `t`. -/
abbrev st (n : Fin 128) (g : Fin 16) (p : Fin 64) (t : ℕ) : EReal × EReal :=
  state (val_main_v10 (F := Ideal) x3 x4 x5 (ix2 g p)) (val_main_v12 (F := Ideal) x3 x4 x5 (ix2 g p)) (x1 (ix3 n g p)) (x2 (ix3 n g p))
    (inRe x0 x3 x4 x5 x6 x7 n g p) (inIm x0 x3 x4 x5 x6 x7 n g p) t

theorem st0_re (n : Fin 128) (g : Fin 16) (p : Fin 64) : val_main_v56 (F := Ideal) x0 x1 x2 x3 x4 x5 x6 x7 (ix3 n g p) = (st x0 x1 x2 x3 x4 x5 x6 x7 n g p 0).1 := by
  pointwise [val_main_v47, val_main_v48, val_main_v49, val_main_v50, val_main_v51, val_main_v52, val_main_v53, val_main_v54, val_main_v55, val_main_v56]
  rw [show val_main_v44 (F := Ideal) x0 x3 x4 x5 x6 x7 (ix4 n 0 g p) = _ from in_re x0 x3 x4 x5 x6 x7 n 0 g p]
  rfl

theorem st0_im (n : Fin 128) (g : Fin 16) (p : Fin 64) : val_main_v66 (F := Ideal) x0 x1 x2 x3 x4 x5 x6 x7 (ix3 n g p) = (st x0 x1 x2 x3 x4 x5 x6 x7 n g p 0).2 := by
  pointwise [val_main_v57, val_main_v58, val_main_v59, val_main_v60, val_main_v61, val_main_v62, val_main_v63, val_main_v64, val_main_v65, val_main_v66]
  rw [show val_main_v46 (F := Ideal) x0 x3 x4 x5 x6 x7 (ix4 n 0 g p) = _ from in_im x0 x3 x4 x5 x6 x7 n 0 g p]
  rfl

theorem st1_re (n : Fin 128) (g : Fin 16) (p : Fin 64) : val_main_v76 (F := Ideal) x0 x1 x2 x3 x4 x5 x6 x7 (ix3 n g p) = (st x0 x1 x2 x3 x4 x5 x6 x7 n g p 1).1 := by
  pointwise [val_main_v67, val_main_v68, val_main_v69, val_main_v70, val_main_v71, val_main_v72, val_main_v73, val_main_v74, val_main_v75, val_main_v76]
  rw [show val_main_v44 (F := Ideal) x0 x3 x4 x5 x6 x7 (ix4 n 1 g p) = _ from in_re x0 x3 x4 x5 x6 x7 n 1 g p, st0_re x0 x1 x2 x3 x4 x5 x6 x7 n g p, st0_im x0 x1 x2 x3 x4 x5 x6 x7 n g p]
  rfl

theorem st1_im (n : Fin 128) (g : Fin 16) (p : Fin 64) : val_main_v86 (F := Ideal) x0 x1 x2 x3 x4 x5 x6 x7 (ix3 n g p) = (st x0 x1 x2 x3 x4 x5 x6 x7 n g p 1).2 := by
  pointwise [val_main_v77, val_main_v78, val_main_v79, val_main_v80, val_main_v81, val_main_v82, val_main_v83, val_main_v84, val_main_v85, val_main_v86]
  rw [show val_main_v46 (F := Ideal) x0 x3 x4 x5 x6 x7 (ix4 n 1 g p) = _ from in_im x0 x3 x4 x5 x6 x7 n 1 g p, st0_re x0 x1 x2 x3 x4 x5 x6 x7 n g p, st0_im x0 x1 x2 x3 x4 x5 x6 x7 n g p]
  rfl

theorem st2_re (n : Fin 128) (g : Fin 16) (p : Fin 64) : val_main_v96 (F := Ideal) x0 x1 x2 x3 x4 x5 x6 x7 (ix3 n g p) = (st x0 x1 x2 x3 x4 x5 x6 x7 n g p 2).1 := by
  pointwise [val_main_v87, val_main_v88, val_main_v89, val_main_v90, val_main_v91, val_main_v92, val_main_v93, val_main_v94, val_main_v95, val_main_v96]
  rw [show val_main_v44 (F := Ideal) x0 x3 x4 x5 x6 x7 (ix4 n 2 g p) = _ from in_re x0 x3 x4 x5 x6 x7 n 2 g p, st1_re x0 x1 x2 x3 x4 x5 x6 x7 n g p, st1_im x0 x1 x2 x3 x4 x5 x6 x7 n g p]
  rfl

theorem st2_im (n : Fin 128) (g : Fin 16) (p : Fin 64) : val_main_v106 (F := Ideal) x0 x1 x2 x3 x4 x5 x6 x7 (ix3 n g p) = (st x0 x1 x2 x3 x4 x5 x6 x7 n g p 2).2 := by
  pointwise [val_main_v97, val_main_v98, val_main_v99, val_main_v100, val_main_v101, val_main_v102, val_main_v103, val_main_v104, val_main_v105, val_main_v106]
  rw [show val_main_v46 (F := Ideal) x0 x3 x4 x5 x6 x7 (ix4 n 2 g p) = _ from in_im x0 x3 x4 x5 x6 x7 n 2 g p, st1_re x0 x1 x2 x3 x4 x5 x6 x7 n g p, st1_im x0 x1 x2 x3 x4 x5 x6 x7 n g p]
  rfl

theorem st3_re (n : Fin 128) (g : Fin 16) (p : Fin 64) : val_main_v116 (F := Ideal) x0 x1 x2 x3 x4 x5 x6 x7 (ix3 n g p) = (st x0 x1 x2 x3 x4 x5 x6 x7 n g p 3).1 := by
  pointwise [val_main_v107, val_main_v108, val_main_v109, val_main_v110, val_main_v111, val_main_v112, val_main_v113, val_main_v114, val_main_v115, val_main_v116]
  rw [show val_main_v44 (F := Ideal) x0 x3 x4 x5 x6 x7 (ix4 n 3 g p) = _ from in_re x0 x3 x4 x5 x6 x7 n 3 g p, st2_re x0 x1 x2 x3 x4 x5 x6 x7 n g p, st2_im x0 x1 x2 x3 x4 x5 x6 x7 n g p]
  rfl

theorem st3_im (n : Fin 128) (g : Fin 16) (p : Fin 64) : val_main_v126 (F := Ideal) x0 x1 x2 x3 x4 x5 x6 x7 (ix3 n g p) = (st x0 x1 x2 x3 x4 x5 x6 x7 n g p 3).2 := by
  pointwise [val_main_v117, val_main_v118, val_main_v119, val_main_v120, val_main_v121, val_main_v122, val_main_v123, val_main_v124, val_main_v125, val_main_v126]
  rw [show val_main_v46 (F := Ideal) x0 x3 x4 x5 x6 x7 (ix4 n 3 g p) = _ from in_im x0 x3 x4 x5 x6 x7 n 3 g p, st2_re x0 x1 x2 x3 x4 x5 x6 x7 n g p, st2_im x0 x1 x2 x3 x4 x5 x6 x7 n g p]
  rfl

theorem states_re (n : Fin 128) (t : Fin 4) (g : Fin 16) (p : Fin 64) : val_main_v131 (F := Ideal) x0 x1 x2 x3 x4 x5 x6 x7 (ix4 n t g p) = (st x0 x1 x2 x3 x4 x5 x6 x7 n g p t.val).1 := by
  have ht : t = 0 ∨ t = 1 ∨ t = 2 ∨ t = 3 := (by decide : ∀ t : Fin 4, t = 0 ∨ t = 1 ∨ t = 2 ∨ t = 3) t
  rcases ht with rfl | rfl | rfl | rfl
  · refine Eq.trans ?_ (st0_re x0 x1 x2 x3 x4 x5 x6 x7 n g p)
    pointwise [val_main_v127, val_main_v128, val_main_v129, val_main_v130, val_main_v131]
  · refine Eq.trans ?_ (st1_re x0 x1 x2 x3 x4 x5 x6 x7 n g p)
    pointwise [val_main_v127, val_main_v128, val_main_v129, val_main_v130, val_main_v131]
  · refine Eq.trans ?_ (st2_re x0 x1 x2 x3 x4 x5 x6 x7 n g p)
    pointwise [val_main_v127, val_main_v128, val_main_v129, val_main_v130, val_main_v131]
  · refine Eq.trans ?_ (st3_re x0 x1 x2 x3 x4 x5 x6 x7 n g p)
    pointwise [val_main_v127, val_main_v128, val_main_v129, val_main_v130, val_main_v131]

theorem states_im (n : Fin 128) (t : Fin 4) (g : Fin 16) (p : Fin 64) : val_main_v138 (F := Ideal) x0 x1 x2 x3 x4 x5 x6 x7 (ix4 n t g p) = (st x0 x1 x2 x3 x4 x5 x6 x7 n g p t.val).2 := by
  have ht : t = 0 ∨ t = 1 ∨ t = 2 ∨ t = 3 := (by decide : ∀ t : Fin 4, t = 0 ∨ t = 1 ∨ t = 2 ∨ t = 3) t
  rcases ht with rfl | rfl | rfl | rfl
  · refine Eq.trans ?_ (st0_im x0 x1 x2 x3 x4 x5 x6 x7 n g p)
    pointwise [val_main_v134, val_main_v135, val_main_v136, val_main_v137, val_main_v138]
  · refine Eq.trans ?_ (st1_im x0 x1 x2 x3 x4 x5 x6 x7 n g p)
    pointwise [val_main_v134, val_main_v135, val_main_v136, val_main_v137, val_main_v138]
  · refine Eq.trans ?_ (st2_im x0 x1 x2 x3 x4 x5 x6 x7 n g p)
    pointwise [val_main_v134, val_main_v135, val_main_v136, val_main_v137, val_main_v138]
  · refine Eq.trans ?_ (st3_im x0 x1 x2 x3 x4 x5 x6 x7 n g p)
    pointwise [val_main_v134, val_main_v135, val_main_v136, val_main_v137, val_main_v138]

/-! ## Readout, gate, and the two results -/

/-- Channel `j` of position `(n, t)` before the gate. -/
def read (n : Fin 128) (t : Fin 4) (j : Fin 256) : EReal :=
  (∑ p : Fin 64, x8 (ix3 ⟨j.val / 16, by omega⟩ ⟨j.val % 16, by omega⟩ p) * (st x0 x1 x2 x3 x4 x5 x6 x7 n ⟨j.val / 16, by omega⟩ p t.val).1
    - ∑ p : Fin 64, x9 (ix3 ⟨j.val / 16, by omega⟩ ⟨j.val % 16, by omega⟩ p) * (st x0 x1 x2 x3 x4 x5 x6 x7 n ⟨j.val / 16, by omega⟩ p t.val).2)
  + x10 (ix1 j) * x0 (ix2 ⟨n.val * 8 + t.val, by omega⟩ ⟨j.val, by omega⟩)

theorem read_at (n : Fin 128) (t : Fin 4) (j : Fin 256) : val_main_v146 (F := Ideal) x0 x1 x2 x3 x4 x5 x6 x7 x8 x9 x10 (ix3 n t j) = read x0 x1 x2 x3 x4 x5 x6 x7 x8 x9 x10 n t j := by
  unfold read
  pointwise [val_main_v139, val_main_v140, val_main_v141, val_main_v142, val_main_v143, val_main_v144, val_main_v145, val_main_v146, val_main_v132, val_main_v133, val_main_v1, val_main_v0]
  simp only [states_re, states_im]

theorem gelu_at (n : Fin 128) (t : Fin 4) (j : Fin 256) : val_main_v159 (F := Ideal) x0 x1 x2 x3 x4 x5 x6 x7 x8 x9 x10 (ix3 n t j) = gelu (read x0 x1 x2 x3 x4 x5 x6 x7 x8 x9 x10 n t j) := by
  pointwise [val_main_v147, val_main_v148, val_main_v149, val_main_v150, val_main_v151, val_main_v152, val_main_v153, val_main_v154, val_main_v155, val_main_v156, val_main_v157, val_main_v158, val_main_v159, val_main_cst_1, val_main_cst_2, val_main_cst_3, val_main_cst_4]
  rw [read_at, mul_comm (_ * _) (read _ _ _ _ _ _ _ _ _ _ _ n t j)]
  rfl

theorem gated_at (n : Fin 128) (t : Fin 4) (j : Fin 256) : val_main_v168 (F := Ideal) x0 x1 x2 x3 x4 x5 x6 x7 x8 x9 x10 x11 x12 (ix3 n t j)
    = gated (fun i => gelu (read x0 x1 x2 x3 x4 x5 x6 x7 x8 x9 x10 n t i)) (fun i => x11 (ix2 i j)) (fun i => x12 (ix2 i j)) := by
  pointwise [val_main_v160, val_main_v161, val_main_v162, val_main_v163, val_main_v164, val_main_v165, val_main_v166, val_main_v167, val_main_v168, val_main_cst_5, val_main_cst_6]
  simp only [gelu_at]
  rfl

theorem out_live (n : Fin 128) (t : Fin 4) (j : Fin 256) (r : Fin 1024) (hr : r.val = n.val * 8 + t.val) :
    val_main_v170 (F := Ideal) x0 x1 x2 x3 x4 x5 x6 x7 x8 x9 x10 x11 x12 (ix2 r j)
      = gated (fun i => gelu (read x0 x1 x2 x3 x4 x5 x6 x7 x8 x9 x10 n t i)) (fun i => x11 (ix2 i j)) (fun i => x12 (ix2 i j)) := by
  rw [← gated_at]
  pointwise [val_main_v170, val_main_v169]
  rw [dif_pos ⟨by omega, by omega⟩]
  exact congrArg _ ((ix3_inj ..).2 ⟨Fin.ext (by dsimp only; omega), Fin.ext (by dsimp only; omega), rfl⟩)

theorem out_dead (j : Fin 256) (r : Fin 1024) (hr : ¬r.val % 8 < 4) : val_main_v170 (F := Ideal) x0 x1 x2 x3 x4 x5 x6 x7 x8 x9 x10 x11 x12 (ix2 r j) = 0 := by
  pointwise [val_main_v170, val_main_v169, val_main_call0_v0, val_main_c]
  rw [dif_neg (show ¬(r.val / 8 < 128 ∧ r.val % 8 < 4) from fun h => hr h.2)]
  simp [FloatOps.sitofp]

theorem final_re (n : Fin 128) (l : Fin 1024) : val_main_v173 (F := Ideal) x0 x1 x2 x3 x4 x5 x6 x7 (ix3 n 0 ⟨l.val, by omega⟩)
    = (st x0 x1 x2 x3 x4 x5 x6 x7 n ⟨l.val / 64, by omega⟩ ⟨l.val % 64, by omega⟩ 3).1 := by
  rw [← st3_re]
  pointwise [val_main_v173, val_main_v171, val_main_v172]

theorem final_im (n : Fin 128) (l : Fin 1024) : val_main_v173 (F := Ideal) x0 x1 x2 x3 x4 x5 x6 x7 (ix3 n 0 ⟨1024 + l.val, by omega⟩)
    = (st x0 x1 x2 x3 x4 x5 x6 x7 n ⟨l.val / 64, by omega⟩ ⟨l.val % 64, by omega⟩ 3).2 := by
  rw [← st3_im]
  pointwise [val_main_v173, val_main_v171, val_main_v172]

end Cert.Scan.Ref
end
-- ==== Proof.ScanReal.lean ====
/- The state-space scan: where the inputs are finite and no pole is zero, every state is a real number. -/
module

public import proofs.«01_k».proof.Proof.ScanRef

@[expose] public section

set_option maxRecDepth 16384

noncomputable section

open Idealize.ShloMosaic Idealize.ShloMosaic.TcCoe Idealize.SL.Sem

namespace Cert.Scan
open Cert.ReferenceScanIdeal Cert.ReferenceScanIdeal.Gen Cert.ReferenceScanIdeal.Read Cert.Swa

/-- The inputs of the recurrence and the imaginary readout are real numbers, and no pole is zero. -/
structure Finite (x0 : FVec Ideal S1024x3072 .f32) (x1 x2 : FVec Ideal S128x16x64 .f32) (x3 x4 : FVec Ideal S16x64 .f32) (x5 : FVec Ideal S16 .f32)
    (x6 x7 : FVec Ideal S16x64x16 .f32) (x9 : FVec Ideal S16x16x64 .f32) : Prop where
  proj : ∀ (n : Fin 128) (t : Fin 4) (i : Fin 256), IsReal (x0 (ix2 ⟨n.val * 8 + t.val, by omega⟩ ⟨i.val, by omega⟩))
  re : ∀ (n : Fin 128) (g : Fin 16) (p : Fin 64), IsReal (x1 (ix3 n g p))
  im : ∀ (n : Fin 128) (g : Fin 16) (p : Fin 64), IsReal (x2 (ix3 n g p))
  poleRe : ∀ (g : Fin 16) (p : Fin 64), IsReal (x3 (ix2 g p))
  poleIm : ∀ (g : Fin 16) (p : Fin 64), IsReal (x4 (ix2 g p))
  step : ∀ g : Fin 16, IsReal (x5 (ix1 g))
  inRe : ∀ (g : Fin 16) (p : Fin 64) (c : Fin 16), IsReal (x6 (ix3 g p c))
  inIm : ∀ (g : Fin 16) (p : Fin 64) (c : Fin 16), IsReal (x7 (ix3 g p c))
  outIm : ∀ (g c : Fin 16) (p : Fin 64), IsReal (x9 (ix3 g c p))
  pole : ∀ (g : Fin 16) (p : Fin 64), x3 (ix2 g p) ≠ 0 ∨ x4 (ix2 g p) ≠ 0

variable {x0 : FVec Ideal S1024x3072 .f32} {x1 x2 : FVec Ideal S128x16x64 .f32} {x3 x4 : FVec Ideal S16x64 .f32} {x5 : FVec Ideal S16 .f32}
  {x6 x7 : FVec Ideal S16x64x16 .f32} {x9 : FVec Ideal S16x16x64 .f32}
variable (hf : Finite x0 x1 x2 x3 x4 x5 x6 x7 x9)
include hf

theorem a_real (g : Fin 16) (p : Fin 64) : IsReal (val_main_v10 (F := Ideal) x3 x4 x5 (ix2 g p)) := by
  have hd : IsReal (Ideal.exp (x5 (ix1 g))) := real_exp (hf.step g)
  have e : val_main_v10 (F := Ideal) x3 x4 x5 (ix2 g p)
      = Ideal.exp (x3 (ix2 g p) * Ideal.exp (x5 (ix1 g))) * Ideal.cos (x4 (ix2 g p) * Ideal.exp (x5 (ix1 g))) := by
    pointwise [val_main_v10, val_main_v9, val_main_v8, val_main_v7, val_main_v6, val_main_v5, val_main_v4, val_main_v3, val_main_v2]
  rw [e]
  exact (real_exp ((hf.poleRe g p).mul hd)).mul (real_cos ((hf.poleIm g p).mul hd))

theorem b_real (g : Fin 16) (p : Fin 64) : IsReal (val_main_v12 (F := Ideal) x3 x4 x5 (ix2 g p)) := by
  have hd : IsReal (Ideal.exp (x5 (ix1 g))) := real_exp (hf.step g)
  have e : val_main_v12 (F := Ideal) x3 x4 x5 (ix2 g p)
      = Ideal.exp (x3 (ix2 g p) * Ideal.exp (x5 (ix1 g))) * Ideal.sin (x4 (ix2 g p) * Ideal.exp (x5 (ix1 g))) := by
    pointwise [val_main_v12, val_main_v11, val_main_v8, val_main_v7, val_main_v6, val_main_v5, val_main_v4, val_main_v3, val_main_v2]
  rw [e]
  exact (real_exp ((hf.poleRe g p).mul hd)).mul (real_sin ((hf.poleIm g p).mul hd))

theorem den_real (g : Fin 16) (p : Fin 64) : IsReal (val_main_v15 (F := Ideal) x3 x4 (ix2 g p)) ∧ val_main_v15 (F := Ideal) x3 x4 (ix2 g p) ≠ 0 :=
  ⟨((hf.poleRe g p).mul (hf.poleRe g p)).add ((hf.poleIm g p).mul (hf.poleIm g p)), norm_ne (hf.poleRe g p) (hf.poleIm g p) (hf.pole g p)⟩

theorem z_re_real (g : Fin 16) (p : Fin 64) : IsReal (val_main_v21 (F := Ideal) x3 x4 x5 (ix2 g p)) := by
  have e : val_main_v21 (F := Ideal) x3 x4 x5 (ix2 g p) = Ideal.div
      ((val_main_v10 (F := Ideal) x3 x4 x5 (ix2 g p) - Ideal.ofBits .f32 0x3F800000#32) * x3 (ix2 g p) + val_main_v12 (F := Ideal) x3 x4 x5 (ix2 g p) * x4 (ix2 g p))
      (val_main_v15 (F := Ideal) x3 x4 (ix2 g p)) := by
    pointwise [val_main_v21, val_main_v20, val_main_v19, val_main_v18, val_main_v17, val_main_v16, val_main_cst]
  rw [e]
  exact real_div ((((a_real hf g p).sub real_one).mul (hf.poleRe g p)).add ((b_real hf g p).mul (hf.poleIm g p))) (den_real hf g p).1 (den_real hf g p).2

theorem z_im_real (g : Fin 16) (p : Fin 64) : IsReal (val_main_v27 (F := Ideal) x3 x4 x5 (ix2 g p)) := by
  have e : val_main_v27 (F := Ideal) x3 x4 x5 (ix2 g p) = Ideal.div
      (val_main_v12 (F := Ideal) x3 x4 x5 (ix2 g p) * x3 (ix2 g p) - (val_main_v10 (F := Ideal) x3 x4 x5 (ix2 g p) - Ideal.ofBits .f32 0x3F800000#32) * x4 (ix2 g p))
      (val_main_v15 (F := Ideal) x3 x4 (ix2 g p)) := by
    pointwise [val_main_v27, val_main_v26, val_main_v25, val_main_v24, val_main_v23, val_main_v22, val_main_cst_0]
  rw [e]
  exact real_div (((b_real hf g p).mul (hf.poleRe g p)).sub (((a_real hf g p).sub real_one).mul (hf.poleIm g p))) (den_real hf g p).1 (den_real hf g p).2

theorem bb_re_real (g : Fin 16) (p : Fin 64) (c : Fin 16) : IsReal (val_main_v34 (F := Ideal) x3 x4 x5 x6 x7 (ix3 g p c)) := by
  have e : val_main_v34 (F := Ideal) x3 x4 x5 x6 x7 (ix3 g p c)
      = val_main_v21 (F := Ideal) x3 x4 x5 (ix2 g p) * x6 (ix3 g p c) - val_main_v27 (F := Ideal) x3 x4 x5 (ix2 g p) * x7 (ix3 g p c) := by
    pointwise [val_main_v34, val_main_v33, val_main_v32, val_main_v31, val_main_v30, val_main_v29, val_main_v28]
  rw [e]
  exact ((z_re_real hf g p).mul (hf.inRe g p c)).sub ((z_im_real hf g p).mul (hf.inIm g p c))

theorem bb_im_real (g : Fin 16) (p : Fin 64) (c : Fin 16) : IsReal (val_main_v41 (F := Ideal) x3 x4 x5 x6 x7 (ix3 g p c)) := by
  have e : val_main_v41 (F := Ideal) x3 x4 x5 x6 x7 (ix3 g p c)
      = val_main_v21 (F := Ideal) x3 x4 x5 (ix2 g p) * x7 (ix3 g p c) + val_main_v27 (F := Ideal) x3 x4 x5 (ix2 g p) * x6 (ix3 g p c) := by
    pointwise [val_main_v41, val_main_v40, val_main_v39, val_main_v38, val_main_v37, val_main_v36, val_main_v35]
  rw [e]
  exact ((z_re_real hf g p).mul (hf.inIm g p c)).add ((z_im_real hf g p).mul (hf.inRe g p c))

theorem inRe_real (n : Fin 128) (g : Fin 16) (p : Fin 64) (i : ℕ) (hi : i < 4) : IsReal (Ref.inRe x0 x3 x4 x5 x6 x7 n g p i) := by
  rw [Ref.inRe, dif_pos hi]
  exact isReal_sum _ fun c => (bb_re_real hf g p c).mul (hf.proj n ⟨i, hi⟩ ⟨g.val * 16 + c.val, by omega⟩)

theorem inIm_real (n : Fin 128) (g : Fin 16) (p : Fin 64) (i : ℕ) (hi : i < 4) : IsReal (Ref.inIm x0 x3 x4 x5 x6 x7 n g p i) := by
  rw [Ref.inIm, dif_pos hi]
  exact isReal_sum _ fun c => (bb_im_real hf g p c).mul (hf.proj n ⟨i, hi⟩ ⟨g.val * 16 + c.val, by omega⟩)

theorem st_real (n : Fin 128) (g : Fin 16) (p : Fin 64) (t : ℕ) (ht : t < 4) :
    IsReal (Ref.st x0 x1 x2 x3 x4 x5 x6 x7 n g p t).1 ∧ IsReal (Ref.st x0 x1 x2 x3 x4 x5 x6 x7 n g p t).2 :=
  state_real (a_real hf g p) (b_real hf g p) (hf.re n g p) (hf.im n g p) t
    (fun i hi => inRe_real hf n g p i (by omega)) (fun i hi => inIm_real hf n g p i (by omega))

end Cert.Scan
end
-- ==== Proof.ScanPoint.lean ====
/- The state-space scan: one grid point, from what its blocks hold to the rows of the reference. -/
module

public import proofs.«01_k».proof.Proof.ScanReal

@[expose] public section

set_option maxRecDepth 16384

noncomputable section

open Idealize.ShloMosaic Idealize.ShloMosaic.TcCoe Idealize.SL.Sem

namespace Cert.Scan
open Cert.KernelScanIdeal Cert.KernelScanIdeal.Gen Cert.KernelScanIdeal.Scan Cert.Swa
open Cert.ReferenceScanIdeal.Read (val_main_v10 val_main_v12 val_main_v34 val_main_v41 val_main_v170 val_main_v173)

/-! ## The rows a trip loads -/

theorem ld_A (x : Vec Ideal S128x2048 .f32) (k : Fin k0_t1_loop.trips) (hk : k.val < 16) (r : Fin 8) (l : Fin 1024) :
    (View.ld x (rowA k) : Vec Ideal S8x1024 .f32) (ix2 r l) = x (ix2 ⟨k.val * 8 + r.val, by omega⟩ ⟨l.val, by omega⟩) := by
  have h : (rowA k).emb (ix2 r l) = ix2 ⟨k.val * 8 + r.val, by omega⟩ ⟨l.val, by omega⟩ := funext fun a => Fin.ext <| by
    show (k0_off1 k) a + 1 * (ix2 r l a).val = _
    rw [k0_off1_eq]
    match a with
    | ⟨0, _⟩ => show 8 * k.val + 1 * r.val = k.val * 8 + r.val; omega
    | ⟨1, _⟩ => show 0 + 1 * l.val = l.val; omega
  exact congrArg x h

theorem ld_B (x : Vec Ideal S128x2048 .f32) (k : Fin k0_t1_loop.trips) (hk : k.val < 16) (r : Fin 8) (l : Fin 1024) :
    (View.ld x (rowB k) : Vec Ideal S8x1024 .f32) (ix2 r l) = x (ix2 ⟨k.val * 8 + r.val, by omega⟩ ⟨1024 + l.val, by omega⟩) := by
  have h : (rowB k).emb (ix2 r l) = ix2 ⟨k.val * 8 + r.val, by omega⟩ ⟨1024 + l.val, by omega⟩ := funext fun a => Fin.ext <| by
    show (k0_off2 k) a + 1 * (ix2 r l a).val = _
    rw [k0_off2_eq]
    match a with
    | ⟨0, _⟩ => show 8 * k.val + 1 * r.val = k.val * 8 + r.val; omega
    | ⟨1, _⟩ => show 1024 + 1 * l.val = 1024 + l.val; omega
  exact congrArg x h

theorem ld_S (x : Vec Ideal S16x1x2048 .f32) (k : Fin k0_t1_loop.trips) (hk : k.val < 16) (j : Fin 2048) :
    (View.ld x (rowS k) : Vec Ideal S1x1x2048 .f32) (ix3 0 0 j) = x (ix3 ⟨k.val, hk⟩ 0 j) := by
  have h : (rowS k).emb (ix3 0 0 j) = ix3 ⟨k.val, hk⟩ 0 j := funext fun a => Fin.ext <| by
    show (k0_off3 k) a + 1 * (ix3 (0 : Fin 1) (0 : Fin 1) j a).val = _
    rw [k0_off3_eq]
    match a with
    | ⟨0, _⟩ => show k.val + 1 * 0 = k.val; omega
    | ⟨1, _⟩ => show 0 + 1 * 0 = 0; omega
    | ⟨2, _⟩ => show 0 + 1 * j.val = j.val; omega
  exact congrArg x h

theorem states_lo (s : Vec Ideal S128x2048 .f32) (h : Vec Ideal S16x1x2048 .f32) (x9 : Vec Ideal S6x8x1024 .f32) (x10 : Vec Ideal S2x8x1024 .f32)
    (k : Fin k0_t1_loop.trips) (r : Fin 128) (t : Fin 8) (hr : r.val = k.val * 8 + t.val) (l : Fin 1024) :
    states s h x9 x10 (ix2 r ⟨l.val, by omega⟩) = newA (View.ld s (rowA k)) (View.ld s (rowB k)) x9 x10 (View.ld h (rowS k)) (ix2 t l) := by
  obtain ⟨kv, hkv⟩ := k
  obtain ⟨tv, htv⟩ := t
  dsimp only at hr
  have e1 : kv = r.val / 8 := by omega
  have e2 : tv = r.val % 8 := by omega
  subst e1 e2
  exact dif_pos l.isLt

theorem states_hi (s : Vec Ideal S128x2048 .f32) (h : Vec Ideal S16x1x2048 .f32) (x9 : Vec Ideal S6x8x1024 .f32) (x10 : Vec Ideal S2x8x1024 .f32)
    (k : Fin k0_t1_loop.trips) (r : Fin 128) (t : Fin 8) (hr : r.val = k.val * 8 + t.val) (l : Fin 1024) :
    states s h x9 x10 (ix2 r ⟨1024 + l.val, by omega⟩) = newB (View.ld s (rowA k)) (View.ld s (rowB k)) x9 x10 (View.ld h (rowS k)) (ix2 t l) := by
  obtain ⟨kv, hkv⟩ := k
  obtain ⟨tv, htv⟩ := t
  dsimp only at hr
  have e1 : kv = r.val / 8 := by omega
  have e2 : tv = r.val % 8 := by omega
  subst e1 e2
  refine (dif_neg (show ¬1024 + l.val < 1024 by omega)).trans ?_
  exact congrArg _ ((ix2_inj ..).2 ⟨rfl, Fin.ext (show 1024 + l.val - 1024 = l.val by omega)⟩)

theorem sum_halves (f : Fin 2048 → EReal) : ∑ i, f i = ∑ l : Fin 1024, f ⟨l.val, by omega⟩ + ∑ l : Fin 1024, f ⟨1024 + l.val, by omega⟩ :=
  Fin.sum_univ_add (a := 1024) (b := 1024) f

/-! ## What the blocks of a point hold -/

section point
variable (x0 : FVec Ideal S1024x3072 .f32) (x1 x2 : FVec Ideal S128x16x64 .f32) (x3 x4 : FVec Ideal S16x64 .f32) (x5 : FVec Ideal S16 .f32)
  (x6 x7 : FVec Ideal S16x64x16 .f32) (x8 x9 : FVec Ideal S16x16x64 .f32) (x10 : FVec Ideal S256 .f32) (x11 x12 : FVec Ideal S256x256 .f32)

/-- Point `T` holds rows `128 T` to `128 T + 127` of the inputs and the sixteen states from `16 T`; the two matrices are block diagonal. -/
structure Point (T : ℕ) (hT : T < 8) (u : FVec Ideal S128x256 .f32) (h : FVec Ideal S16x1x2048 .f32) (bm : FVec Ideal S256x2048 .bf16)
    (cm : FVec Ideal S2048x256 .bf16) (d : FVec Ideal S1x256 .f32) (w1 w2 : FVec Ideal S256x256 .bf16) (hs : FVec Ideal S6x8x1024 .f32)
    (cp : FVec Ideal S2x8x1024 .f32) : Prop where
  input : ∀ (r : Fin 128) (i : Fin 256), u (ix2 r i) = x0 (ix2 ⟨T * 128 + r.val, by omega⟩ ⟨i.val, by omega⟩)
  re : ∀ (k : Fin 16) (l : Fin 1024), h (ix3 k 0 ⟨l.val, by omega⟩) = x1 (ix3 ⟨T * 16 + k.val, by omega⟩ ⟨l.val / 64, by omega⟩ ⟨l.val % 64, by omega⟩)
  im : ∀ (k : Fin 16) (l : Fin 1024), h (ix3 k 0 ⟨1024 + l.val, by omega⟩) = x2 (ix3 ⟨T * 16 + k.val, by omega⟩ ⟨l.val / 64, by omega⟩ ⟨l.val % 64, by omega⟩)
  inRe : ∀ (j : Fin 256) (l : Fin 1024), bm (ix2 j ⟨l.val, by omega⟩)
    = val_main_v34 (F := Ideal) x3 x4 x5 x6 x7 (ix3 ⟨j.val / 16, by omega⟩ ⟨l.val % 64, by omega⟩ ⟨j.val % 16, by omega⟩) * (if j.val / 16 = l.val / 64 then (1 : EReal) else 0)
  inIm : ∀ (j : Fin 256) (l : Fin 1024), bm (ix2 j ⟨1024 + l.val, by omega⟩)
    = val_main_v41 (F := Ideal) x3 x4 x5 x6 x7 (ix3 ⟨j.val / 16, by omega⟩ ⟨l.val % 64, by omega⟩ ⟨j.val % 16, by omega⟩) * (if j.val / 16 = l.val / 64 then (1 : EReal) else 0)
  outRe : ∀ (l : Fin 1024) (j : Fin 256), cm (ix2 ⟨l.val, by omega⟩ j)
    = x8 (ix3 ⟨l.val / 64, by omega⟩ ⟨j.val % 16, by omega⟩ ⟨l.val % 64, by omega⟩) * (if l.val / 64 = j.val / 16 then (1 : EReal) else 0)
  outIm : ∀ (l : Fin 1024) (j : Fin 256), cm (ix2 ⟨1024 + l.val, by omega⟩ j)
    = -(x9 (ix3 ⟨l.val / 64, by omega⟩ ⟨j.val % 16, by omega⟩ ⟨l.val % 64, by omega⟩) * (if l.val / 64 = j.val / 16 then (1 : EReal) else 0))
  skip : ∀ j : Fin 256, d (ix2 0 j) = x10 (ix1 j)
  gate1 : ∀ i j : Fin 256, w1 (ix2 i j) = x11 (ix2 i j)
  gate2 : ∀ i j : Fin 256, w2 (ix2 i j) = x12 (ix2 i j)
  factors : ∀ l : Fin 1024, Factors hs cp l (val_main_v10 (F := Ideal) x3 x4 x5 (ix2 ⟨l.val / 64, by omega⟩ ⟨l.val % 64, by omega⟩))
    (val_main_v12 (F := Ideal) x3 x4 x5 (ix2 ⟨l.val / 64, by omega⟩ ⟨l.val % 64, by omega⟩))

variable {x0 x1 x2 x3 x4 x5 x6 x7 x8 x9 x10 x11 x12}
variable {T : ℕ} {hT : T < 8} {u : FVec Ideal S128x256 .f32} {h : FVec Ideal S16x1x2048 .f32} {bm : FVec Ideal S256x2048 .bf16}
    {cm : FVec Ideal S2048x256 .bf16} {d : FVec Ideal S1x256 .f32} {w1 w2 : FVec Ideal S256x256 .bf16} {hs : FVec Ideal S6x8x1024 .f32}
    {cp : FVec Ideal S2x8x1024 .f32}
variable (hp : Point x0 x1 x2 x3 x4 x5 x6 x7 x8 x9 x10 x11 x12 T hT u h bm cm d w1 w2 hs cp)
include hp

theorem input_re (k : Fin 16) (n : Fin 128) (hn : n.val = T * 16 + k.val) (t : Fin 8) (ht : t.val < 4) (l : Fin 1024) :
    k0_pay26 (F := Ideal) u bm (ix2 ⟨k.val * 8 + t.val, by omega⟩ ⟨l.val, by omega⟩)
      = Ref.inRe x0 x3 x4 x5 x6 x7 n ⟨l.val / 64, by omega⟩ ⟨l.val % 64, by omega⟩ t.val := by
  rw [input_at, Ref.inRe, dif_pos ht]
  refine (Finset.sum_congr rfl fun i _ => congrArg (fun z : EReal => (u (ix2 _ i) : EReal) * z) (hp.inRe i l)).trans ?_
  refine (sum_block16 (fun i => u (ix2 _ i)) (fun i => val_main_v34 (F := Ideal) x3 x4 x5 x6 x7 (ix3 ⟨i.val / 16, by omega⟩ ⟨l.val % 64, by omega⟩ ⟨i.val % 16, by omega⟩))
    ⟨l.val / 64, by omega⟩).trans ?_
  refine Finset.sum_congr rfl fun c _ => ?_
  rw [mul_comm]
  refine congrArg₂ (fun a b : EReal => a * b) (congrArg _ ((ix3_inj ..).2 ⟨Fin.ext ?_, rfl, Fin.ext ?_⟩))
    ((hp.input _ _).trans (congrArg x0 ((ix2_inj ..).2 ⟨Fin.ext ?_, rfl⟩)))
  all_goals dsimp only; omega

theorem input_im (k : Fin 16) (n : Fin 128) (hn : n.val = T * 16 + k.val) (t : Fin 8) (ht : t.val < 4) (l : Fin 1024) :
    k0_pay26 (F := Ideal) u bm (ix2 ⟨k.val * 8 + t.val, by omega⟩ ⟨1024 + l.val, by omega⟩)
      = Ref.inIm x0 x3 x4 x5 x6 x7 n ⟨l.val / 64, by omega⟩ ⟨l.val % 64, by omega⟩ t.val := by
  rw [input_at, Ref.inIm, dif_pos ht]
  refine (Finset.sum_congr rfl fun i _ => congrArg (fun z : EReal => (u (ix2 _ i) : EReal) * z) (hp.inIm i l)).trans ?_
  refine (sum_block16 (fun i => u (ix2 _ i)) (fun i => val_main_v41 (F := Ideal) x3 x4 x5 x6 x7 (ix3 ⟨i.val / 16, by omega⟩ ⟨l.val % 64, by omega⟩ ⟨i.val % 16, by omega⟩))
    ⟨l.val / 64, by omega⟩).trans ?_
  refine Finset.sum_congr rfl fun c _ => ?_
  rw [mul_comm]
  refine congrArg₂ (fun a b : EReal => a * b) (congrArg _ ((ix3_inj ..).2 ⟨Fin.ext ?_, rfl, Fin.ext ?_⟩))
    ((hp.input _ _).trans (congrArg x0 ((ix2_inj ..).2 ⟨Fin.ext ?_, rfl⟩)))
  all_goals dsimp only; omega

variable (hf : Finite x0 x1 x2 x3 x4 x5 x6 x7 x9)
include hf

theorem trip_re (k : Fin k0_t1_loop.trips) (hk : k.val < 16) (n : Fin 128) (hn : n.val = T * 16 + k.val) (t : Fin 8) (ht : t.val < 4) (l : Fin 1024) :
    newA (F := Ideal) (View.ld (k0_pay26 (F := Ideal) u bm) (rowA k)) (View.ld (k0_pay26 (F := Ideal) u bm) (rowB k)) hs cp (View.ld h (rowS k)) (ix2 t l)
      = (Ref.st x0 x1 x2 x3 x4 x5 x6 x7 n ⟨l.val / 64, by omega⟩ ⟨l.val % 64, by omega⟩ t.val).1 := by
  have en : (⟨T * 16 + k.val, by omega⟩ : Fin 128) = n := Fin.ext hn.symm
  have ha : ∀ t : Fin 8, t.val < 4 → (View.ld (k0_pay26 (F := Ideal) u bm) (rowA k) : Vec Ideal S8x1024 .f32) (ix2 t l)
      = Ref.inRe x0 x3 x4 x5 x6 x7 n ⟨l.val / 64, by omega⟩ ⟨l.val % 64, by omega⟩ t.val :=
    fun t ht => (ld_A _ k hk t l).trans (input_re hp ⟨k.val, hk⟩ n hn t ht l)
  have hb : ∀ t : Fin 8, t.val < 4 → (View.ld (k0_pay26 (F := Ideal) u bm) (rowB k) : Vec Ideal S8x1024 .f32) (ix2 t l)
      = Ref.inIm x0 x3 x4 x5 x6 x7 n ⟨l.val / 64, by omega⟩ ⟨l.val % 64, by omega⟩ t.val :=
    fun t ht => (ld_B _ k hk t l).trans (input_im hp ⟨k.val, hk⟩ n hn t ht l)
  have hh : ∀ j : Fin 2048, j.val = l.val → (View.ld h (rowS k) : Vec Ideal S1x1x2048 .f32) (ix3 0 0 j) = x1 (ix3 n ⟨l.val / 64, by omega⟩ ⟨l.val % 64, by omega⟩) :=
    fun j hj => by
      have e : j = ⟨l.val, by omega⟩ := Fin.ext hj
      rw [e]
      exact (ld_S _ k hk _).trans ((hp.re ⟨k.val, hk⟩ l).trans (congrArg x1 ((ix3_inj ..).2 ⟨en, rfl, rfl⟩)))
  have hi : ∀ j : Fin 2048, j.val = 1024 + l.val → (View.ld h (rowS k) : Vec Ideal S1x1x2048 .f32) (ix3 0 0 j) = x2 (ix3 n ⟨l.val / 64, by omega⟩ ⟨l.val % 64, by omega⟩) :=
    fun j hj => by
      have e : j = ⟨1024 + l.val, by omega⟩ := Fin.ext hj
      rw [e]
      exact (ld_S _ k hk _).trans ((hp.im ⟨k.val, hk⟩ l).trans (congrArg x2 ((ix3_inj ..).2 ⟨en, rfl, rfl⟩)))
  exact newA_at (hp.factors l) (a_real hf _ _) (b_real hf _ _) (hf.re n _ _) (hf.im n _ _)
    (inRe_real hf n _ _) (inIm_real hf n _ _) ha hb hh hi t ht

theorem trip_im (k : Fin k0_t1_loop.trips) (hk : k.val < 16) (n : Fin 128) (hn : n.val = T * 16 + k.val) (t : Fin 8) (ht : t.val < 4) (l : Fin 1024) :
    newB (F := Ideal) (View.ld (k0_pay26 (F := Ideal) u bm) (rowA k)) (View.ld (k0_pay26 (F := Ideal) u bm) (rowB k)) hs cp (View.ld h (rowS k)) (ix2 t l)
      = (Ref.st x0 x1 x2 x3 x4 x5 x6 x7 n ⟨l.val / 64, by omega⟩ ⟨l.val % 64, by omega⟩ t.val).2 := by
  have en : (⟨T * 16 + k.val, by omega⟩ : Fin 128) = n := Fin.ext hn.symm
  have ha : ∀ t : Fin 8, t.val < 4 → (View.ld (k0_pay26 (F := Ideal) u bm) (rowA k) : Vec Ideal S8x1024 .f32) (ix2 t l)
      = Ref.inRe x0 x3 x4 x5 x6 x7 n ⟨l.val / 64, by omega⟩ ⟨l.val % 64, by omega⟩ t.val :=
    fun t ht => (ld_A _ k hk t l).trans (input_re hp ⟨k.val, hk⟩ n hn t ht l)
  have hb : ∀ t : Fin 8, t.val < 4 → (View.ld (k0_pay26 (F := Ideal) u bm) (rowB k) : Vec Ideal S8x1024 .f32) (ix2 t l)
      = Ref.inIm x0 x3 x4 x5 x6 x7 n ⟨l.val / 64, by omega⟩ ⟨l.val % 64, by omega⟩ t.val :=
    fun t ht => (ld_B _ k hk t l).trans (input_im hp ⟨k.val, hk⟩ n hn t ht l)
  have hh : ∀ j : Fin 2048, j.val = l.val → (View.ld h (rowS k) : Vec Ideal S1x1x2048 .f32) (ix3 0 0 j) = x1 (ix3 n ⟨l.val / 64, by omega⟩ ⟨l.val % 64, by omega⟩) :=
    fun j hj => by
      have e : j = ⟨l.val, by omega⟩ := Fin.ext hj
      rw [e]
      exact (ld_S _ k hk _).trans ((hp.re ⟨k.val, hk⟩ l).trans (congrArg x1 ((ix3_inj ..).2 ⟨en, rfl, rfl⟩)))
  have hi : ∀ j : Fin 2048, j.val = 1024 + l.val → (View.ld h (rowS k) : Vec Ideal S1x1x2048 .f32) (ix3 0 0 j) = x2 (ix3 n ⟨l.val / 64, by omega⟩ ⟨l.val % 64, by omega⟩) :=
    fun j hj => by
      have e : j = ⟨1024 + l.val, by omega⟩ := Fin.ext hj
      rw [e]
      exact (ld_S _ k hk _).trans ((hp.im ⟨k.val, hk⟩ l).trans (congrArg x2 ((ix3_inj ..).2 ⟨en, rfl, rfl⟩)))
  exact newB_at (hp.factors l) (a_real hf _ _) (b_real hf _ _) (hf.re n _ _) (hf.im n _ _)
    (inRe_real hf n _ _) (inIm_real hf n _ _) ha hb hh hi t ht

/-- A row in use before the gate is the reference's. -/
theorem readout_eq (n : Fin 128) (t : Fin 4) (r : Fin 128) (hn : n.val = T * 16 + r.val / 8) (ht : t.val = r.val % 8) (j : Fin 256) :
    k0_pay33 (F := Ideal) u (states (F := Ideal) (k0_pay26 (F := Ideal) u bm) h hs cp) cm d (ix2 r j) = Ref.read x0 x1 x2 x3 x4 x5 x6 x7 x8 x9 x10 n t j := by
  have hk : r.val / 8 < k0_t1_loop.trips := by rw [trips_eq]; omega
  have lo : ∀ l : Fin 1024, states (k0_pay26 (F := Ideal) u bm) h hs cp (ix2 r ⟨l.val, by omega⟩)
      = (Ref.st x0 x1 x2 x3 x4 x5 x6 x7 n ⟨l.val / 64, by omega⟩ ⟨l.val % 64, by omega⟩ t.val).1 := fun l =>
    (states_lo _ _ _ _ ⟨r.val / 8, hk⟩ r ⟨t.val, by omega⟩ (by dsimp only; omega) l).trans
      (trip_re hp hf ⟨r.val / 8, hk⟩ (by dsimp only; omega) n hn ⟨t.val, by omega⟩ t.isLt l)
  have hi : ∀ l : Fin 1024, states (k0_pay26 (F := Ideal) u bm) h hs cp (ix2 r ⟨1024 + l.val, by omega⟩)
      = (Ref.st x0 x1 x2 x3 x4 x5 x6 x7 n ⟨l.val / 64, by omega⟩ ⟨l.val % 64, by omega⟩ t.val).2 := fun l =>
    (states_hi _ _ _ _ ⟨r.val / 8, hk⟩ r ⟨t.val, by omega⟩ (by dsimp only; omega) l).trans
      (trip_im hp hf ⟨r.val / 8, hk⟩ (by dsimp only; omega) n hn ⟨t.val, by omega⟩ t.isLt l)
  have hg : ∀ p : Fin 64, (⟨(j.val / 16 * 64 + p.val) / 64, by omega⟩ : Fin 16) = ⟨j.val / 16, by omega⟩ := fun p => Fin.ext (by dsimp only; omega)
  have hq : ∀ p : Fin 64, (⟨(j.val / 16 * 64 + p.val) % 64, by omega⟩ : Fin 64) = p := fun p => Fin.ext (by dsimp only; omega)
  have s1 : ∑ l : Fin 1024, (states (F := Ideal) (k0_pay26 (F := Ideal) u bm) h hs cp (ix2 r ⟨l.val, by omega⟩) : EReal) * cm (ix2 ⟨l.val, by omega⟩ j)
      = ∑ p : Fin 64, x8 (ix3 ⟨j.val / 16, by omega⟩ ⟨j.val % 16, by omega⟩ p) * (Ref.st x0 x1 x2 x3 x4 x5 x6 x7 n ⟨j.val / 16, by omega⟩ p t.val).1 := by
    refine (Finset.sum_congr rfl fun l _ => congrArg₂ (fun a b : EReal => a * b) (lo l) (hp.outRe l j)).trans ?_
    refine (sum_block64 (fun l => (Ref.st x0 x1 x2 x3 x4 x5 x6 x7 n ⟨l.val / 64, by omega⟩ ⟨l.val % 64, by omega⟩ t.val).1)
      (fun l => x8 (ix3 ⟨l.val / 64, by omega⟩ ⟨j.val % 16, by omega⟩ ⟨l.val % 64, by omega⟩)) ⟨j.val / 16, by omega⟩).trans ?_
    refine Finset.sum_congr rfl fun p _ => ?_
    rw [mul_comm]
    exact congrArg₂ (fun a b : EReal => a * b) (congrArg x8 ((ix3_inj ..).2 ⟨hg p, rfl, hq p⟩))
      (congrArg₂ (fun a b => (Ref.st x0 x1 x2 x3 x4 x5 x6 x7 n a b t.val).1) (hg p) (hq p))
  have s2 : ∑ l : Fin 1024, (states (F := Ideal) (k0_pay26 (F := Ideal) u bm) h hs cp (ix2 r ⟨1024 + l.val, by omega⟩) : EReal) * cm (ix2 ⟨1024 + l.val, by omega⟩ j)
      = -∑ p : Fin 64, x9 (ix3 ⟨j.val / 16, by omega⟩ ⟨j.val % 16, by omega⟩ p) * (Ref.st x0 x1 x2 x3 x4 x5 x6 x7 n ⟨j.val / 16, by omega⟩ p t.val).2 := by
    refine (Finset.sum_congr rfl fun l _ => congrArg₂ (fun a b : EReal => a * b) (hi l) (hp.outIm l j)).trans ?_
    refine (sum_block64_neg (fun l => (Ref.st x0 x1 x2 x3 x4 x5 x6 x7 n ⟨l.val / 64, by omega⟩ ⟨l.val % 64, by omega⟩ t.val).2)
      (fun l => x9 (ix3 ⟨l.val / 64, by omega⟩ ⟨j.val % 16, by omega⟩ ⟨l.val % 64, by omega⟩)) ⟨j.val / 16, by omega⟩
      (fun l => (st_real hf n _ _ t.val t.isLt).2) (fun l => hf.outIm _ _ _)).trans ?_
    refine congrArg (fun z : EReal => -z) (Finset.sum_congr rfl fun p _ => ?_)
    rw [mul_comm]
    exact congrArg₂ (fun a b : EReal => a * b) (congrArg x9 ((ix3_inj ..).2 ⟨hg p, rfl, hq p⟩))
      (congrArg₂ (fun a b => (Ref.st x0 x1 x2 x3 x4 x5 x6 x7 n a b t.val).2) (hg p) (hq p))
  rw [readout_at, Ref.read, sum_halves, s1, s2, sub_eq_add_neg]
  refine congrArg₂ (fun a b : EReal => _ + a * b) (hp.skip j) ((hp.input r j).trans (congrArg x0 ((ix2_inj ..).2 ⟨Fin.ext ?_, rfl⟩)))
  dsimp only; omega

/-- The output rows of a point. -/
theorem outY_eq (r : Fin 128) (j : Fin 256) : outY (F := Ideal) u h bm cm d w1 w2 hs cp (ix2 r j)
    = val_main_v170 (F := Ideal) x0 x1 x2 x3 x4 x5 x6 x7 x8 x9 x10 x11 x12 (ix2 ⟨T * 128 + r.val, by omega⟩ j) := by
  refine (out_at _ _ _ _ _ _ r j).trans ?_
  split_ifs with hr
  · refine Eq.trans ?_ (Ref.out_live x0 x1 x2 x3 x4 x5 x6 x7 x8 x9 x10 x11 x12 ⟨T * 16 + r.val / 8, by omega⟩ ⟨r.val % 8, hr⟩ j ⟨T * 128 + r.val, by omega⟩
      (by dsimp only; omega)).symm
    unfold gated
    refine congrArg₂ (fun a b : EReal => a * Ideal.logistic b) (Finset.sum_congr rfl fun i _ => ?_) (Finset.sum_congr rfl fun i _ => ?_)
    · exact congrArg₂ (fun a b : EReal => gelu a * b) (readout_eq hp hf ⟨T * 16 + r.val / 8, by omega⟩ ⟨r.val % 8, hr⟩ r rfl rfl i) (hp.gate1 i j)
    · exact congrArg₂ (fun a b : EReal => gelu a * b) (readout_eq hp hf ⟨T * 16 + r.val / 8, by omega⟩ ⟨r.val % 8, hr⟩ r rfl rfl i) (hp.gate2 i j)
  · exact (Ref.out_dead x0 x1 x2 x3 x4 x5 x6 x7 x8 x9 x10 x11 x12 j ⟨T * 128 + r.val, by omega⟩ (by dsimp only; omega)).symm

/-- The states of a point after the fourth step. -/
theorem outH_eq (k : Fin 16) (j : Fin 2048) : outH (F := Ideal) u h bm hs cp (ix3 k 0 j)
    = val_main_v173 (F := Ideal) x0 x1 x2 x3 x4 x5 x6 x7 (ix3 ⟨T * 16 + k.val, by omega⟩ 0 j) := by
  have hk : k.val < k0_t1_loop.trips := by rw [trips_eq]; exact k.isLt
  by_cases hj : j.val < 1024
  · refine Eq.trans ?_ (Ref.final_re x0 x1 x2 x3 x4 x5 x6 x7 ⟨T * 16 + k.val, by omega⟩ ⟨j.val, hj⟩).symm
    exact (newF_re (l := ⟨j.val, hj⟩) j rfl).trans (trip_re hp hf ⟨k.val, hk⟩ k.isLt ⟨T * 16 + k.val, by omega⟩ rfl 3 (by decide) ⟨j.val, hj⟩)
  · have ej : j = ⟨1024 + (j.val - 1024), by omega⟩ := Fin.ext (by dsimp only; omega)
    rw [ej]
    refine Eq.trans ?_ (Ref.final_im x0 x1 x2 x3 x4 x5 x6 x7 ⟨T * 16 + k.val, by omega⟩ ⟨j.val - 1024, by omega⟩).symm
    exact (newF_im (l := ⟨j.val - 1024, by omega⟩) _ rfl).trans
      (trip_im hp hf ⟨k.val, hk⟩ k.isLt ⟨T * 16 + k.val, by omega⟩ rfl 3 (by decide) ⟨j.val - 1024, by omega⟩)

end point

end Cert.Scan
end
-- ==== Proof.Scan.lean ====
/- The state-space scan: the two arrays the kernel leaves are the reference's. -/
module

public import proofs.«01_k».proof.Proof.ScanHost
public import proofs.«01_k».proof.Proof.ScanPoint

@[expose] public section

set_option maxRecDepth 16384

noncomputable section

open Idealize.ShloMosaic Idealize.ShloMosaic.TcCoe Idealize.SL.Sem

namespace Cert.Scan
open Cert.KernelScanIdeal Cert.KernelScanIdeal.Gen Cert.KernelScanIdeal.Scan Cert.Swa
open Cert.ReferenceScanIdeal.Read (val_main_v10 val_main_v12 val_main_v34 val_main_v41 val_main_v170 val_main_v173)

theorem idx : ∀ t : Fin cfg0.N, win0_0.index t = ![t.val, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0, 0] ∧ win0_9.index t = ![t.val, 0] ∧ win0_10.index t = ![t.val, 0, 0] :=
  (by decide +kernel : ∀ t : Fin grid0.N, _)

theorem hs0_at (x : Vec Ideal S6x8x1024 .f32) (r : Fin 8) (l : Fin 1024) : hs0 x (ix3 0 r l) = x (ix3 0 r l) := by
  have h : (Rect.unit (s := S6x8x1024) ![0, 0, 0] S1x8x1024.size inb_S6x8x1024_S1x8x1024_0_0_0).emb (ix3 (0 : Fin 1) r l) = ix3 (0 : Fin 6) r l := by idx_ext
  exact congrArg x h
theorem hs1_at (x : Vec Ideal S6x8x1024 .f32) (r : Fin 8) (l : Fin 1024) : hs1 x (ix3 0 r l) = x (ix3 1 r l) := by
  have h : (Rect.unit (s := S6x8x1024) ![1, 0, 0] S1x8x1024.size inb_S6x8x1024_S1x8x1024_1_0_0).emb (ix3 (0 : Fin 1) r l) = ix3 (1 : Fin 6) r l := by idx_ext
  exact congrArg x h
theorem hs2_at (x : Vec Ideal S6x8x1024 .f32) (r : Fin 8) (l : Fin 1024) : hs2 x (ix3 0 r l) = x (ix3 2 r l) := by
  have h : (Rect.unit (s := S6x8x1024) ![2, 0, 0] S1x8x1024.size inb_S6x8x1024_S1x8x1024_2_0_0).emb (ix3 (0 : Fin 1) r l) = ix3 (2 : Fin 6) r l := by idx_ext
  exact congrArg x h
theorem hs3_at (x : Vec Ideal S6x8x1024 .f32) (r : Fin 8) (l : Fin 1024) : hs3 x (ix3 0 r l) = x (ix3 3 r l) := by
  have h : (Rect.unit (s := S6x8x1024) ![3, 0, 0] S1x8x1024.size inb_S6x8x1024_S1x8x1024_3_0_0).emb (ix3 (0 : Fin 1) r l) = ix3 (3 : Fin 6) r l := by idx_ext
  exact congrArg x h
theorem hs4_at (x : Vec Ideal S6x8x1024 .f32) (r : Fin 8) (l : Fin 1024) : hs4 x (ix3 0 r l) = x (ix3 4 r l) := by
  have h : (Rect.unit (s := S6x8x1024) ![4, 0, 0] S1x8x1024.size inb_S6x8x1024_S1x8x1024_4_0_0).emb (ix3 (0 : Fin 1) r l) = ix3 (4 : Fin 6) r l := by idx_ext
  exact congrArg x h
theorem hs5_at (x : Vec Ideal S6x8x1024 .f32) (r : Fin 8) (l : Fin 1024) : hs5 x (ix3 0 r l) = x (ix3 5 r l) := by
  have h : (Rect.unit (s := S6x8x1024) ![5, 0, 0] S1x8x1024.size inb_S6x8x1024_S1x8x1024_5_0_0).emb (ix3 (0 : Fin 1) r l) = ix3 (5 : Fin 6) r l := by idx_ext
  exact congrArg x h
theorem cp0_at (x : Vec Ideal S2x8x1024 .f32) (r : Fin 8) (l : Fin 1024) : cp0 x (ix3 0 r l) = x (ix3 0 r l) := by
  have h : (Rect.unit (s := S2x8x1024) ![0, 0, 0] S1x8x1024.size inb_S2x8x1024_S1x8x1024_0_0_0).emb (ix3 (0 : Fin 1) r l) = ix3 (0 : Fin 2) r l := by idx_ext
  exact congrArg x h
theorem cp1_at (x : Vec Ideal S2x8x1024 .f32) (r : Fin 8) (l : Fin 1024) : cp1 x (ix3 0 r l) = x (ix3 1 r l) := by
  have h : (Rect.unit (s := S2x8x1024) ![1, 0, 0] S1x8x1024.size inb_S2x8x1024_S1x8x1024_1_0_0).emb (ix3 (0 : Fin 1) r l) = ix3 (1 : Fin 2) r l := by idx_ext
  exact congrArg x h

/-- The factor slabs and powers of lane `l`, from the two stored tables. -/
theorem factors_of (σ : Valuation τ sig (Elt Ideal)) (x : FVec Ideal S6x8x1024 .f32) (y : FVec Ideal S2x8x1024 .f32)
    (hx : ∀ i, x i = (StableHlo.after laidOps σ (Proc.devRef .tc main_v157) : FVec Ideal S6x8x1024 .f32) i)
    (hy : ∀ i, y i = (StableHlo.after laidOps σ (Proc.devRef .tc main_v160) : FVec Ideal S2x8x1024 .f32) i) (l : Fin 1024) :
    Factors x y l (at11 σ l) (at13 σ l) where
  h0 t := (hs0_at x t l).trans ((hx _).trans (slab0 σ t l))
  h1 t := (hs1_at x t l).trans ((hx _).trans (slab1 σ t l))
  h2 t := (hs2_at x t l).trans ((hx _).trans (slab2 σ t l))
  h3 t := (hs3_at x t l).trans ((hx _).trans (slab3 σ t l))
  h4 t ht := (hs4_at x t l).trans ((hx _).trans ((slab4 σ t l).trans (if_neg (by omega))))
  h5 t ht := (hs5_at x t l).trans ((hx _).trans ((slab5 σ t l).trans (if_neg (by omega))))
  c0 t ht := by
    refine (cp0_at y t l).trans ((hy _).trans ?_)
    rcases first_four t ht with rfl | rfl | rfl | rfl
    · exact pow0_0 σ l
    · exact pow1_0 σ l
    · exact pow2_0 σ l
    · exact pow3_0 σ l
  c1 t ht := by
    refine (cp1_at y t l).trans ((hy _).trans ?_)
    rcases first_four t ht with rfl | rfl | rfl | rfl
    · exact pow0_1 σ l
    · exact pow1_1 σ l
    · exact pow2_1 σ l
    · exact pow3_1 σ l

section values
variable (m : (ℓ : Loc nD τ sig) → Buf (Elt Ideal) ℓ) (c : Dev nD)

theorem V_arg0 : V m c main_arg0 = m ((c : Thread nD τ).loc main_arg0) := by
  unfold V
  simp only [hostOps0, hostOps0_1, hostOps0_2, hostOps0_3, hostOps0_4, hostOps0_5, hostOps0_6, hostOps0_7, hostOps0_8, hostOps0_9, hostOps0_10, hostOps0_11, hostOps0_12,
      List.flatten_cons, List.flatten_nil, List.append_nil, List.cons_append, List.nil_append, StableHlo.TRef.binary, StableHlo.TRef.nullary, StableHlo.TRef.unary,
      StableHlo.TRef.toBuf, StableHlo.TRef.ofBuf, cast_eq]
  after_results_simp

theorem ublk (t : Fin cfg0.N) (r : Fin 128) (k : Fin 256) (h : t.val * 128 + r.val < 1024) :
    (iblk m c 0 t : FVec Ideal S128x256 .f32) (ix2 r k) = (V m c main_arg0 : FVec Ideal S1024x3072 .f32) (ix2 ⟨t.val * 128 + r.val, h⟩ ⟨k.val, by omega⟩) := by
  blk_ext [iblk, idx t]
theorem hblk (t : Fin cfg0.N) (k : Fin 16) (l : Fin 2048) (h : t.val * 16 + k.val < 128) :
    (iblk m c 1 t : FVec Ideal S16x1x2048 .f32) (ix3 k 0 l) = (V m c main_v2 : FVec Ideal S128x1x2048 .f32) (ix3 ⟨t.val * 16 + k.val, h⟩ 0 l) := by
  blk_ext [iblk, idx t]
theorem blk2 (t : Fin cfg0.N) (i : Fin 256) (j : Fin 2048) : (iblk m c 2 t : FVec Ideal S256x2048 .bf16) (ix2 i j) = (V m c main_v64 : FVec Ideal S256x2048 .bf16) (ix2 i j) := by
  blk_ext [iblk, idx t]
theorem blk3 (t : Fin cfg0.N) (i : Fin 2048) (j : Fin 256) : (iblk m c 3 t : FVec Ideal S2048x256 .bf16) (ix2 i j) = (V m c main_v81 : FVec Ideal S2048x256 .bf16) (ix2 i j) := by
  blk_ext [iblk, idx t]
theorem blk4 (t : Fin cfg0.N) (j : Fin 256) : (iblk m c 4 t : FVec Ideal S1x256 .f32) (ix2 0 j) = (V m c main_v148 : FVec Ideal S1x256 .f32) (ix2 0 j) := by
  blk_ext [iblk, idx t]
theorem blk5 (t : Fin cfg0.N) (i : Fin 256) (j : Fin 256) : (iblk m c 5 t : FVec Ideal S256x256 .bf16) (ix2 i j) = (V m c main_v149 : FVec Ideal S256x256 .bf16) (ix2 i j) := by
  blk_ext [iblk, idx t]
theorem blk6 (t : Fin cfg0.N) (i : Fin 256) (j : Fin 256) : (iblk m c 6 t : FVec Ideal S256x256 .bf16) (ix2 i j) = (V m c main_v150 : FVec Ideal S256x256 .bf16) (ix2 i j) := by
  blk_ext [iblk, idx t]
theorem blk7 (t : Fin cfg0.N) (i : S6x8x1024.Idx) : (iblk m c 7 t : FVec Ideal S6x8x1024 .f32) i = (V m c main_v157 : FVec Ideal S6x8x1024 .f32) i := by
  idx_vars i
  blk_ext [iblk, idx t]
theorem blk8 (t : Fin cfg0.N) (i : S2x8x1024.Idx) : (iblk m c 8 t : FVec Ideal S2x8x1024 .f32) i = (V m c main_v160 : FVec Ideal S2x8x1024 .f32) i := by
  idx_vars i
  blk_ext [iblk, idx t]

abbrev X0 : FVec Ideal S1024x3072 .f32 := m ((c : Thread nD τ).loc main_arg0)
abbrev X1 : FVec Ideal S128x16x64 .f32 := m ((c : Thread nD τ).loc main_arg1)
abbrev X2 : FVec Ideal S128x16x64 .f32 := m ((c : Thread nD τ).loc main_arg2)
abbrev X8 : FVec Ideal S16x16x64 .f32 := m ((c : Thread nD τ).loc main_arg8)
abbrev X9 : FVec Ideal S16x16x64 .f32 := m ((c : Thread nD τ).loc main_arg9)
abbrev X10 : FVec Ideal S256 .f32 := m ((c : Thread nD τ).loc main_arg10)
abbrev X11 : FVec Ideal S256x256 .f32 := m ((c : Thread nD τ).loc main_arg11)
abbrev X12 : FVec Ideal S256x256 .f32 := m ((c : Thread nD τ).loc main_arg12)

theorem at11_mid (l : Fin 1024) : at11 (mid m c) l = val_main_v10 (F := Ideal) (A3 m c) (A4 m c) (A5 m c) (ix2 ⟨l.val / 64, by omega⟩ ⟨l.val % 64, by omega⟩) :=
  congrFun (mid_v11 m c) _
theorem at13_mid (l : Fin 1024) : at13 (mid m c) l = val_main_v12 (F := Ideal) (A3 m c) (A4 m c) (A5 m c) (ix2 ⟨l.val / 64, by omega⟩ ⟨l.val % 64, by omega⟩) :=
  congrFun (mid_v13 m c) _

/-- What the blocks of point `t` hold. -/
theorem point (t : Fin cfg0.N) (ht : t.val < 8) :
    Point (X0 m c) (X1 m c) (X2 m c) (A3 m c) (A4 m c) (A5 m c) (A6 m c) (A7 m c) (X8 m c) (X9 m c) (X10 m c) (X11 m c) (X12 m c) t.val ht
      (iblk m c 0 t) (iblk m c 1 t) (iblk m c 2 t) (iblk m c 3 t) (iblk m c 4 t) (iblk m c 5 t) (iblk m c 6 t) (iblk m c 7 t) (iblk m c 8 t) where
  input r i := (ublk m c t r i (by omega)).trans (congrFun (V_arg0 m c) _)
  re k l := (hblk m c t k _ (by omega)).trans ((congrFun (V_eq m c main_v2) _).trans ((v2_kept (mid m c) _).trans (mid_v2_lo m c _ l)))
  im k l := (hblk m c t k _ (by omega)).trans ((congrFun (V_eq m c main_v2) _).trans ((v2_kept (mid m c) _).trans (mid_v2_hi m c _ l)))
  inRe j l := (blk2 m c t _ _).trans ((congrFun (V_eq m c main_v64) _).trans ((bmat_re (mid m c) j l).trans
    (congrArg (fun z : EReal => z * (if j.val / 16 = l.val / 64 then (1 : EReal) else 0)) (congrFun (mid_v35 m c) _))))
  inIm j l := (blk2 m c t _ _).trans ((congrFun (V_eq m c main_v64) _).trans ((bmat_im (mid m c) j l).trans
    (congrArg (fun z : EReal => z * (if j.val / 16 = l.val / 64 then (1 : EReal) else 0)) (congrFun (mid_v42 m c) _))))
  outRe l j := (blk3 m c t _ _).trans ((congrFun (V_eq m c main_v81) _).trans ((cmat_re (mid m c) l j).trans
    (congrArg (fun z : EReal => z * (if l.val / 64 = j.val / 16 then (1 : EReal) else 0)) (congrFun (mid_arg8 m c) _))))
  outIm l j := (blk3 m c t _ _).trans ((congrFun (V_eq m c main_v81) _).trans ((cmat_im (mid m c) l j).trans
    (congrArg (fun z : EReal => -(z * (if l.val / 64 = j.val / 16 then (1 : EReal) else 0))) (congrFun (mid_arg9 m c) _))))
  skip j := (blk4 m c t j).trans ((congrFun (V_eq m c main_v148) _).trans ((d_at (mid m c) j).trans (congrFun (mid_arg10 m c) _)))
  gate1 i j := (blk5 m c t i j).trans ((congrFun (V_eq m c main_v149) _).trans ((w1_at (mid m c) i j).trans (congrFun (mid_arg11 m c) _)))
  gate2 i j := (blk6 m c t i j).trans ((congrFun (V_eq m c main_v150) _).trans ((w2_at (mid m c) i j).trans (congrFun (mid_arg12 m c) _)))
  factors l := by
    rw [← at11_mid, ← at13_mid]
    exact factors_of (mid m c) _ _ (fun i => (blk7 m c t i).trans (congrFun (V_eq m c main_v157) i))
      (fun i => (blk8 m c t i).trans (congrFun (V_eq m c main_v160) i)) l

/-! ## The two arrays at the end -/

theorem pointY (hf : Finite (X0 m c) (X1 m c) (X2 m c) (A3 m c) (A4 m c) (A5 m c) (A6 m c) (A7 m c) (X9 m c)) (t : Fin cfg0.N) (y : S128x256.Idx) :
    outY (F := Ideal) (iblk m c 0 t) (iblk m c 1 t) (iblk m c 2 t) (iblk m c 3 t) (iblk m c 4 t) (iblk m c 5 t) (iblk m c 6 t) (iblk m c 7 t) (iblk m c 8 t) y
      = val_main_v170 (F := Ideal) (X0 m c) (X1 m c) (X2 m c) (A3 m c) (A4 m c) (A5 m c) (A6 m c) (A7 m c) (X8 m c) (X9 m c) (X10 m c) (X11 m c) (X12 m c)
          (((cfg0.win 9).blk t).view.emb y) := by
  idx_vars y
  have ht : t.val < 8 := t.isLt
  have he : (((cfg0.win 9).blk t).view.emb (ix2 y0 y1)) = (ix2 (⟨t.val * 128 + y0.val, by omega⟩ : Fin 1024) y1) := by
    blk_ext [idx t]
  rw [he]
  exact outY_eq (point m c t ht) hf y0 y1

theorem pointH (hf : Finite (X0 m c) (X1 m c) (X2 m c) (A3 m c) (A4 m c) (A5 m c) (A6 m c) (A7 m c) (X9 m c)) (t : Fin cfg0.N) (y : S16x1x2048.Idx) :
    outH (F := Ideal) (iblk m c 0 t) (iblk m c 1 t) (iblk m c 2 t) (iblk m c 7 t) (iblk m c 8 t) y
      = val_main_v173 (F := Ideal) (X0 m c) (X1 m c) (X2 m c) (A3 m c) (A4 m c) (A5 m c) (A6 m c) (A7 m c) (((cfg0.win 10).blk t).view.emb y) := by
  idx_vars y
  have ht : t.val < 8 := t.isLt
  have h1 : y1 = 0 := (by decide : ∀ z : Fin 1, z = 0) y1
  subst h1
  have he : (((cfg0.win 10).blk t).view.emb (ix3 y0 0 y2)) = (ix3 (⟨t.val * 16 + y0.val, by omega⟩ : Fin 128) 0 y2) := by
    blk_ext [idx t]
  rw [he]
  exact outH_eq (point m c t ht) hf y0 y2

theorem finalY (hf : Finite (X0 m c) (X1 m c) (X2 m c) (A3 m c) (A4 m c) (A5 m c) (A6 m c) (A7 m c) (X9 m c)) :
    (dats m 0 c).arrAt 9 (cfgs 0).N
      = val_main_v170 (F := Ideal) (X0 m c) (X1 m c) (X2 m c) (A3 m c) (A4 m c) (A5 m c) (A6 m c) (A7 m c) (X8 m c) (X9 m c) (X10 m c) (X11 m c) (X12 m c) := by
  refine (dats m 0 c).arrAt_eq_of_covers 9 _ (by decide +kernel) fun t _ y => ?_
  blk_simp
  rw [after0_9]
  exact pointY m c hf t y

theorem finalH (hf : Finite (X0 m c) (X1 m c) (X2 m c) (A3 m c) (A4 m c) (A5 m c) (A6 m c) (A7 m c) (X9 m c)) :
    (dats m 0 c).arrAt 10 (cfgs 0).N = val_main_v173 (F := Ideal) (X0 m c) (X1 m c) (X2 m c) (A3 m c) (A4 m c) (A5 m c) (A6 m c) (A7 m c) := by
  refine (dats m 0 c).arrAt_eq_of_covers 10 _ (by decide +kernel) fun t _ y => ?_
  blk_simp
  rw [after0_10]
  exact pointH m c hf t y

end values

end Cert.Scan
end
-- ==== Proof.ScanClaims.lean ====
/- The claims of the state-space scan call. -/
module

public import proofs.«01_k».proof.Defs
public import proofs.«01_k».proof.Proof.Scan
public import proofs.«01_k».proof.Proof.SwaClaims
public import Idealize.ShloMosaic.Lib.Claim
public import Idealize.ShloMosaic.Adequacy
public import Idealize.ShloMosaic.Init

@[expose] public section

set_option maxRecDepth 16384

noncomputable section

namespace Cert.Scan

open Idealize.ShloMosaic Idealize.ShloMosaic.TcCoe Idealize.SL.Sem Cert.Swa

/-- The precondition's shape relations hold. -/
instance factsPre : Cert.Pre_scan_finite.Facts where
  shapeCasts_S1024x3072_S128x8x3072 := by decide
  slices_S128x8x3072_S128x4x256_0_0_0 := by decide
  bcast_S_S128x4x256 := by decide
  bcast_S_S128x16x64 := by decide
  bcast_S_S16x64 := by decide
  bcast_S_S16 := by decide
  bcast_S_S16x64x16 := by decide
  bcast_S_S16x16x64 := by decide

/-- Of two numbers marked as not zero in either place, one is not. -/
theorem ne_of_mark (x y : EReal)
    (h : IntOp.ori (BitVec.ofBool (decide (x ≠ Ideal.ofBits .f32 0#32))) (BitVec.ofBool (decide (y ≠ Ideal.ofBits .f32 0#32))) = 1#1) :
    x ≠ 0 ∨ y ≠ 0 := by
  rw [zero_bits] at h
  by_cases h1 : x ≠ 0
  · exact Or.inl h1
  · by_cases h2 : y ≠ 0
    · exact Or.inr h2
    · rw [decide_eq_false h1, decide_eq_false h2] at h
      exact absurd h (by decide)

section decode
variable (x0 : FVec Ideal Cert.Pre_scan_finite.S1024x3072 .f32) (x1 x2 : FVec Ideal Cert.Pre_scan_finite.S128x16x64 .f32)
  (x3 x4 : FVec Ideal Cert.Pre_scan_finite.S16x64 .f32) (x5 : FVec Ideal Cert.Pre_scan_finite.S16 .f32)
  (x6 x7 : FVec Ideal Cert.Pre_scan_finite.S16x64x16 .f32) (x8 x9 : FVec Ideal Cert.Pre_scan_finite.S16x16x64 .f32)
  (x10 : FVec Ideal Cert.Pre_scan_finite.S256 .f32) (x11 x12 : FVec Ideal Cert.Pre_scan_finite.S256x256 .f32)

theorem proj_of (n : Fin 128) (t : Fin 4) (i : Fin 256) (h : (Cert.Pre_scan_finite.fn (F := Ideal) x0 x1 x2 x3 x4 x5 x6 x7 x8 x9 x10 x11 x12).1 (ix3 n t i) = 1#1) : IsReal (x0 (ix2 ⟨n.val * 8 + t.val, by omega⟩ ⟨i.val, by omega⟩)) := by
  refine isReal_of_between _ (Eq.trans (Eq.symm ?_) h)
  pointwise [Cert.Pre_scan_finite.fn, Cert.Pre_scan_finite.fn_part1, Cert.Pre_scan_finite.fn_part2]

theorem re_of (n : Fin 128) (g : Fin 16) (p : Fin 64) (h : (Cert.Pre_scan_finite.fn (F := Ideal) x0 x1 x2 x3 x4 x5 x6 x7 x8 x9 x10 x11 x12).2.1 (ix3 n g p) = 1#1) : IsReal (x1 (ix3 n g p)) := by
  refine isReal_of_between _ (Eq.trans (Eq.symm ?_) h)
  pointwise [Cert.Pre_scan_finite.fn, Cert.Pre_scan_finite.fn_part1, Cert.Pre_scan_finite.fn_part2]

theorem im_of (n : Fin 128) (g : Fin 16) (p : Fin 64) (h : (Cert.Pre_scan_finite.fn (F := Ideal) x0 x1 x2 x3 x4 x5 x6 x7 x8 x9 x10 x11 x12).2.2.1 (ix3 n g p) = 1#1) : IsReal (x2 (ix3 n g p)) := by
  refine isReal_of_between _ (Eq.trans (Eq.symm ?_) h)
  pointwise [Cert.Pre_scan_finite.fn, Cert.Pre_scan_finite.fn_part1, Cert.Pre_scan_finite.fn_part2]

theorem poleRe_of (g : Fin 16) (p : Fin 64) (h : (Cert.Pre_scan_finite.fn (F := Ideal) x0 x1 x2 x3 x4 x5 x6 x7 x8 x9 x10 x11 x12).2.2.2.1 (ix2 g p) = 1#1) : IsReal (x3 (ix2 g p)) := by
  refine isReal_of_between _ (Eq.trans (Eq.symm ?_) h)
  pointwise [Cert.Pre_scan_finite.fn, Cert.Pre_scan_finite.fn_part1, Cert.Pre_scan_finite.fn_part2]

theorem poleIm_of (g : Fin 16) (p : Fin 64) (h : (Cert.Pre_scan_finite.fn (F := Ideal) x0 x1 x2 x3 x4 x5 x6 x7 x8 x9 x10 x11 x12).2.2.2.2.1 (ix2 g p) = 1#1) : IsReal (x4 (ix2 g p)) := by
  refine isReal_of_between _ (Eq.trans (Eq.symm ?_) h)
  pointwise [Cert.Pre_scan_finite.fn, Cert.Pre_scan_finite.fn_part1, Cert.Pre_scan_finite.fn_part2]

theorem step_of (g : Fin 16) (h : (Cert.Pre_scan_finite.fn (F := Ideal) x0 x1 x2 x3 x4 x5 x6 x7 x8 x9 x10 x11 x12).2.2.2.2.2.1 (ix1 g) = 1#1) : IsReal (x5 (ix1 g)) := by
  refine isReal_of_between _ (Eq.trans (Eq.symm ?_) h)
  pointwise [Cert.Pre_scan_finite.fn, Cert.Pre_scan_finite.fn_part1, Cert.Pre_scan_finite.fn_part2]

theorem inRe_of (g : Fin 16) (p : Fin 64) (c : Fin 16) (h : (Cert.Pre_scan_finite.fn (F := Ideal) x0 x1 x2 x3 x4 x5 x6 x7 x8 x9 x10 x11 x12).2.2.2.2.2.2.1 (ix3 g p c) = 1#1) : IsReal (x6 (ix3 g p c)) := by
  refine isReal_of_between _ (Eq.trans (Eq.symm ?_) h)
  pointwise [Cert.Pre_scan_finite.fn, Cert.Pre_scan_finite.fn_part1, Cert.Pre_scan_finite.fn_part2]

theorem inIm_of (g : Fin 16) (p : Fin 64) (c : Fin 16) (h : (Cert.Pre_scan_finite.fn (F := Ideal) x0 x1 x2 x3 x4 x5 x6 x7 x8 x9 x10 x11 x12).2.2.2.2.2.2.2.1 (ix3 g p c) = 1#1) : IsReal (x7 (ix3 g p c)) := by
  refine isReal_of_between _ (Eq.trans (Eq.symm ?_) h)
  pointwise [Cert.Pre_scan_finite.fn, Cert.Pre_scan_finite.fn_part1, Cert.Pre_scan_finite.fn_part2]

theorem outIm_of (g c : Fin 16) (p : Fin 64) (h : (Cert.Pre_scan_finite.fn (F := Ideal) x0 x1 x2 x3 x4 x5 x6 x7 x8 x9 x10 x11 x12).2.2.2.2.2.2.2.2.1 (ix3 g c p) = 1#1) : IsReal (x9 (ix3 g c p)) := by
  refine isReal_of_between _ (Eq.trans (Eq.symm ?_) h)
  pointwise [Cert.Pre_scan_finite.fn, Cert.Pre_scan_finite.fn_part1, Cert.Pre_scan_finite.fn_part2]

theorem pole_of (g : Fin 16) (p : Fin 64) (h : (Cert.Pre_scan_finite.fn (F := Ideal) x0 x1 x2 x3 x4 x5 x6 x7 x8 x9 x10 x11 x12).2.2.2.2.2.2.2.2.2 (ix2 g p) = 1#1) : x3 (ix2 g p) ≠ 0 ∨ x4 (ix2 g p) ≠ 0 := by
  refine ne_of_mark _ _ (Eq.trans (Eq.symm ?_) h)
  pointwise [Cert.Pre_scan_finite.fn, Cert.Pre_scan_finite.fn_part1, Cert.Pre_scan_finite.fn_part2]

end decode

/-- What the precondition says of the arguments. -/
theorem finite_of (m : (ℓ : Loc Cert.KernelScanIdeal.nD Cert.KernelScanIdeal.τ Cert.KernelScanIdeal.sig) → Buf (Elt Ideal) ℓ)
    (h : Cert.Pre_KernelScanIdeal_scan_finite m) (d : Dev Cert.KernelScanIdeal.nD) :
    Finite (X0 m d) (X1 m d) (X2 m d) (A3 m d) (A4 m d) (A5 m d) (A6 m d) (A7 m d) (X9 m d) where
  proj n t i := proj_of _ _ _ _ _ _ _ _ _ _ _ _ _ n t i (congrFun (h d).1 _)
  re n g p := re_of _ _ _ _ _ _ _ _ _ _ _ _ _ n g p (congrFun (h d).2.1 _)
  im n g p := im_of _ _ _ _ _ _ _ _ _ _ _ _ _ n g p (congrFun (h d).2.2.1 _)
  poleRe g p := poleRe_of _ _ _ _ _ _ _ _ _ _ _ _ _ g p (congrFun (h d).2.2.2.1 _)
  poleIm g p := poleIm_of _ _ _ _ _ _ _ _ _ _ _ _ _ g p (congrFun (h d).2.2.2.2.1 _)
  step g := step_of _ _ _ _ _ _ _ _ _ _ _ _ _ g (congrFun (h d).2.2.2.2.2.1 _)
  inRe g p c := inRe_of _ _ _ _ _ _ _ _ _ _ _ _ _ g p c (congrFun (h d).2.2.2.2.2.2.1 _)
  inIm g p c := inIm_of _ _ _ _ _ _ _ _ _ _ _ _ _ g p c (congrFun (h d).2.2.2.2.2.2.2.1 _)
  outIm g c p := outIm_of _ _ _ _ _ _ _ _ _ _ _ _ _ g c p (congrFun (h d).2.2.2.2.2.2.2.2.1 _)
  pole g p := pole_of _ _ _ _ _ _ _ _ _ _ _ _ _ g p (congrFun (h d).2.2.2.2.2.2.2.2.2 _)

end Cert.Scan

namespace Cert.Proof

open Idealize.ShloMosaic Idealize.SL.Sem

/-- The state-space scan call: where its inputs are finite, the idealized kernel's two results are the reference's. -/
theorem algebraicScan : Cert.algebraic_KernelScanIdeal_ReferenceScanIdeal_pre_scan_finite := by
  intro m g m' g' hpre hagree
  refine ⟨fun c => (Cert.KernelScanIdeal.Scan.dats m 0 c).arrAt 9 (Cert.KernelScanIdeal.cfgs 0).N,
    fun c => (Cert.KernelScanIdeal.Scan.dats m 0 c).arrAt 10 (Cert.KernelScanIdeal.cfgs 0).N, ?_, ?_⟩
  · exact (θ_run _ _ _).mono (fun r h c => ⟨h.1.out_eq c 9, h.1.out_eq c 10, h.2.1 c⟩)
      (θ_run_and (Cert.KernelScanIdeal.Scan.run_main m g) (Cert.KernelScanIdeal.Scan.frame_main m g))
  · refine (θ_run _ _ _).mono (fun r h c => ⟨(h c).1.trans ?_, (h c).2.1.trans ?_, (h c).2.2⟩) (Cert.ReferenceScanIdeal.Value.run m' g')
    all_goals obtain ⟨h0, h1, h2, h3, h4, h5, h6, h7, h8, h9, h10, h11, h12⟩ := hagree c
    · exact (Cert.ReferenceScanIdeal.Read.val_main_v170_eq _).trans (Eq.trans
        (congr (congr (congr (congr (congr (congr (congr (congr (congr (congr (congr (congr (congrArg (Cert.ReferenceScanIdeal.Read.val_main_v170 (F := Ideal)) h0) h1) h2) h3) h4) h5) h6) h7) h8) h9) h10) h11) h12)
        (Cert.Scan.finalY m c (Cert.Scan.finite_of m hpre c)).symm)
    · exact (Cert.ReferenceScanIdeal.Read.val_main_v173_eq _).trans (Eq.trans
        (congr (congr (congr (congr (congr (congr (congr (congrArg (Cert.ReferenceScanIdeal.Read.val_main_v173 (F := Ideal)) h0) h1) h2) h3) h4) h5) h6) h7)
        (Cert.Scan.finalH m c (Cert.Scan.finite_of m hpre c)).symm)

/-- Its reference runs on the host alone: the arguments end unchanged and there is no counter to move. -/
theorem quiescentScan : Cert.quiescent_ReferenceScanIdeal := fun m g _ =>
  (θ_run Cert.ReferenceScanIdeal.defs _ _).mono
    (fun r h => ⟨fun c => (h c).2.2, sem_eq_zero_of_no_sems (by decide) r.2⟩)
    (Cert.ReferenceScanIdeal.Value.run (F := Ideal) m g)

end Cert.Proof
-- ==== Proof.ShiftBody.lean ====
/-
  The prompt's sliding-window attention: the kernel body's triple and the frame of the whole program, for the idealized kernel.
  The grid walks eight sequences in steps of 256 positions. A sequence's first step copies the caches it starts from into
  the two cache results; every step then runs four trips, one per 64 positions, and the cache results stay in place from
  one step to the next. A trip lays out 128 cached rows and 64 new ones in scratch, attends, and moves the caches on by
  64 rows. After a step's four trips the cache is the last 128 rows of that step's block, whatever it was before.
-/
module

public import proofs.«01_k».proof.Proof.Gen.KernelShiftIdeal.Frame
public import proofs.«01_k».proof.Proof.Gen.KernelShiftIdeal.Loops
public import proofs.«01_k».proof.Proof.Gen.KernelShiftIdeal.Points
public import Idealize.ShloMosaic.Lib.Claim
public import Idealize.ShloMosaic.Lib.WritesUnit
public import Idealize.ShloMosaic.Lib.VecWindow
public import Idealize.ShloMosaic.Lib.Pointwise
public import Idealize.ShloMosaic.Lib.Pipeline.ValueKit

@[expose] public section

set_option maxRecDepth 8192

noncomputable section

namespace Cert.KernelShiftIdeal.Shift

open Cert.KernelShiftIdeal Cert.KernelShiftIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The cache rows a trip works on: the whole block of its sequence. -/
abbrev rowC (k : Fin k0_t1_loop.trips) : Rect S1x128x128 :=
  Rect.unit (s := S1x128x128) (k0_off1 k) S1x128x128.size (k0_off1_inb k)

/-- The 64 token rows of trip `k`. -/
abbrev rowT (k : Fin k0_t1_loop.trips) : Rect S256x256 :=
  Rect.unit (s := S256x256) (k0_off2 k) S64x256.size (k0_off2_inb k)

/-- The key matrix of one trip: 128 cached rows, then the 64 new ones. -/
def keys (u : Vec F S1x128x128 .f32) (w : Vec F S64x256 .f32) : Vec F S192x128 .f32 :=
  View.canon [⟨Rect.unit (s := S192x128) ![128, 0] S64x128.size inb_S192x128_S64x128_128_0, k0_pay12 w⟩,
    ⟨Rect.unit (s := S192x128) ![0, 0] S128x128.size inb_S192x128_S128x128_0_0, k0_pay10 (k0_pay9 u)⟩]

/-- The value matrix of one trip, laid out the same way. -/
def vals (u : Vec F S1x128x128 .f32) (w : Vec F S64x256 .f32) : Vec F S192x128 .f32 :=
  View.canon [⟨Rect.unit (s := S192x128) ![128, 0] S64x128.size inb_S192x128_S64x128_128_0, k0_pay13 w⟩,
    ⟨Rect.unit (s := S192x128) ![0, 0] S128x128.size inb_S192x128_S128x128_0_0, k0_pay11 u⟩]

/-- The last 128 of the 192 rows: what the cache becomes. -/
def tail (x : Vec F S192x128 .f32) : Vec F S128x128 .f32 :=
  View.ld x (Rect.unit (s := S192x128) ![64, 0] S128x128.size inb_S192x128_S128x128_64_0)

/-- The attention output of trip `k` of the grid step `j`, from its queries `q`, its keys and values, the distance bias and the sinks. -/
def attn (j : BitVec 32) (k : Fin k0_t1_loop.trips) (q : Vec F S64x256 .f32) (ks vs : Vec F S192x128 .f32) (b : Vec F S256x192 .f32)
    (s : Vec F S256x1 .f32) : Vec F S64x256 .f32 :=
  k0_pay5 (trip_k0_t1.sl.v53 j k)
    (k0_pay15 j (Scf.iv 0#32 1#32 k) (k0_pay14 (k0_pay1 (F := F)) (k0_pay2 (F := F)) q ks) b s vs)

/-- One trip's block of the first result. -/
def tripY (j : BitVec 32) (x2 x3 : Vec F S256x256 .f32) (u v : Vec F S1x128x128 .f32) (x6 : Vec F S256x192 .f32) (x7 : Vec F S256x1 .f32)
    (k : Fin k0_t1_loop.trips) : Vec F S64x256 .f32 :=
  attn j k (View.ld x2 (rowT k)) (keys (View.ld u (rowC k)) (View.ld x3 (rowT k))) (vals (View.ld v (rowC k)) (View.ld x3 (rowT k)))
    (View.ld x6 (Rect.unit (s := S256x192) ![0, 0] S256x192.size inb_S256x192_S256x192_0_0))
    (View.ld x7 (Rect.unit (s := S256x1) ![0, 0] S256x1.size inb_S256x1_S256x1_0_0))

/-- The key cache after one trip that finds it at `u`. -/
def tripK (x3 : Vec F S256x256 .f32) (u : Vec F S1x128x128 .f32) (k : Fin k0_t1_loop.trips) : Vec F S1x128x128 .f32 :=
  k0_pay6 (tail (keys (View.ld u (rowC k)) (View.ld x3 (rowT k))))

/-- The value cache after one trip that finds it at `v`. -/
def tripV (x3 : Vec F S256x256 .f32) (v : Vec F S1x128x128 .f32) (k : Fin k0_t1_loop.trips) : Vec F S1x128x128 .f32 :=
  k0_pay7 (tail (vals (View.ld v (rowC k)) (View.ld x3 (rowT k))))

/-- The loop makes four trips. -/
theorem trips_eq : k0_t1_loop.trips = 4 := by decide

/-- Every trip works on the one sequence of the block. -/
theorem off1_eq : ∀ k : Fin k0_t1_loop.trips, k0_off1 k = ![0, 0, 0] := by decide +kernel

/-- Trip `k` works on the rows from `64 k` on. -/
theorem off2_eq : ∀ k : Fin k0_t1_loop.trips, k0_off2 k = ![64 * k.val, 0] := by decide +kernel

/-- The key cache after `n` trips. -/
def cacheK (x3 : Vec F S256x256 .f32) (u : Vec F S1x128x128 .f32) : Nat → Vec F S1x128x128 .f32
  | 0 => u
  | n + 1 => if h : n < k0_t1_loop.trips then tripK x3 (cacheK x3 u n) ⟨n, h⟩ else cacheK x3 u n

/-- The value cache after `n` trips. -/
def cacheV (x3 : Vec F S256x256 .f32) (v : Vec F S1x128x128 .f32) : Nat → Vec F S1x128x128 .f32
  | 0 => v
  | n + 1 => if h : n < k0_t1_loop.trips then tripV x3 (cacheV x3 v n) ⟨n, h⟩ else cacheV x3 v n

/-- The output block: row `r` comes from trip `r / 64`. -/
def outY (j : BitVec 32) (x2 x3 : Vec F S256x256 .f32) (u v : Vec F S1x128x128 .f32) (x6 : Vec F S256x192 .f32) (x7 : Vec F S256x1 .f32) :
    Vec F S256x256 .f32 := fun y =>
  tripY j x2 x3 (cacheK x3 u ((y 0).val / 64)) (cacheV x3 v ((y 0).val / 64)) x6 x7
    ⟨(y 0).val / 64, by have h : (y 0).val < 256 := (y 0).isLt; rw [trips_eq]; omega⟩
    (ix2 ⟨(y 0).val % 64, Nat.mod_lt _ (by decide)⟩ (y 1))

/-- The last 128 rows of a block of keys. -/
def endK (x3 : Vec F S256x256 .f32) : Vec F S1x128x128 .f32 := fun y =>
  x3 (ix2 ⟨128 + (y 1).val, by have h : (y 1).val < 128 := (y 1).isLt; omega⟩ ⟨(y 2).val, by have h : (y 2).val < 128 := (y 2).isLt; omega⟩)

/-- The last 128 rows of a block of values. -/
def endV (x3 : Vec F S256x256 .f32) : Vec F S1x128x128 .f32 := fun y =>
  x3 (ix2 ⟨128 + (y 1).val, by have h : (y 1).val < 128 := (y 1).isLt; omega⟩ ⟨128 + (y 2).val, by have h : (y 2).val < 128 := (y 2).isLt; omega⟩)

/-- The two stores that lay out a matrix of 192 rows cover it. -/
theorem cover_rows (p0 : Vec F S64x128 .f32) (p1 : Vec F S128x128 .f32) (y : S192x128.Idx) :
    ∃ pc ∈ ([⟨Rect.unit (s := S192x128) ![128, 0] S64x128.size inb_S192x128_S64x128_128_0, p0⟩,
      ⟨Rect.unit (s := S192x128) ![0, 0] S128x128.size inb_S192x128_S128x128_0_0, p1⟩] :
        List (View.Piece (Elt F) S192x128 .f32)), y ∈ pc.1.set := by
  by_cases h : (y 0).val < 128
  · refine ⟨_, List.mem_cons_of_mem _ (List.mem_cons_self ..), ?_⟩
    rw [Rect.mem_set_unit]
    intro a
    match a with
    | ⟨0, _⟩ => exact ⟨Nat.zero_le _, by simpa using h⟩
    | ⟨1, _⟩ => exact ⟨Nat.zero_le _, by have := (y 1).isLt; simpa using this⟩
  · refine ⟨_, List.mem_cons_self .., ?_⟩
    rw [Rect.mem_set_unit]
    intro a
    match a with
    | ⟨0, _⟩ => exact ⟨by simpa using h, by have := (y 0).isLt; simpa using this⟩
    | ⟨1, _⟩ => exact ⟨Nat.zero_le _, by have := (y 1).isLt; simpa using this⟩

/-! ## Where the cache rows come from -/

/-- A trip reads the cache whole. -/
theorem ld_cache (u : Vec F S1x128x128 .f32) (k : Fin k0_t1_loop.trips) (r l : Fin 128) :
    (View.ld u (rowC k) : Vec F S1x128x128 .f32) (ix3 0 r l) = u (ix3 0 r l) := by
  have h : (rowC k).emb (ix3 0 r l) = ix3 0 r l := funext fun a => Fin.ext <| by
    show (k0_off1 k) a + 1 * (ix3 (0 : Fin 1) r l a).val = _
    rw [off1_eq]
    match a with
    | ⟨0, _⟩ => rfl
    | ⟨1, _⟩ => show 0 + 1 * r.val = r.val; omega
    | ⟨2, _⟩ => show 0 + 1 * l.val = l.val; omega
  exact congrArg u h

/-- A trip's new rows are rows of the block. -/
theorem ld_tok (x : Vec F S256x256 .f32) (k : Fin k0_t1_loop.trips) (r : Fin 64) (l i : Fin 256) (hi : i.val = 64 * k.val + r.val) :
    (View.ld x (rowT k) : Vec F S64x256 .f32) (ix2 r l) = x (ix2 i l) := by
  have h : (rowT k).emb (ix2 r l) = ix2 i l := funext fun a => Fin.ext <| by
    show (k0_off2 k) a + 1 * (ix2 r l a).val = _
    rw [off2_eq]
    match a with
    | ⟨0, _⟩ => show 64 * k.val + 1 * r.val = i.val; omega
    | ⟨1, _⟩ => show 0 + 1 * l.val = l.val; omega
  exact congrArg x h

theorem keys_new (u : Vec F S1x128x128 .f32) (w : Vec F S64x256 .f32) (j : Fin 64) (l : Fin 128) (i : Fin 192) (hi : i.val = 128 + j.val) :
    keys u w (ix2 i l) = w (ix2 j ⟨l.val, by omega⟩) := by
  have h : (Rect.unit (s := S192x128) ![128, 0] S64x128.size inb_S192x128_S64x128_128_0).emb (ix2 j l) = ix2 ⟨128 + j.val, by omega⟩ l := by
    idx_ext
  obtain ⟨i, hi'⟩ := i
  obtain rfl : i = 128 + j.val := hi
  unfold keys
  rw [← h, View.canon_cons_emb]
  pointwise [k0_pay12]

theorem vals_new (u : Vec F S1x128x128 .f32) (w : Vec F S64x256 .f32) (j : Fin 64) (l : Fin 128) (i : Fin 192) (hi : i.val = 128 + j.val) :
    vals u w (ix2 i l) = w (ix2 j ⟨128 + l.val, by omega⟩) := by
  have h : (Rect.unit (s := S192x128) ![128, 0] S64x128.size inb_S192x128_S64x128_128_0).emb (ix2 j l) = ix2 ⟨128 + j.val, by omega⟩ l := by
    idx_ext
  obtain ⟨i, hi'⟩ := i
  obtain rfl : i = 128 + j.val := hi
  unfold vals
  rw [← h, View.canon_cons_emb]
  pointwise [k0_pay13]

/-- A cached row lies off the rectangle of the new rows. -/
theorem off_new (j : Fin 128) (l : Fin 128) :
    (ix2 (⟨j.val, by omega⟩ : Fin 192) l : S192x128.Idx) ∉ (Rect.unit (s := S192x128) ![128, 0] S64x128.size inb_S192x128_S64x128_128_0).set := by
  rw [Rect.mem_set_unit]
  intro h
  have h0 : 128 ≤ j.val := (h 0).1
  omega

theorem keys_old (u : Vec F S1x128x128 .f32) (w : Vec F S64x256 .f32) (j : Fin 128) (l : Fin 128) (i : Fin 192) (hi : i.val = j.val) :
    keys u w (ix2 i l) = u (ix3 0 j l) := by
  have e : i = ⟨j.val, by omega⟩ := Fin.ext hi
  have h : (Rect.unit (s := S192x128) ![0, 0] S128x128.size inb_S192x128_S128x128_0_0).emb (ix2 j l) = ix2 ⟨j.val, by omega⟩ l := by
    idx_ext
  rw [e]
  refine (View.canon_cons_of_not_mem (⟨Rect.unit (s := S192x128) ![128, 0] S64x128.size inb_S192x128_S64x128_128_0, k0_pay12 w⟩ : View.Piece (Elt F) S192x128 .f32)
    _ (off_new j l)).trans ?_
  rw [← h, View.canon_cons_emb]
  pointwise [k0_pay10, k0_pay9]

theorem vals_old (u : Vec F S1x128x128 .f32) (w : Vec F S64x256 .f32) (j : Fin 128) (l : Fin 128) (i : Fin 192) (hi : i.val = j.val) :
    vals u w (ix2 i l) = u (ix3 0 j l) := by
  have e : i = ⟨j.val, by omega⟩ := Fin.ext hi
  have h : (Rect.unit (s := S192x128) ![0, 0] S128x128.size inb_S192x128_S128x128_0_0).emb (ix2 j l) = ix2 ⟨j.val, by omega⟩ l := by
    idx_ext
  rw [e]
  refine (View.canon_cons_of_not_mem (⟨Rect.unit (s := S192x128) ![128, 0] S64x128.size inb_S192x128_S64x128_128_0, k0_pay13 w⟩ : View.Piece (Elt F) S192x128 .f32)
    _ (off_new j l)).trans ?_
  rw [← h, View.canon_cons_emb]
  pointwise [k0_pay11]

theorem tail_at (x : Vec F S192x128 .f32) (j l : Fin 128) : tail x (ix2 j l) = x (ix2 ⟨64 + j.val, by omega⟩ l) := by
  have h : (Rect.unit (s := S192x128) ![64, 0] S128x128.size inb_S192x128_S128x128_64_0).emb (ix2 j l) = ix2 ⟨64 + j.val, by omega⟩ l := by idx_ext
  exact congrArg x h

/-- One trip moves the older keys up by 64 rows. -/
theorem tripK_old (x3 : Vec F S256x256 .f32) (u : Vec F S1x128x128 .f32) (k : Fin k0_t1_loop.trips) (r r' l : Fin 128) (hr : r'.val = r.val + 64) :
    tripK x3 u k (ix3 0 r l) = u (ix3 0 r' l) := by
  unfold tripK
  refine Eq.trans (b := tail (keys (View.ld u (rowC k)) (View.ld x3 (rowT k))) (ix2 r l)) (by pointwise [k0_pay6]) ?_
  rw [tail_at]
  exact (keys_old _ _ r' l _ (by dsimp only; omega)).trans (ld_cache u k r' l)

/-- One trip appends the block's keys. -/
theorem tripK_new (x3 : Vec F S256x256 .f32) (u : Vec F S1x128x128 .f32) (k : Fin k0_t1_loop.trips) (r l : Fin 128) (i : Fin 256)
    (hr : 64 ≤ r.val) (hi : i.val = 64 * k.val + (r.val - 64)) :
    tripK x3 u k (ix3 0 r l) = x3 (ix2 i ⟨l.val, by omega⟩) := by
  unfold tripK
  refine Eq.trans (b := tail (keys (View.ld u (rowC k)) (View.ld x3 (rowT k))) (ix2 r l)) (by pointwise [k0_pay6]) ?_
  rw [tail_at]
  exact (keys_new _ _ ⟨r.val - 64, by omega⟩ l _ (by dsimp only; omega)).trans (ld_tok x3 k _ _ i hi)

/-- One trip moves the older values up by 64 rows. -/
theorem tripV_old (x3 : Vec F S256x256 .f32) (u : Vec F S1x128x128 .f32) (k : Fin k0_t1_loop.trips) (r r' l : Fin 128) (hr : r'.val = r.val + 64) :
    tripV x3 u k (ix3 0 r l) = u (ix3 0 r' l) := by
  unfold tripV
  refine Eq.trans (b := tail (vals (View.ld u (rowC k)) (View.ld x3 (rowT k))) (ix2 r l)) (by pointwise [k0_pay7]) ?_
  rw [tail_at]
  exact (vals_old _ _ r' l _ (by dsimp only; omega)).trans (ld_cache u k r' l)

/-- One trip appends the block's values. -/
theorem tripV_new (x3 : Vec F S256x256 .f32) (u : Vec F S1x128x128 .f32) (k : Fin k0_t1_loop.trips) (r l : Fin 128) (i : Fin 256)
    (hr : 64 ≤ r.val) (hi : i.val = 64 * k.val + (r.val - 64)) :
    tripV x3 u k (ix3 0 r l) = x3 (ix2 i ⟨128 + l.val, by omega⟩) := by
  unfold tripV
  refine Eq.trans (b := tail (vals (View.ld u (rowC k)) (View.ld x3 (rowT k))) (ix2 r l)) (by pointwise [k0_pay7]) ?_
  rw [tail_at]
  exact (vals_new _ _ ⟨r.val - 64, by omega⟩ l _ (by dsimp only; omega)).trans (ld_tok x3 k _ _ i hi)

theorem cacheK_succ (x3 : Vec F S256x256 .f32) (u : Vec F S1x128x128 .f32) (n : Nat) (h : n < k0_t1_loop.trips) :
    cacheK x3 u (n + 1) = tripK x3 (cacheK x3 u n) ⟨n, h⟩ := by
  rw [cacheK]; exact dif_pos h

theorem cacheV_succ (x3 : Vec F S256x256 .f32) (u : Vec F S1x128x128 .f32) (n : Nat) (h : n < k0_t1_loop.trips) :
    cacheV x3 u (n + 1) = tripV x3 (cacheV x3 u n) ⟨n, h⟩ := by
  rw [cacheV]; exact dif_pos h

/-- After four trips the key cache is the block's last 128 rows, whatever it was before. -/
theorem cacheK_end (x3 : Vec F S256x256 .f32) (u : Vec F S1x128x128 .f32) : cacheK x3 u 4 = endK x3 := by
  funext y
  idx_vars y
  have h0 : y0 = 0 := Fin.ext (by omega)
  subst h0
  rw [cacheK_succ x3 u 3 (by decide)]
  unfold endK
  by_cases h : 64 ≤ y1.val
  · exact tripK_new _ _ _ y1 y2 _ h (by show 128 + y1.val = 64 * 3 + (y1.val - 64); omega)
  · rw [tripK_old _ _ _ y1 ⟨y1.val + 64, by omega⟩ y2 rfl, cacheK_succ x3 u 2 (by decide)]
    exact tripK_new _ _ _ _ y2 _ (by dsimp only; omega) (by show 128 + y1.val = 64 * 2 + (y1.val + 64 - 64); omega)

/-- After four trips the value cache is the block's last 128 rows, whatever it was before. -/
theorem cacheV_end (x3 : Vec F S256x256 .f32) (u : Vec F S1x128x128 .f32) : cacheV x3 u 4 = endV x3 := by
  funext y
  idx_vars y
  have h0 : y0 = 0 := Fin.ext (by omega)
  subst h0
  rw [cacheV_succ x3 u 3 (by decide)]
  unfold endV
  by_cases h : 64 ≤ y1.val
  · exact tripV_new _ _ _ y1 y2 _ h (by show 128 + y1.val = 64 * 3 + (y1.val - 64); omega)
  · rw [tripV_old _ _ _ y1 ⟨y1.val + 64, by omega⟩ y2 rfl, cacheV_succ x3 u 2 (by decide)]
    exact tripV_new _ _ _ _ y2 _ (by dsimp only; omega) (by show 128 + y1.val = 64 * 2 + (y1.val + 64 - 64); omega)

section trip

variable (𝒱 : Variants) (c : Dev nD) (bd : Option 𝒱.V) (i : grid0.Coords) (arg2 : Memref sig .tc .vmem S256x256 .f32) (harg2 : arg2.IsWhole) (arg3 : Memref sig .tc .vmem S256x256 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S256x192 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S192x128 .f32) (harg11 : arg11.IsWhole) (arg12 : Memref sig .tc .vmem S192x128 .f32) (harg12 : arg12.IsWhole)
  (j : BitVec 32)
  (g2 : BufTy.Contents (Elt F) arg2.view.ty) (g3 : BufTy.Contents (Elt F) arg3.view.ty)
  (g6 : BufTy.Contents (Elt F) arg6.view.ty) (g7 : BufTy.Contents (Elt F) arg7.view.ty)

variable (k : Fin k0_t1_loop.trips)
  (f8 : BufTy.Contents (Elt F) arg8.view.ty) (f9 : BufTy.Contents (Elt F) arg9.view.ty)
  (f10 : BufTy.Contents (Elt F) arg10.view.ty) (f11 : BufTy.Contents (Elt F) arg11.view.ty) (f12 : BufTy.Contents (Elt F) arg12.view.ty)

/-- Trip `k` stores 64 rows of the output, computed from what it reads. -/
theorem trip_y : (trip_k0_t1 (F := F) 𝒱 c bd i arg2 harg2 arg3 harg3 arg4 harg4 arg5 harg5 arg6 harg6 arg7 harg7 arg8 harg8 arg9 harg9 arg10 harg10 arg11 harg11 arg12 harg12 j g2 g3 g6 g7 k).1 f8 f9 f10 f11 f12
    = [⟨rowT k, tripY j (View.read (Elt F) arg2.view g2) (View.read (Elt F) arg3.view g3) (View.read (Elt F) arg9.view f9)
        (View.read (Elt F) arg10.view f10) (View.read (Elt F) arg6.view g6) (View.read (Elt F) arg7.view g7) k⟩] := by
  have hk : trip_k0_t1.sl.v91 arg3 arg9 arg11 g3 k f9
      = keys (View.ld (View.read (Elt F) arg9.view f9) (rowC k)) (View.ld (View.read (Elt F) arg3.view g3) (rowT k)) :=
    (View.readCov_eq_canon_ld _ _ _ (cover_rows _ _)).trans (View.ld_unit_lit _ _ (by decide))
  have hv : trip_k0_t1.sl.v134 arg3 arg10 arg12 g3 k f10
      = vals (View.ld (View.read (Elt F) arg10.view f10) (rowC k)) (View.ld (View.read (Elt F) arg3.view g3) (rowT k)) :=
    (View.readCov_eq_canon_ld _ _ _ (cover_rows _ _)).trans (View.ld_unit_lit _ _ (by decide))
  unfold trip_k0_t1
  dsimp only
  unfold tripY attn
  rw [← hk, ← hv]
  unfold trip_k0_t1.sl.r_1 trip_k0_t1.sl.r trip_k0_t1.sl.arg13
  refine congrArg (fun z => [(⟨rowT k, z⟩ : View.Piece (Elt F) S256x256 .f32)]) ?_
  refine congr (congrArg (k0_pay5 (F := F)) ?_) ?_
  · rfl
  · refine congr (congr (congr (congrArg (k0_pay15 (F := F) j _) ?_) ?_) ?_) rfl
    · refine congr (congrArg (k0_pay14 (F := F) _ _) ?_) rfl
      rfl
    · rfl
    · rfl

/-- Trip `k` stores the key cache. -/
theorem trip_k : (trip_k0_t1 (F := F) 𝒱 c bd i arg2 harg2 arg3 harg3 arg4 harg4 arg5 harg5 arg6 harg6 arg7 harg7 arg8 harg8 arg9 harg9 arg10 harg10 arg11 harg11 arg12 harg12 j g2 g3 g6 g7 k).2.1 f8 f9 f10 f11 f12
    = [⟨rowC k, tripK (View.read (Elt F) arg3.view g3) (View.read (Elt F) arg9.view f9) k⟩] := by
  unfold trip_k0_t1
  dsimp only
  unfold tripK
  congr 3
  unfold trip_k0_t1.sl.v159
  exact View.readCov_eq_canon_ld _ _ _ (cover_rows _ _)

/-- Trip `k` stores the value cache. -/
theorem trip_v : (trip_k0_t1 (F := F) 𝒱 c bd i arg2 harg2 arg3 harg3 arg4 harg4 arg5 harg5 arg6 harg6 arg7 harg7 arg8 harg8 arg9 harg9 arg10 harg10 arg11 harg11 arg12 harg12 j g2 g3 g6 g7 k).2.2.1 f8 f9 f10 f11 f12
    = [⟨rowC k, tripV (View.read (Elt F) arg3.view g3) (View.read (Elt F) arg10.view f10) k⟩] := by
  unfold trip_k0_t1
  dsimp only
  unfold tripV
  congr 3
  unfold trip_k0_t1.sl.v164
  exact View.readCov_eq_canon_ld _ _ _ (cover_rows _ _)

variable (u v : Vec F S1x128x128 .f32)
  (G8 : BufTy.Contents (Elt F) arg8.view.ty) (G9 : BufTy.Contents (Elt F) arg9.view.ty)
  (G10 : BufTy.Contents (Elt F) arg10.view.ty) (G11 : BufTy.Contents (Elt F) arg11.view.ty) (G12 : BufTy.Contents (Elt F) arg12.view.ty)

/-- After `n` trips the first `64 n` rows of the output are final, and the caches have moved on by as many rows. -/
theorem loop_holds (h4 : View.read (Elt F) arg9.view G9 = u) (h5 : View.read (Elt F) arg10.view G10 = v) :
    ∀ n, n ≤ 4 →
      (∀ y : S256x256.Idx, (y 0).val < 64 * n → View.read (Elt F) arg8.view (arg8.view.writes (Elt F) G8 (pb_k0_t1 (F := F) 𝒱 c bd i arg2 harg2 arg3 harg3 arg4 harg4 arg5 harg5 arg6 harg6 arg7 harg7 arg8 harg8 arg9 harg9 arg10 harg10 arg11 harg11 arg12 harg12 j g2 g3 g6 g7 G8 G9 G10 G11 G12 n).1) y
        = outY j (View.read (Elt F) arg2.view g2) (View.read (Elt F) arg3.view g3) u v (View.read (Elt F) arg6.view g6)
            (View.read (Elt F) arg7.view g7) y)
      ∧ View.read (Elt F) arg9.view (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 j g2 g3 g6 g7 G8 G9 G10 G11 G12 n).2.1)
        = cacheK (View.read (Elt F) arg3.view g3) u n
      ∧ View.read (Elt F) arg10.view (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 j g2 g3 g6 g7 G8 G9 G10 G11 G12 n).2.2.1)
        = cacheV (View.read (Elt F) arg3.view g3) v n
  | 0, _ => ⟨fun y hy => absurd hy (by omega), h4, h5⟩
  | n + 1, hn => by
    obtain ⟨ih8, ih9, ih10⟩ := loop_holds h4 h5 n (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 j g2 g3 g6 g7 G8 G9 G10 G11 G12 (⟨n, by rw [trips_eq]; omega⟩)
    rw [hs]
    clear hs
    dsimp only at ih8 ih9 ih10 ⊢
    generalize pb_k0_t1 (F := F) 𝒱 c bd i arg2 harg2 arg3 harg3 arg4 harg4 arg5 harg5 arg6 harg6 arg7 harg7 arg8 harg8 arg9 harg9 arg10 harg10 arg11 harg11 arg12 harg12 j g2 g3 g6 g7 G8 G9 G10 G11 G12 n = P at ih8 ih9 ih10 ⊢
    have hn' : n < k0_t1_loop.trips := by rw [trips_eq]; omega
    refine ⟨fun y hy => ?_, ?_, ?_⟩
    · rw [trip_y, List.singleton_append]
      by_cases hlo : 64 * n ≤ (y 0).val
      · have hq : (y 0).val / 64 = n := by omega
        refine (View.read_writes_cons_unit_of_mem _ _ _ _ _ y (ix2 ⟨(y 0).val % 64, Nat.mod_lt _ (by decide)⟩ (y 1)) (off2_eq _) ?_).trans ?_
        · intro a
          match a with
          | ⟨0, _⟩ => show (y 0).val = 64 * n + (y 0).val % 64; omega
          | ⟨1, _⟩ => exact (Nat.zero_add _).symm
        · unfold outY
          rw [ih9, ih10]
          subst hq
          rfl
      · refine (View.read_writes_cons_unit_of_not_mem _ _ _ _ _ y (off2_eq _) 0 (Or.inl ?_)).trans (ih8 y (by omega))
        show (y 0).val < 64 * n
        omega
    · rw [trip_k, List.singleton_append, ih9, cacheK_succ _ _ n hn']
      funext y
      exact View.read_writes_cons_unit_of_mem _ _ _ _ _ y y (off1_eq _) fun a => by
        match a with
        | ⟨0, _⟩ => exact (Nat.zero_add _).symm
        | ⟨1, _⟩ => exact (Nat.zero_add _).symm
        | ⟨2, _⟩ => exact (Nat.zero_add _).symm
    · rw [trip_v, List.singleton_append, ih10, cacheV_succ _ _ n hn']
      funext y
      exact View.read_writes_cons_unit_of_mem _ _ _ _ _ y y (off1_eq _) fun a => by
        match a with
        | ⟨0, _⟩ => exact (Nat.zero_add _).symm
        | ⟨1, _⟩ => exact (Nat.zero_add _).symm
        | ⟨2, _⟩ => exact (Nat.zero_add _).symm

end trip

set_option maxHeartbeats 1000000 in
/-- The body at a sequence's first step: the cache results may hold anything, and the step starts from the caches passed in. -/
theorem sound_first (c : Dev nD) (E : Set ℕ) (i : grid0.Coords) (hj : (i 1).val = 0) (arg2 : Memref sig .tc .vmem S256x256 .f32) (harg2 : arg2.IsWhole) (arg3 : Memref sig .tc .vmem S256x256 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S256x192 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S192x128 .f32) (harg11 : arg11.IsWhole) (arg12 : Memref sig .tc .vmem S192x128 .f32) (harg12 : arg12.IsWhole)
    (x2 x3 : Vec F S256x256 .f32) (x4 x5: Vec F S1x128x128 .f32) (x6 : Vec F S256x192 .f32) (x7 : Vec F S256x1 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (outY (BitVec.ofNat 32 (i 1).val) x2 x3 x4 x5 x6 x7) ∗ owns (c : Thread nD τ) arg9 fullShare (endK x3)
            ∗ owns (c : Thread nD τ) arg10 fullShare (endV x3)
            ∗ (∃ d, owns (c : Thread nD τ) arg11 fullShare d) ∗ (∃ d, owns (c : Thread nD τ) arg12 fullShare d)) -∗ K ⟨⟩))
      ⊢ wp frame (wpE (defs₀ (F := F)) Variants.none c none) E (cc0_swa i arg2 harg2 arg3 harg3 arg4 harg4 arg5 harg5 arg6 harg6 arg7 harg7 arg8 harg8 arg9 harg9 arg10 harg10 arg11 harg11 arg12 harg12) K := by
  have e : (BitVec.ofNat 32 (i 1).val) = 0#32 := by rw [hj]
  simp only [cc0_swa_eq_skeleton]; unfold cc0_swa_skel
  simp only [e]
  rw [dif_pos (by decide)]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, ⟨%d11, %f11, -, H11⟩, ⟨%d12, %f12, -, H12⟩, Hk⟩
  subst hf2 hf3 hf4 hf5 hf6 hf7
  sl_exec
  sl_step
  iapply Hk
  have r9 : View.read (Elt F) arg9.view (arg9.view.writes (Elt F) arg9.view.junk (sound_first.sl.H9_1 c arg4 f4))
      = View.read (Elt F) arg4.view f4 :=
    (View.read_writes_full _ _ _ _ _).trans ((shapeCast_self _ _).trans (View.readAt_full _ _ _))
  have r10 : View.read (Elt F) arg10.view (arg10.view.writes (Elt F) arg10.view.junk (sound_first.sl.H10_1 c arg5 f5))
      = View.read (Elt F) arg5.view f5 :=
    (View.read_writes_full _ _ _ _ _).trans ((shapeCast_self _ _).trans (View.readAt_full _ _ _))
  have hl := loop_holds Variants.none c none i arg2 harg2 arg3 harg3 arg4 harg4 arg5 harg5 arg6 harg6 arg7 harg7 arg8 harg8 arg9 harg9 arg10 harg10 arg11 harg11 arg12 harg12 0#32 f2 f3 f6 f7 _ _ f8 _ _ f11 f12 r9 r10 4 le_rfl
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    funext y
    exact hl.1 y (y 0).isLt
  isplitl [H9]
  · iexists _; isplitr
    swap; · iexact H9
    ipureintro
    rw [View.writes_append]
    exact hl.2.1.trans (cacheK_end _ _)
  isplitl [H10]
  · iexists _; isplitr
    swap; · iexact H10
    ipureintro
    rw [View.writes_append]
    exact hl.2.2.trans (cacheV_end _ _)
  isplitl [H11]
  · iexists _; iexists _; isplitr
    swap; · iexact H11
    ipureintro; rfl
  iexists _; iexists _; isplitr
  swap; · iexact H12
  ipureintro; rfl

set_option maxHeartbeats 1000000 in
/-- The body at a later step: the step starts from what the cache results hold. -/
theorem sound_next (c : Dev nD) (E : Set ℕ) (i : grid0.Coords) (hj : (i 1).val ≠ 0) (arg2 : Memref sig .tc .vmem S256x256 .f32) (harg2 : arg2.IsWhole) (arg3 : Memref sig .tc .vmem S256x256 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S256x192 .f32) (harg6 : arg6.IsWhole) (arg7 : Memref sig .tc .vmem S256x1 .f32) (harg7 : arg7.IsWhole) (arg8 : Memref sig .tc .vmem S256x256 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S192x128 .f32) (harg11 : arg11.IsWhole) (arg12 : Memref sig .tc .vmem S192x128 .f32) (harg12 : arg12.IsWhole)
    (x2 x3 : Vec F S256x256 .f32) (x4 x5 u v : Vec F S1x128x128 .f32) (x6 : Vec F S256x192 .f32) (x7 : Vec F S256x1 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg9 fullShare u ∗ owns (c : Thread nD τ) arg10 fullShare v
        ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (outY (BitVec.ofNat 32 (i 1).val) x2 x3 u v x6 x7) ∗ owns (c : Thread nD τ) arg9 fullShare (endK x3)
            ∗ owns (c : Thread nD τ) arg10 fullShare (endV x3)
            ∗ (∃ d, owns (c : Thread nD τ) arg11 fullShare d) ∗ (∃ d, owns (c : Thread nD τ) arg12 fullShare d)) -∗ K ⟨⟩))
      ⊢ wp frame (wpE (defs₀ (F := F)) Variants.none c none) E (cc0_swa i arg2 harg2 arg3 harg3 arg4 harg4 arg5 harg5 arg6 harg6 arg7 harg7 arg8 harg8 arg9 harg9 arg10 harg10 arg11 harg11 arg12 harg12) K := by
  have e : ¬ Scalar.cmpi .ne (Scalar.extui (Scalar.cmpi .eq (BitVec.ofNat 32 (i 1).val) 0#32) : BitVec 32) 0#32 = 1#1 := by
    have h : (i 1).val < 8 := (i 1).isLt
    have hall : ∀ n : Nat, n < 8 → n ≠ 0 → ¬ Scalar.cmpi .ne (Scalar.extui (Scalar.cmpi .eq (BitVec.ofNat 32 n) 0#32) : BitVec 32) 0#32 = 1#1 := by decide
    exact hall _ h hj
  simp only [cc0_swa_eq_skeleton]; unfold cc0_swa_skel
  dsimp only
  rw [dif_neg e]
  generalize BitVec.ofNat 32 (i 1).val = j
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%f9, %hf9, H9⟩, ⟨%f10, %hf10, H10⟩, ⟨%d11, %f11, -, H11⟩, ⟨%d12, %f12, -, H12⟩, Hk⟩
  subst hf2 hf3 hf4 hf5 hf6 hf7 hf9 hf10
  sl_exec
  sl_step
  iapply Hk
  have hl := loop_holds Variants.none c none i arg2 harg2 arg3 harg3 arg4 harg4 arg5 harg5 arg6 harg6 arg7 harg7 arg8 harg8 arg9 harg9 arg10 harg10 arg11 harg11 arg12 harg12 j f2 f3 f6 f7 _ _ f8 _ _ f11 f12 (rfl : View.read (Elt F) arg9.view f9 = _) (rfl : View.read (Elt F) arg10.view f10 = _) 4 le_rfl
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    funext y
    exact hl.1 y (y 0).isLt
  isplitl [H9]
  · iexists _; isplitr
    swap; · iexact H9
    ipureintro
    exact hl.2.1.trans (cacheK_end _ _)
  isplitl [H10]
  · iexists _; isplitr
    swap; · iexact H10
    ipureintro
    exact hl.2.2.trans (cacheV_end _ _)
  isplitl [H11]
  · iexists _; iexists _; isplitr
    swap; · iexact H11
    ipureintro; rfl
  iexists _; iexists _; isplitr
  swap; · iexact H12
  ipureintro; rfl

variable (m : (ℓ : Loc nD τ sig) → Buf (Elt F) ℓ) (ρ : Dev nD → PrngReg)

/-! ## The pipeline's proof data -/

/-- The position of point `t` within its sequence, as the kernel reads it. -/
abbrev stepAt (t : Fin cfg0.N) : BitVec 32 := BitVec.ofNat 32 (grid0.coords t 1).val

/-- The point before `t`. -/
abbrev prev (t : Fin cfg0.N) : Fin cfg0.N := ⟨t.val - 1, Nat.lt_of_le_of_lt (Nat.sub_le _ _) t.isLt⟩

/-- The key cache point `t` starts from: the one passed in at a sequence's first step, else what the step before left. -/
def startK (c : Dev nD) (t : Fin cfg0.N) : Vec F S1x128x128 .f32 :=
  if t.val % 8 = 0 then iblk m c 2 t else endK (iblk m c 1 (prev t))

/-- The value cache point `t` starts from. -/
def startV (c : Dev nD) (t : Fin cfg0.N) : Vec F S1x128x128 .f32 :=
  if t.val % 8 = 0 then iblk m c 3 t else endV (iblk m c 1 (prev t))

/-- The proof data: the arrays as the region finds them, after each point the inputs' buffers at their blocks and the
    outputs' at the body's functions of them; the scratch is held at anything. Two windows read one array, so
    each input holds its share of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outY (stepAt t) (iblk m c 0 t) (iblk m c 1 t) (startK m c t) (startV m c t) (iblk m c 4 t) (iblk m c 5 t)
    | ⟨7, _⟩ => endK (iblk m c 1 t)
    | ⟨8, _⟩ => endV (iblk m c 1 t)
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outY (stepAt t) (iblk m c 0 t) (iblk m c 1 t) (startK m c t) (startV m c t) (iblk m c 4 t) (iblk m c 5 t) := by dsimp only [dats]
theorem after0_7 (c : Dev nD) (t : Fin cfg0.N) : (dats m 0 c).after 7 t = endK (iblk m c 1 t) := by dsimp only [dats]
theorem after0_8 (c : Dev nD) (t : Fin cfg0.N) : (dats m 0 c).after 8 t = endV (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Within a sequence the key cache's buffer is as the step before left it. -/
theorem before0_7 (c : Dev nD) (t : Fin cfg0.N) (ht : t.val % 8 ≠ 0) (d) : (dats m 0 c).before 7 t d = endK (iblk m c 1 (prev t)) :=
  ((dats m 0 c).before_out_kept 7 rfl t (by omega) (Bool.eq_false_iff.mpr fun h => by
    have := (flush0_7 _).mp h
    dsimp only at this
    omega) (fun _ => rfl) (fun _ _ => rfl) d).trans (after0_7 m c _)

/-- Within a sequence the value cache's buffer is as the step before left it. -/
theorem before0_8 (c : Dev nD) (t : Fin cfg0.N) (ht : t.val % 8 ≠ 0) (d) : (dats m 0 c).before 8 t d = endV (iblk m c 1 (prev t)) :=
  ((dats m 0 c).before_out_kept 8 rfl t (by omega) (Bool.eq_false_iff.mpr fun h => by
    have := (flush0_8 _).mp h
    dsimp only at this
    omega) (fun _ => rfl) (fun _ _ => rfl) d).trans (after0_8 m c _)

/-- The second grid coordinate of point `t` is its place within its sequence. -/
theorem coord_step : ∀ t : Fin cfg0.N, (grid0.coords t 1).val = t.val % 8 :=
  (by decide +kernel : ∀ t : Fin grid0.N, _)

/-- What the body is called with at point `t`: the scratch, the generator register, the nine staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The scratch opened: the two scratch buffers at anything, and the generator register. -/
theorem scratch_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)) ∗ ∃ r, prngReg c r) := by
  unfold Pipeline.ΦA
  rw [scopedRest0_eq]
  simp only [owns_whole]
  try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, scratch_eq]
  by_cases ht : t.val % 8 = 0
  · rw [startK, startV, if_pos ht, if_pos ht]
    iintro ⟨⟨⟨HA, HB⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_first c Set.univ (grid0.coords t) (by rw [coord_step]; exact ht) _ _ _ _ _ _ _ _ _ _ _ _ _ _ _ _ _ _ _ _ _ _ (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HA]; · iexact HA
    isplitl [HB]; · iexact HB
    iintro ⟨H0, H1, H2, H3, H4, H5, H6, H7, H8, HA, HB⟩
    isplitl [HA HB Hr]
    · isplitl [HA HB]
      · isplitl [HA]; · iexact HA
        iexact HB
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [startK, startV, if_neg ht, if_neg ht]
    simp only [before0_7 m c t ht, before0_8 m c t ht]
    iintro ⟨⟨⟨HA, HB⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_next c Set.univ (grid0.coords t) (by rw [coord_step]; exact ht) _ _ _ _ _ _ _ _ _ _ _ _ _ _ _ _ _ _ _ _ _ _ (iblk m c 0 t) (iblk m c 1 t) (iblk m c 2 t) (iblk m c 3 t) _ _ (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HA]; · iexact HA
    isplitl [HB]; · iexact HB
    iintro ⟨H0, H1, H2, H3, H4, H5, H6, H7, H8, HA, HB⟩
    isplitl [HA HB Hr]
    · isplitl [HA HB]
      · isplitl [HA]; · iexact HA
        iexact HB
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the program terminates with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the program terminates, its arguments end unchanged, and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelShiftIdeal.Shift
-- ==== Proof.Shift.lean ====
/-
  The prompt's sliding-window call: the two caches the kernel leaves are the reference's. A cache block leaves the chip
  after the last step of its sequence, when it holds the last 128 positions of that step's rows; the reference takes the
  last 128 positions of the zeros followed by the sequence.
-/
module

public import proofs.«01_k».proof.Proof.ShiftBody
public import proofs.«01_k».proof.Proof.Gen.ReferenceShiftIdeal.Read
public import proofs.«01_k».proof.Proof.Gen.ReferenceShiftIdeal.Run

@[expose] public section

set_option maxRecDepth 16384

noncomputable section

open Idealize.ShloMosaic Idealize.ShloMosaic.TcCoe Idealize.SL.Sem

namespace Cert.Shift
open Cert.KernelShiftIdeal Cert.KernelShiftIdeal.Gen Cert.KernelShiftIdeal.Shift
open Cert.ReferenceShiftIdeal.Read (val_main_v0 val_main_v1 val_main_v2 val_main_v3 val_main_v4 val_main_v5 val_main_v6 val_main_v7
  val_main_v8 val_main_v9 val_main_v10 val_main_v11 val_main_v12)

/-- The key cache of the reference: the last 128 positions of each sequence. -/
theorem ref_keys (x : FVec Ideal S16384x3072 .f32) (n : Fin 8) (s l : Fin 128) :
    val_main_v10 (F := Ideal) x (ix3 n s l) = x (ix2 ⟨n.val * 2048 + (1920 + s.val), by omega⟩ ⟨2560 + l.val, by omega⟩) := by
  pointwise [val_main_v10, val_main_v9, val_main_v6, val_main_v5, val_main_v2, val_main_v1, val_main_v0]
  rw [dif_neg (by omega)]
  exact congrArg x ((ix2_inj ..).2 ⟨Fin.ext (by dsimp only; omega), rfl⟩)

/-- The value cache of the reference. -/
theorem ref_vals (x : FVec Ideal S16384x3072 .f32) (n : Fin 8) (s l : Fin 128) :
    val_main_v12 (F := Ideal) x (ix3 n s l) = x (ix2 ⟨n.val * 2048 + (1920 + s.val), by omega⟩ ⟨2688 + l.val, by omega⟩) := by
  pointwise [val_main_v12, val_main_v11, val_main_v8, val_main_v7, val_main_v4, val_main_v3, val_main_v0]
  rw [dif_neg (by omega)]
  exact congrArg x ((ix2_inj ..).2 ⟨Fin.ext (by dsimp only; omega), rfl⟩)

variable (m : (ℓ : Loc nD τ sig) → Buf (Elt Ideal) ℓ)

/-- The projection, as the program is given it. -/
abbrev X0 (c : Dev nD) : FVec Ideal S16384x3072 .f32 := m ((c : Thread nD τ).loc main_arg0)

/-- Which block of its array each window the caches depend on is at. -/
theorem idx : ∀ t : Fin cfg0.N, win0_1.index t = ![t.val, 10] ∧ win0_7.index t = ![t.val / 8, 0, 0] ∧ win0_8.index t = ![t.val / 8, 0, 0] :=
  (by decide +kernel : ∀ t : Fin grid0.N, _)

/-- The keys and values of point `t` are rows of the projection. -/
theorem kvblk (c : Dev nD) (t : Fin cfg0.N) (r k : Fin 256) (h : t.val * 256 + r.val < 16384) :
    (iblk m c 1 t : FVec Ideal S256x256 .f32) (ix2 r k) = X0 m c (ix2 ⟨t.val * 256 + r.val, h⟩ ⟨2560 + k.val, by omega⟩) := by
  blk_ext [iblk, V, idx t]

theorem pointK (c : Dev nD) (t : Fin cfg0.N) (ht : t.val % 8 = 7) (y : S1x128x128.Idx) :
    endK (F := Ideal) (iblk m c 1 t) y = val_main_v10 (F := Ideal) (X0 m c) (((cfg0.win 7).blk t).view.emb y) := by
  idx_vars y
  have h64 : t.val < 64 := t.isLt
  have he : (((cfg0.win 7).blk t).view.emb (ix3 y0 y1 y2)) = (ix3 (⟨t.val / 8, by omega⟩ : Fin 8) y1 y2) := by
    blk_ext [idx t]
  rw [he, ref_keys]
  refine (kvblk m c t _ _ (by show t.val * 256 + (128 + y1.val) < 16384; omega)).trans ?_
  exact congrArg (X0 m c) ((ix2_inj ..).2 ⟨Fin.ext (by show t.val * 256 + (128 + y1.val) = t.val / 8 * 2048 + (1920 + y1.val); omega), Fin.ext rfl⟩)

theorem pointV (c : Dev nD) (t : Fin cfg0.N) (ht : t.val % 8 = 7) (y : S1x128x128.Idx) :
    endV (F := Ideal) (iblk m c 1 t) y = val_main_v12 (F := Ideal) (X0 m c) (((cfg0.win 8).blk t).view.emb y) := by
  idx_vars y
  have h64 : t.val < 64 := t.isLt
  have he : (((cfg0.win 8).blk t).view.emb (ix3 y0 y1 y2)) = (ix3 (⟨t.val / 8, by omega⟩ : Fin 8) y1 y2) := by
    blk_ext [idx t]
  rw [he, ref_vals]
  refine (kvblk m c t _ _ (by show t.val * 256 + (128 + y1.val) < 16384; omega)).trans ?_
  exact congrArg (X0 m c) ((ix2_inj ..).2 ⟨Fin.ext (by show t.val * 256 + (128 + y1.val) = t.val / 8 * 2048 + (1920 + y1.val); omega),
    Fin.ext (by show 2560 + (128 + y2.val) = 2688 + y2.val; omega)⟩)

/-- The key cache array at the end. -/
theorem finalK (c : Dev nD) : (dats m 0 c).arrAt 7 (cfgs 0).N = val_main_v10 (F := Ideal) (X0 m c) := by
  refine (dats m 0 c).arrAt_eq_of_covers 7 _ (by decide +kernel) fun t hf y => ?_
  blk_simp
  rw [after0_7]
  exact pointK m c t ((flush0_7 t).mp hf) y

/-- The value cache array at the end. -/
theorem finalV (c : Dev nD) : (dats m 0 c).arrAt 8 (cfgs 0).N = val_main_v12 (F := Ideal) (X0 m c) := by
  refine (dats m 0 c).arrAt_eq_of_covers 8 _ (by decide +kernel) fun t hf y => ?_
  blk_simp
  rw [after0_8]
  exact pointV m c t ((flush0_8 t).mp hf) y

end Cert.Shift
end
-- ==== Proof.ShiftClaims.lean ====
/- The claims of the prompt's sliding-window call. -/
module

public import proofs.«01_k».proof.Defs
public import proofs.«01_k».proof.Proof.Shift
public import proofs.«01_k».proof.Proof.ShiftWord
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Shift
open Cert.KernelShiftIdeal.Shift (dats run_main frame_main)

/-- Run on the same projection, the kernel and the reference leave the same two caches. -/
theorem algebraicShift : Cert.algebraic_KernelShiftIdeal_ReferenceShiftIdeal := by
  intro m g m' g' _ hagree
  refine ⟨fun c => (dats m 0 c).arrAt 7 (Cert.KernelShiftIdeal.cfgs 0).N, fun c => (dats m 0 c).arrAt 8 (Cert.KernelShiftIdeal.cfgs 0).N, ?_, ?_⟩
  · exact (θ_run _ _ _).mono (fun r h c => ⟨h.1.out_eq c 7, h.1.out_eq c 8, h.2.1 c⟩) (θ_run_and (run_main m g) (frame_main m g))
  · refine (θ_run _ _ _).mono (fun r h c => ⟨(h c).1.trans ?_, (h c).2.1.trans ?_, (h c).2.2⟩) (Cert.ReferenceShiftIdeal.Value.run m' g')
    · have h0 := (hagree c).1
      exact (Cert.ReferenceShiftIdeal.Read.val_main_v10_eq _).trans
        (Eq.trans (congrArg (Cert.ReferenceShiftIdeal.Read.val_main_v10 (F := Ideal)) h0) (finalK m c).symm)
    · have h0 := (hagree c).1
      exact (Cert.ReferenceShiftIdeal.Read.val_main_v12_eq _).trans
        (Eq.trans (congrArg (Cert.ReferenceShiftIdeal.Read.val_main_v12 (F := Ideal)) h0) (finalV m c).symm)

/-- The reference alone ends with every counter at zero. -/
theorem quiescentShift : Cert.quiescent_ReferenceShiftIdeal := fun m g _ =>
  (θ_run Cert.ReferenceShiftIdeal.defs _ _).mono
    (fun r h => ⟨fun c => (h c).2.2, sem_eq_zero_of_no_sems (by decide) r.2⟩)
    (Cert.ReferenceShiftIdeal.Value.run (F := Ideal) m g)

end Cert.Proof
end
-- ==== Proof.lean ====
module

public import proofs.«01_k».proof.Defs
public import proofs.«01_k».proof.Proof.Claims
public import proofs.«01_k».proof.Proof.SwaClaims
public import proofs.«01_k».proof.Proof.ScanClaims
public import proofs.«01_k».proof.Proof.ShiftClaims
public import proofs.«01_k».proof.Proof.ScanWord

@[expose] public section

noncomputable section

namespace Cert.Proof

open Idealize.ShloMosaic Idealize.SL.Sem

/-- Every claim of the certificate: the three programs of each call run and leave their arguments alone, the idealized
    kernel is the kernel's own text, and its result is the reference's. -/
theorem claim : Cert.Claim := ⟨Cert.Kernel.Gen.facts,
  Cert.KernelIdeal.Gen.facts,
  Cert.ReferenceIdeal.Gen.facts,
  Cert.KernelFfn.Gen.facts,
  Cert.KernelFfnIdeal.Gen.facts,
  Cert.ReferenceFfnIdeal.Gen.facts,
  Cert.KernelIn.Gen.facts,
  Cert.KernelInIdeal.Gen.facts,
  Cert.ReferenceInIdeal.Gen.facts,
  Cert.KernelOut.Gen.facts,
  Cert.KernelOutIdeal.Gen.facts,
  Cert.ReferenceOutIdeal.Gen.facts,
  Cert.KernelScan.Gen.facts,
  Cert.KernelScanIdeal.Gen.facts,
  Cert.ReferenceScanIdeal.Gen.facts,
  Cert.KernelShift.Gen.facts,
  Cert.KernelShiftIdeal.Gen.facts,
  Cert.ReferenceShiftIdeal.Gen.facts,
  Cert.Swa.factsPre,
  Cert.Scan.factsPre,
  fun m g _ => Cert.Kernel.Swa.frame_main m g,
  fun m g _ => Cert.KernelIdeal.Swa.frame_main m g,
  fun m g _ => Cert.KernelIdeal.Swa.frame_main m g,
  quiescentSwa,
  fun m g _ => quiescentSwa m g trivial,
  fun m g _ => Cert.KernelFfn.Gen.frame m g,
  fun m g _ => Cert.KernelFfnIdeal.Gen.frame m g,
  quiescentFfn,
  fun m g _ => Cert.KernelIn.Gen.frame m g,
  fun m g _ => Cert.KernelInIdeal.Gen.frame m g,
  quiescentIn,
  fun m g _ => Cert.KernelOut.Gen.frame m g,
  fun m g _ => Cert.KernelOutIdeal.Gen.frame m g,
  quiescentOut,
  fun m g _ => Cert.KernelScan.Scan.frame_main m g,
  fun m g _ => Cert.KernelScanIdeal.Scan.frame_main m g,
  fun m g _ => Cert.KernelScanIdeal.Scan.frame_main m g,
  quiescentScan,
  fun m g _ => quiescentScan m g trivial,
  fun m g _ => Cert.KernelShift.Shift.frame_main m g,
  fun m g _ => Cert.KernelShiftIdeal.Shift.frame_main m g,
  quiescentShift,
  trivial,
  algebraicSwa,
  trivial,
  algebraicFfn,
  trivial,
  algebraicIn,
  trivial,
  algebraicOut,
  trivial,
  algebraicScan,
  trivial,
  algebraicShift⟩

end Cert.Proof

end
